-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sample [hPre_finite_sample : Cert.Pre_finite_sample.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sample [hPre_finite_sample : Cert.Pre_finite_sample.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Kernel5Ideal_pre_finite_sample [hKernel5Ideal : Cert.Kernel5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sample m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Reference5Ideal_pre_finite_sample [hReference5Ideal : Cert.Reference5Ideal.Facts] [hPre_finite_sample : Cert.Pre_finite_sample.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sample m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)) (v5 : (c : Dev Cert.Kernel2Ideal.nD) → Buf (Elt Ideal) ((c.tc : Thread Cert.Kernel2Ideal.nD Cert.Kernel2Ideal.τ).loc Cert.Kernel2Ideal.main_v16_5)) (v6 : (c : Dev Cert.Kernel2Ideal.nD) → Buf (Elt Ideal) ((c.tc : Thread Cert.Kernel2Ideal.nD Cert.Kernel2Ideal.τ).loc Cert.Kernel2Ideal.main_v16_6)) (v7 : (c : Dev Cert.Kernel2Ideal.nD) → Buf (Elt Ideal) ((c.tc : Thread Cert.Kernel2Ideal.nD Cert.Kernel2Ideal.τ).loc Cert.Kernel2Ideal.main_v16_7)) (v8 : (c : Dev Cert.Kernel2Ideal.nD) → Buf (Elt Ideal) ((c.tc : Thread Cert.Kernel2Ideal.nD Cert.Kernel2Ideal.τ).loc Cert.Kernel2Ideal.main_v16_8)) (v9 : (c : Dev Cert.Kernel2Ideal.nD) → Buf (Elt Ideal) ((c.tc : Thread Cert.Kernel2Ideal.nD Cert.Kernel2Ideal.τ).loc Cert.Kernel2Ideal.main_v16_9)) (v10 : (c : Dev Cert.Kernel2Ideal.nD) → Buf (Elt Ideal) ((c.tc : Thread Cert.Kernel2Ideal.nD Cert.Kernel2Ideal.τ).loc Cert.Kernel2Ideal.main_v16_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_v16_5) = v5 c
          ∧ r.2.mem ((c.tc : Thread Cert.Kernel2Ideal.nD Cert.Kernel2Ideal.τ).loc Cert.Kernel2Ideal.main_v16_6) = v6 c
          ∧ r.2.mem ((c.tc : Thread Cert.Kernel2Ideal.nD Cert.Kernel2Ideal.τ).loc Cert.Kernel2Ideal.main_v16_7) = v7 c
          ∧ r.2.mem ((c.tc : Thread Cert.Kernel2Ideal.nD Cert.Kernel2Ideal.τ).loc Cert.Kernel2Ideal.main_v16_8) = v8 c
          ∧ r.2.mem ((c.tc : Thread Cert.Kernel2Ideal.nD Cert.Kernel2Ideal.τ).loc Cert.Kernel2Ideal.main_v16_9) = v9 c
          ∧ r.2.mem ((c.tc : Thread Cert.Kernel2Ideal.nD Cert.Kernel2Ideal.τ).loc Cert.Kernel2Ideal.main_v16_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_v31) = v5 c
          ∧ r.2.mem ((c.tc : Thread Cert.Reference2Ideal.nD Cert.Reference2Ideal.τ).loc Cert.Reference2Ideal.main_v32) = v6 c
          ∧ r.2.mem ((c.tc : Thread Cert.Reference2Ideal.nD Cert.Reference2Ideal.τ).loc Cert.Reference2Ideal.main_v33) = v7 c
          ∧ r.2.mem ((c.tc : Thread Cert.Reference2Ideal.nD Cert.Reference2Ideal.τ).loc Cert.Reference2Ideal.main_v34) = v8 c
          ∧ r.2.mem ((c.tc : Thread Cert.Reference2Ideal.nD Cert.Reference2Ideal.τ).loc Cert.Reference2Ideal.main_v35) = v9 c
          ∧ r.2.mem ((c.tc : Thread Cert.Reference2Ideal.nD Cert.Reference2Ideal.τ).loc Cert.Reference2Ideal.main_v36) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_v115) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)) (v5 : (c : Dev Cert.Kernel4Ideal.nD) → Buf (Elt Ideal) ((c.tc : Thread Cert.Kernel4Ideal.nD Cert.Kernel4Ideal.τ).loc Cert.Kernel4Ideal.main_v16_5)) (v6 : (c : Dev Cert.Kernel4Ideal.nD) → Buf (Elt Ideal) ((c.tc : Thread Cert.Kernel4Ideal.nD Cert.Kernel4Ideal.τ).loc Cert.Kernel4Ideal.main_v16_6)) (v7 : (c : Dev Cert.Kernel4Ideal.nD) → Buf (Elt Ideal) ((c.tc : Thread Cert.Kernel4Ideal.nD Cert.Kernel4Ideal.τ).loc Cert.Kernel4Ideal.main_v16_7)) (v8 : (c : Dev Cert.Kernel4Ideal.nD) → Buf (Elt Ideal) ((c.tc : Thread Cert.Kernel4Ideal.nD Cert.Kernel4Ideal.τ).loc Cert.Kernel4Ideal.main_v16_8)) (v9 : (c : Dev Cert.Kernel4Ideal.nD) → Buf (Elt Ideal) ((c.tc : Thread Cert.Kernel4Ideal.nD Cert.Kernel4Ideal.τ).loc Cert.Kernel4Ideal.main_v16_9)) (v10 : (c : Dev Cert.Kernel4Ideal.nD) → Buf (Elt Ideal) ((c.tc : Thread Cert.Kernel4Ideal.nD Cert.Kernel4Ideal.τ).loc Cert.Kernel4Ideal.main_v16_10)) (v11 : (c : Dev Cert.Kernel4Ideal.nD) → Buf (Elt Ideal) ((c.tc : Thread Cert.Kernel4Ideal.nD Cert.Kernel4Ideal.τ).loc Cert.Kernel4Ideal.main_v16_11)) (v12 : (c : Dev Cert.Kernel4Ideal.nD) → Buf (Elt Ideal) ((c.tc : Thread Cert.Kernel4Ideal.nD Cert.Kernel4Ideal.τ).loc Cert.Kernel4Ideal.main_v16_12)) (v13 : (c : Dev Cert.Kernel4Ideal.nD) → Buf (Elt Ideal) ((c.tc : Thread Cert.Kernel4Ideal.nD Cert.Kernel4Ideal.τ).loc Cert.Kernel4Ideal.main_v16_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_v16_5) = v5 c
          ∧ r.2.mem ((c.tc : Thread Cert.Kernel4Ideal.nD Cert.Kernel4Ideal.τ).loc Cert.Kernel4Ideal.main_v16_6) = v6 c
          ∧ r.2.mem ((c.tc : Thread Cert.Kernel4Ideal.nD Cert.Kernel4Ideal.τ).loc Cert.Kernel4Ideal.main_v16_7) = v7 c
          ∧ r.2.mem ((c.tc : Thread Cert.Kernel4Ideal.nD Cert.Kernel4Ideal.τ).loc Cert.Kernel4Ideal.main_v16_8) = v8 c
          ∧ r.2.mem ((c.tc : Thread Cert.Kernel4Ideal.nD Cert.Kernel4Ideal.τ).loc Cert.Kernel4Ideal.main_v16_9) = v9 c
          ∧ r.2.mem ((c.tc : Thread Cert.Kernel4Ideal.nD Cert.Kernel4Ideal.τ).loc Cert.Kernel4Ideal.main_v16_10) = v10 c
          ∧ r.2.mem ((c.tc : Thread Cert.Kernel4Ideal.nD Cert.Kernel4Ideal.τ).loc Cert.Kernel4Ideal.main_v16_11) = v11 c
          ∧ r.2.mem ((c.tc : Thread Cert.Kernel4Ideal.nD Cert.Kernel4Ideal.τ).loc Cert.Kernel4Ideal.main_v16_12) = v12 c
          ∧ r.2.mem ((c.tc : Thread Cert.Kernel4Ideal.nD Cert.Kernel4Ideal.τ).loc Cert.Kernel4Ideal.main_v16_13) = v13 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_v30) = v4 c
          ∧ r.2.mem ((c.tc : Thread Cert.Reference4Ideal.nD Cert.Reference4Ideal.τ).loc Cert.Reference4Ideal.main_v31) = v5 c
          ∧ r.2.mem ((c.tc : Thread Cert.Reference4Ideal.nD Cert.Reference4Ideal.τ).loc Cert.Reference4Ideal.main_v32) = v6 c
          ∧ r.2.mem ((c.tc : Thread Cert.Reference4Ideal.nD Cert.Reference4Ideal.τ).loc Cert.Reference4Ideal.main_v33) = v7 c
          ∧ r.2.mem ((c.tc : Thread Cert.Reference4Ideal.nD Cert.Reference4Ideal.τ).loc Cert.Reference4Ideal.main_v34) = v8 c
          ∧ r.2.mem ((c.tc : Thread Cert.Reference4Ideal.nD Cert.Reference4Ideal.τ).loc Cert.Reference4Ideal.main_v35) = v9 c
          ∧ r.2.mem ((c.tc : Thread Cert.Reference4Ideal.nD Cert.Reference4Ideal.τ).loc Cert.Reference4Ideal.main_v36) = v10 c
          ∧ r.2.mem ((c.tc : Thread Cert.Reference4Ideal.nD Cert.Reference4Ideal.τ).loc Cert.Reference4Ideal.main_v37) = v11 c
          ∧ r.2.mem ((c.tc : Thread Cert.Reference4Ideal.nD Cert.Reference4Ideal.τ).loc Cert.Reference4Ideal.main_v38) = v12 c
          ∧ r.2.mem ((c.tc : Thread Cert.Reference4Ideal.nD Cert.Reference4Ideal.τ).loc Cert.Reference4Ideal.main_v39) = v13 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_sample [hKernel5Ideal : Cert.Kernel5Ideal.Facts] [hReference5Ideal : Cert.Reference5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sample m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v49_0)) (v1 : (c : Dev Cert.Kernel5Ideal.nD) → Buf (Elt Ideal) ((c.tc : Thread Cert.Kernel5Ideal.nD Cert.Kernel5Ideal.τ).loc Cert.Kernel5Ideal.main_v49_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v49_0) = v0 c
          ∧ r.2.mem ((c.tc : Thread Cert.Kernel5Ideal.nD Cert.Kernel5Ideal.τ).loc Cert.Kernel5Ideal.main_v49_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v115) = v0 c
          ∧ r.2.mem ((c.tc : Thread Cert.Reference5Ideal.nD Cert.Reference5Ideal.τ).loc Cert.Reference5Ideal.main_v116) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v46)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v46) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_sample (hKernel5Ideal := hKernel5Ideal) (hPre_finite_sample := hPre_finite_sample)
    ∧ quiescent_Reference5Ideal (hReference5Ideal := hReference5Ideal)
    ∧ quiescent_Reference5Ideal_pre_finite_sample (hReference5Ideal := hReference5Ideal) (hPre_finite_sample := hPre_finite_sample)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_sample (hKernel5Ideal := hKernel5Ideal) (hReference5Ideal := hReference5Ideal) (hPre_finite_sample := hPre_finite_sample)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel

variable [Facts]

def fn {F : FTy → Type} [FloatOps F] (main_arg0 : FVec F S4x4096x1024 .f32) (main_arg1 : FVec F S4x4096x512 .f32) (main_arg2 : FVec F S4x4096x512 .f32) (main_arg3 : FVec F S4x4096x256 .f32) (main_arg4 : FVec F S4x4096x256 .f32) (main_arg5 : FVec F S4x4096x256 .f32) (main_arg6 : FVec F S4x4096x256 .f32) (main_arg7 : FVec F S4x4096x256 .f32) (main_arg8 : FVec F S4x64x64 .f32) (main_arg9 : FVec F S256 .f32) (main_arg10 : FVec F S256 .f32) (main_arg11 : FVec F S4x128x128 .f32) (main_arg12 : FVec F S4x128 .f32) (main_arg13 : FVec F S1024x1024 .f32) (main_arg14 : FVec F S1024 .f32) : IVec S_ 1 :=
  let main_v0 : FVec F S4x4096x256 .f32 := Host.absf main_arg3
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg6
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  main_v8
-- ==== Pre_finite_sample.lean ====
abbrev S128x1x1024 : Shape := ⟨3, ![128, 1, 1024]⟩
abbrev S128x1x512 : Shape := ⟨3, ![128, 1, 512]⟩
abbrev S128x1x256 : Shape := ⟨3, ![128, 1, 256]⟩
abbrev S128x15x256 : Shape := ⟨3, ![128, 15, 256]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S_ : Shape := ⟨0, ![]⟩

class Facts : Prop where
  bcast_S_S128x1x256 : S_.BroadcastsInDim S128x1x256 (![] : Fin 0 → Fin S128x1x256.rank)
  reducesTo_S128x1x256_S_d0_1_2 : S128x1x256.ReducesTo [0, 1, 2] S_
  h_S_ : 0 < S_.numel
  bcast_S_S128x15x256 : S_.BroadcastsInDim S128x15x256 (![] : Fin 0 → Fin S128x15x256.rank)
  reducesTo_S128x15x256_S_d0_1_2 : S128x15x256.ReducesTo [0, 1, 2] S_

variable [Facts]

def fn {F : FTy → Type} [FloatOps F] (main_arg0 : FVec F S128x1x1024 .f32) (main_arg1 : FVec F S128x1x512 .f32) (main_arg2 : FVec F S128x1x512 .f32) (main_arg3 : FVec F S128x1x256 .f32) (main_arg4 : FVec F S128x15x256 .f32) (main_arg5 : FVec F S128x1x256 .f32) (main_arg6 : FVec F S128x1x256 .f32) (main_arg7 : FVec F S128x1x256 .f32) (main_arg8 : FVec F S128x1x256 .f32) (main_arg9 : FVec F S4x64x64 .f32) (main_arg10 : FVec F S256 .f32) (main_arg11 : FVec F S256 .f32) (main_arg12 : FVec F S4x128x128 .f32) (main_arg13 : FVec F S4x128 .f32) (main_arg14 : FVec F S1024x1024 .f32) (main_arg15 : FVec F S1024 .f32) : IVec S_ 1 :=
  let main_v0 : FVec F S128x1x256 .f32 := Host.absf main_arg3
  let main_cst : FVec F S_ .f32 := constant S_ .f32 0x7F800000#32
  let main_v1 : FVec F S128x1x256 .f32 := broadcastInDim S128x1x256 ![] bcast_S_S128x1x256 main_cst
  let main_v2 : IVec S128x1x256 1 := cmpf .olt main_v0 main_v1
  let main_c : IVec S_ 1 := constantI S_ 1 1#1
  let main_v3 : IVec S_ 1 := (fun x v => Host.reduce IntOp.andi x v reducesTo_S128x1x256_S_d0_1_2 h_S_) main_v2 main_c
  let main_v4 : FVec F S128x15x256 .f32 := Host.absf main_arg4
  let main_cst_0 : FVec F S_ .f32 := constant S_ .f32 0x7F800000#32
  let main_v5 : FVec F S128x15x256 .f32 := broadcastInDim S128x15x256 ![] bcast_S_S128x15x256 main_cst_0
  let main_v6 : IVec S128x15x256 1 := cmpf .olt main_v4 main_v5
  let main_c_1 : IVec S_ 1 := constantI S_ 1 1#1
  let main_v7 : IVec S_ 1 := (fun x v => Host.reduce IntOp.andi x v reducesTo_S128x15x256_S_d0_1_2 h_S_) main_v6 main_c_1
  let main_v8 : IVec S_ 1 := andi main_v3 main_v7
  let main_v9 : FVec F S128x1x256 .f32 := Host.absf main_arg7
  let main_cst_2 : FVec F S_ .f32 := constant S_ .f32 0x7F800000#32
  let main_v10 : FVec F S128x1x256 .f32 := broadcastInDim S128x1x256 ![] bcast_S_S128x1x256 main_cst_2
  let main_v11 : IVec S128x1x256 1 := cmpf .olt main_v9 main_v10
  let main_c_3 : IVec S_ 1 := constantI S_ 1 1#1
  let main_v12 : IVec S_ 1 := (fun x v => Host.reduce IntOp.andi x v reducesTo_S128x1x256_S_d0_1_2 h_S_) main_v11 main_c_3
  let main_v13 : IVec S_ 1 := andi main_v8 main_v12
  main_v13
-- ==== Kernel.lean ====
abbrev S16384x512 : Shape := ⟨2, ![16384, 512]⟩
abbrev S16384x24 : Shape := ⟨2, ![16384, 24]⟩
abbrev S256x256 : Shape := ⟨2, ![256, 256]⟩
abbrev S4x4096x256 : Shape := ⟨3, ![4, 4096, 256]⟩
abbrev S4x256x4096 : Shape := ⟨3, ![4, 256, 4096]⟩
abbrev S_ : Shape := ⟨0, ![]⟩
abbrev S16384x128 : Shape := ⟨2, ![16384, 128]⟩
abbrev S4096 : Shape := ⟨1, ![4096]⟩
abbrev S128 : Shape := ⟨1, ![128]⟩
abbrev S1x128 : Shape := ⟨2, ![1, 128]⟩
abbrev S4096x1 : Shape := ⟨2, ![4096, 1]⟩
abbrev S4096x128 : Shape := ⟨2, ![4096, 128]⟩
abbrev S128x512 : Shape := ⟨2, ![128, 512]⟩
abbrev S128x128 : Shape := ⟨2, ![128, 128]⟩
abbrev S64x256 : Shape := ⟨2, ![64, 256]⟩
abbrev S1x128x4096 : Shape := ⟨3, ![1, 128, 4096]⟩
abbrev S8x512x256 : Shape := ⟨3, ![8, 512, 256]⟩
abbrev S32x128x256 : Shape := ⟨3, ![32, 128, 256]⟩
abbrev S8x2x80x512 : Shape := ⟨4, ![8, 2, 80, 512]⟩
abbrev S32x2x80x128 : Shape := ⟨4, ![32, 2, 80, 128]⟩
abbrev S2x4x256x512 : Shape := ⟨4, ![2, 4, 256, 512]⟩
abbrev S1x128x512 : Shape := ⟨3, ![1, 128, 512]⟩
abbrev S512x128 : Shape := ⟨2, ![512, 128]⟩
abbrev S512x256 : Shape := ⟨2, ![512, 256]⟩
abbrev S1x512x256 : Shape := ⟨3, ![1, 512, 256]⟩
abbrev S1x64x512 : Shape := ⟨3, ![1, 64, 512]⟩
abbrev S64x512 : Shape := ⟨2, ![64, 512]⟩
abbrev S16x512 : Shape := ⟨2, ![16, 512]⟩
abbrev S80x512 : Shape := ⟨2, ![80, 512]⟩
abbrev S1x1x80x512 : Shape := ⟨4, ![1, 1, 80, 512]⟩
abbrev S1x128x128 : Shape := ⟨3, ![1, 128, 128]⟩
abbrev S128x256 : Shape := ⟨2, ![128, 256]⟩
abbrev S1x128x256 : Shape := ⟨3, ![1, 128, 256]⟩
abbrev S1x64x128 : Shape := ⟨3, ![1, 64, 128]⟩
abbrev S64x128 : Shape := ⟨2, ![64, 128]⟩
abbrev S16x128 : Shape := ⟨2, ![16, 128]⟩
abbrev S80x128 : Shape := ⟨2, ![80, 128]⟩
abbrev S1x1x80x128 : Shape := ⟨4, ![1, 1, 80, 128]⟩
abbrev S1x512 : Shape := ⟨2, ![1, 512]⟩
abbrev S512x1 : Shape := ⟨2, ![512, 1]⟩
abbrev S256x512 : Shape := ⟨2, ![256, 512]⟩
abbrev S640x256 : Shape := ⟨2, ![640, 256]⟩
abbrev S80x640 : Shape := ⟨2, ![80, 640]⟩
abbrev S512 : Shape := ⟨1, ![512]⟩
abbrev S8x128 : Shape := ⟨2, ![8, 128]⟩
abbrev S1x1x256x512 : Shape := ⟨4, ![1, 1, 256, 512]⟩
abbrev S640x1 : Shape := ⟨2, ![640, 1]⟩
abbrev S80x256 : Shape := ⟨2, ![80, 256]⟩
abbrev S256x1 : Shape := ⟨2, ![256, 1]⟩
abbrev S128x1 : Shape := ⟨2, ![128, 1]⟩
abbrev S1x1x80x256 : Shape := ⟨4, ![1, 1, 80, 256]⟩

abbrev nBuf : Space → Nat
  | .hbm => 127
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x24, .f32⟩
  | .hbm, ⟨2, _⟩ => ⟨S256x256, .f32⟩
  | .hbm, ⟨3, _⟩ => ⟨S4x4096x256, .f32⟩
  | .hbm, ⟨4, _⟩ => ⟨S4x4096x256, .f32⟩
  | .hbm, ⟨5, _⟩ => ⟨S4x256x4096, .f32⟩
  | .hbm, ⟨6, _⟩ => ⟨S4x256x4096, .f32⟩
  | .hbm, ⟨7, _⟩ => ⟨S_, .i32⟩
  | .hbm, ⟨8, _⟩ => ⟨S_, .f32⟩
  | .hbm, ⟨9, _⟩ => ⟨S16384x128, .f32⟩
  | .hbm, ⟨10, _⟩ => ⟨S4096, .i32⟩
  | .hbm, ⟨11, _⟩ => ⟨S128, .i32⟩
  | .hbm, ⟨12, _⟩ => ⟨S1x128, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .f32⟩
  | .hbm, ⟨35, _⟩ => ⟨S4096x1, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S_, .i1⟩
  | .hbm, ⟨52, _⟩ => ⟨S4096, .i1⟩
  | .hbm, ⟨53, _⟩ => ⟨S4096, .i1⟩
  | .hbm, ⟨54, _⟩ => ⟨S4096, .i1⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096, .f32⟩
  | .hbm, ⟨59, _⟩ => ⟨S4096x1, .f32⟩
  | .hbm, ⟨60, _⟩ => ⟨S_, .i32⟩
  | .hbm, ⟨61, _⟩ => ⟨S1x128, .i32⟩
  | .hbm, ⟨62, _⟩ => ⟨S1x128, .i1⟩
  | .hbm, ⟨63, _⟩ => ⟨S_, .i32⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S4096, .i32⟩
  | .hbm, ⟨72, _⟩ => ⟨S4096, .i32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x128, .i32⟩
  | .hbm, ⟨83, _⟩ => ⟨S4096x128, .i32⟩
  | .hbm, ⟨84, _⟩ => ⟨S4096x128, .i1⟩
  | .hbm, ⟨85, _⟩ => ⟨S4096x128, .i1⟩
  | .hbm, ⟨86, _⟩ => ⟨S4096x128, .i1⟩
  | .hbm, ⟨87, _⟩ => ⟨S_, .f32⟩
  | .hbm, ⟨88, _⟩ => ⟨S_, .f32⟩
  | .hbm, ⟨89, _⟩ => ⟨S4096x128, .f32⟩
  | .hbm, ⟨90, _⟩ => ⟨S4096x128, .f32⟩
  | .hbm, ⟨91, _⟩ => ⟨S4096x128, .f32⟩
  | .hbm, ⟨92, _⟩ => ⟨S_, .i32⟩
  | .hbm, ⟨93, _⟩ => ⟨S1x128, .i32⟩
  | .hbm, ⟨94, _⟩ => ⟨S1x128, .i1⟩
  | .hbm, ⟨95, _⟩ => ⟨S_, .i32⟩
  | .hbm, ⟨96, _⟩ => ⟨S1x128, .i32⟩
  | .hbm, ⟨97, _⟩ => ⟨S1x128, .i1⟩
  | .hbm, ⟨98, _⟩ => ⟨S1x128, .i1⟩
  | .hbm, ⟨99, _⟩ => ⟨S4096x128, .f32⟩
  | .hbm, ⟨100, _⟩ => ⟨S4096x128, .i1⟩
  | .hbm, ⟨101, _⟩ => ⟨S4096x128, .f32⟩
  | .hbm, ⟨102, _⟩ => ⟨S4096x128, .f32⟩
  | .hbm, ⟨103, _⟩ => ⟨S_, .i32⟩
  | .hbm, ⟨104, _⟩ => ⟨S1x128, .i32⟩
  | .hbm, ⟨105, _⟩ => ⟨S1x128, .i1⟩
  | .hbm, ⟨106, _⟩ => ⟨S_, .i32⟩
  | .hbm, ⟨107, _⟩ => ⟨S1x128, .i32⟩
  | .hbm, ⟨108, _⟩ => ⟨S1x128, .i1⟩
  | .hbm, ⟨109, _⟩ => ⟨S1x128, .i1⟩
  | .hbm, ⟨110, _⟩ => ⟨S4096x128, .i1⟩
  | .hbm, ⟨111, _⟩ => ⟨S4096x128, .f32⟩
  | .hbm, ⟨112, _⟩ => ⟨S4096x128, .f32⟩
  | .hbm, ⟨113, _⟩ => ⟨S_, .i32⟩
  | .hbm, ⟨114, _⟩ => ⟨S1x128, .i32⟩
  | .hbm, ⟨115, _⟩ => ⟨S1x128, .i1⟩
  | .hbm, ⟨116, _⟩ => ⟨S_, .i32⟩
  | .hbm, ⟨117, _⟩ => ⟨S1x128, .i32⟩
  | .hbm, ⟨118, _⟩ => ⟨S1x128, .i1⟩
  | .hbm, ⟨119, _⟩ => ⟨S1x128, .i1⟩
  | .hbm, ⟨120, _⟩ => ⟨S_, .f32⟩
  | .hbm, ⟨121, _⟩ => ⟨S_, .f32⟩
  | .hbm, ⟨122, _⟩ => ⟨S4096x128, .i1⟩
  | .hbm, ⟨123, _⟩ => ⟨S4096x128, .f32⟩
  | .hbm, ⟨124, _⟩ => ⟨S4096x128, .f32⟩
  | .hbm, ⟨125, _⟩ => ⟨S4096x128, .bf16⟩
  | .hbm, ⟨126, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S64x256, .f32⟩
  | .local _ .vmem, ⟨5, _⟩ => ⟨S64x256, .f32⟩
  | .local _ .vmem, ⟨6, _⟩ => ⟨S1x128x4096, .f32⟩
  | .local _ .vmem, ⟨7, _⟩ => ⟨S1x128x4096, .f32⟩
  | .local _ .vmem, ⟨8, _⟩ => ⟨S1x128x4096, .f32⟩
  | .local _ .vmem, ⟨9, _⟩ => ⟨S1x128x4096, .f32⟩
  | .local _ .vmem, ⟨10, _⟩ => ⟨S1x128x4096, .f32⟩
  | .local _ .vmem, ⟨11, _⟩ => ⟨S1x128x4096, .f32⟩
  | .local _ .vmem, ⟨12, _⟩ => ⟨S1x128x4096, .f32⟩
  | .local _ .vmem, ⟨13, _⟩ => ⟨S1x128x4096, .f32⟩
  | .local _ .vmem, ⟨14, _⟩ => ⟨S4096x128, .bf16⟩
  | .local _ .vmem, ⟨15, _⟩ => ⟨S128x512, .f32⟩
  | .local _ .vmem, ⟨16, _⟩ => ⟨S128x512, .f32⟩
  | .local _ .vmem, ⟨17, _⟩ => ⟨S8x512x256, .bf16⟩
  | .local _ .vmem, ⟨18, _⟩ => ⟨S32x128x256, .bf16⟩
  | .local _ .vmem, ⟨19, _⟩ => ⟨S8x2x80x512, .bf16⟩
  | .local _ .vmem, ⟨20, _⟩ => ⟨S32x2x80x128, .bf16⟩
  | .local _ .vmem, ⟨21, _⟩ => ⟨S2x4x256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_call2_v0 : Ref sig .tc := ⟨.hbm, 37, rfl⟩
abbrev main_call2_c : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_c_1 : Ref sig .tc := ⟨.hbm, 44, rfl⟩
abbrev main_call2_v5 : Ref sig .tc := ⟨.hbm, 45, rfl⟩
abbrev main_call2_v6 : Ref sig .tc := ⟨.hbm, 46, rfl⟩
abbrev main_call2_c_2 : Ref sig .tc := ⟨.hbm, 47, rfl⟩
abbrev main_call2_v7 : Ref sig .tc := ⟨.hbm, 48, rfl⟩
abbrev main_call2_v8 : Ref sig .tc := ⟨.hbm, 49, rfl⟩
abbrev main_call2_c_3 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_c_3 : Ref sig .tc := ⟨.hbm, 60, rfl⟩
abbrev main_v14 : Ref sig .tc := ⟨.hbm, 61, rfl⟩
abbrev main_v15 : Ref sig .tc := ⟨.hbm, 62, rfl⟩
abbrev main_c_4 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_cst : Ref sig .tc := ⟨.hbm, 87, rfl⟩
abbrev main_cst_5 : Ref sig .tc := ⟨.hbm, 88, rfl⟩
abbrev main_call4_v0 : Ref sig .tc := ⟨.hbm, 89, rfl⟩
abbrev main_call4_v1 : Ref sig .tc := ⟨.hbm, 90, rfl⟩
abbrev main_v23 : Ref sig .tc := ⟨.hbm, 91, rfl⟩
abbrev main_c_6 : Ref sig .tc := ⟨.hbm, 92, rfl⟩
abbrev main_v24 : Ref sig .tc := ⟨.hbm, 93, rfl⟩
abbrev main_v25 : Ref sig .tc := ⟨.hbm, 94, rfl⟩
abbrev main_c_7 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_v29 : Ref sig .tc := ⟨.hbm, 102, rfl⟩
abbrev main_c_8 : Ref sig .tc := ⟨.hbm, 103, rfl⟩
abbrev main_v30 : Ref sig .tc := ⟨.hbm, 104, rfl⟩
abbrev main_v31 : Ref sig .tc := ⟨.hbm, 105, rfl⟩
abbrev main_c_9 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_call6_v0 : Ref sig .tc := ⟨.hbm, 110, rfl⟩
abbrev main_call6_v1 : Ref sig .tc := ⟨.hbm, 111, rfl⟩
abbrev main_v35 : Ref sig .tc := ⟨.hbm, 112, rfl⟩
abbrev main_c_10 : Ref sig .tc := ⟨.hbm, 113, rfl⟩
abbrev main_v36 : Ref sig .tc := ⟨.hbm, 114, rfl⟩
abbrev main_v37 : Ref sig .tc := ⟨.hbm, 115, rfl⟩
abbrev main_c_11 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_cst_12 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 32], ![false, false]⟩

def k0_off1 (i : grid0.Coords) (c0_i32_76 : BitVec 32) : Fin 3 → Nat :=
  let arg1 : BitVec 32 := BitVec.ofNat 32 (i 1).val
  let c128_i32 : BitVec 32 := 128#32
  let v3 : BitVec 32 := Scalar.muli arg1 c128_i32
  let c0_i32_69 : BitVec 32 := 0#32
  let v267 : BitVec 1 := Scalar.cmpi .sgt v3 c0_i32_69
  let v268 : BitVec 32 := Scalar.extui v267
  let c0_i32_70 : BitVec 32 := 0#32
  let v269 : BitVec 1 := Scalar.cmpi .slt v3 c0_i32_70
  let v270 : BitVec 32 := Scalar.extui v269
  let v271 : BitVec 32 := Scalar.subi v268 v270
  let c128_i32_68 : BitVec 32 := 128#32
  let c0_i32_71 : BitVec 32 := 0#32
  let v272 : BitVec 1 := Scalar.cmpi .sgt c128_i32_68 c0_i32_71
  let v273 : BitVec 32 := Scalar.extui v272
  let c0_i32_72 : BitVec 32 := 0#32
  let v274 : BitVec 1 := Scalar.cmpi .slt c128_i32_68 c0_i32_72
  let v275 : BitVec 32 := Scalar.extui v274
  let v276 : BitVec 32 := Scalar.subi v273 v275
  let v277 : BitVec 1 := Scalar.cmpi .ne v271 v276
  let v278 : BitVec 32 := Scalar.remsi v3 c128_i32_68
  let c0_i32_73 : BitVec 32 := 0#32
  let v279 : BitVec 1 := Scalar.cmpi .ne v278 c0_i32_73
  let v280 : BitVec 1 := Scalar.andi v277 v279
  let v266 : BitVec 32 := Scalar.divsi v3 c128_i32_68
  let c1_i32_74 : BitVec 32 := 1#32
  let v281 : BitVec 32 := Scalar.subi v266 c1_i32_74
  let v282 : BitVec 32 := Scalar.select v280 v281 v266
  let c4_i32 : BitVec 32 := 4#32
  let v283 : BitVec 32 := Scalar.subi v282 c4_i32
  let c0_i32_75 : BitVec 32 := 0#32
  let v284 : BitVec 32 := Scalar.maxsi v283 c0_i32_75
  let v285 : BitVec 32 := Scalar.addi v284 c0_i32_76
  let v286 : Index := Scalar.indexCast v285
  let c0_77 : Index := 0#32
  let c0_78 : Index := 0#32
  ![v286.toNat, 0, 0]
def k0_off2 (i : grid0.Coords) (c0_i32_89 : BitVec 32) : Fin 4 → Nat :=
  let arg1 : BitVec 32 := BitVec.ofNat 32 (i 1).val
  let c128_i32 : BitVec 32 := 128#32
  let v3 : BitVec 32 := Scalar.muli arg1 c128_i32
  let c0_i32_69 : BitVec 32 := 0#32
  let v267 : BitVec 1 := Scalar.cmpi .sgt v3 c0_i32_69
  let v268 : BitVec 32 := Scalar.extui v267
  let c0_i32_70 : BitVec 32 := 0#32
  let v269 : BitVec 1 := Scalar.cmpi .slt v3 c0_i32_70
  let v270 : BitVec 32 := Scalar.extui v269
  let v271 : BitVec 32 := Scalar.subi v268 v270
  let c128_i32_68 : BitVec 32 := 128#32
  let c0_i32_71 : BitVec 32 := 0#32
  let v272 : BitVec 1 := Scalar.cmpi .sgt c128_i32_68 c0_i32_71
  let v273 : BitVec 32 := Scalar.extui v272
  let c0_i32_72 : BitVec 32 := 0#32
  let v274 : BitVec 1 := Scalar.cmpi .slt c128_i32_68 c0_i32_72
  let v275 : BitVec 32 := Scalar.extui v274
  let v276 : BitVec 32 := Scalar.subi v273 v275
  let v277 : BitVec 1 := Scalar.cmpi .ne v271 v276
  let v278 : BitVec 32 := Scalar.remsi v3 c128_i32_68
  let c0_i32_73 : BitVec 32 := 0#32
  let v279 : BitVec 1 := Scalar.cmpi .ne v278 c0_i32_73
  let v280 : BitVec 1 := Scalar.andi v277 v279
  let v266 : BitVec 32 := Scalar.divsi v3 c128_i32_68
  let c1_i32_74 : BitVec 32 := 1#32
  let v281 : BitVec 32 := Scalar.subi v266 c1_i32_74
  let v282 : BitVec 32 := Scalar.select v280 v281 v266
  let c4_i32 : BitVec 32 := 4#32
  let v283 : BitVec 32 := Scalar.subi v282 c4_i32
  let c0_i32_75 : BitVec 32 := 0#32
  let v284 : BitVec 32 := Scalar.maxsi v283 c0_i32_75
  let v306 : BitVec 32 := Scalar.addi v284 c0_i32_89
  let v307 : Index := Scalar.indexCast v306
  let c0_90 : Index := 0#32
  let c0_91 : Index := 0#32
  let c0_92 : Index := 0#32
  ![v307.toNat, 0, 0, 0]
def k0_off3 (i : grid0.Coords) (c0_i32_109 : BitVec 32) : Fin 4 → Nat :=
  let arg1 : BitVec 32 := BitVec.ofNat 32 (i 1).val
  let c128_i32 : BitVec 32 := 128#32
  let v3 : BitVec 32 := Scalar.muli arg1 c128_i32
  let c0_i32_69 : BitVec 32 := 0#32
  let v267 : BitVec 1 := Scalar.cmpi .sgt v3 c0_i32_69
  let v268 : BitVec 32 := Scalar.extui v267
  let c0_i32_70 : BitVec 32 := 0#32
  let v269 : BitVec 1 := Scalar.cmpi .slt v3 c0_i32_70
  let v270 : BitVec 32 := Scalar.extui v269
  let v271 : BitVec 32 := Scalar.subi v268 v270
  let c128_i32_68 : BitVec 32 := 128#32
  let c0_i32_71 : BitVec 32 := 0#32
  let v272 : BitVec 1 := Scalar.cmpi .sgt c128_i32_68 c0_i32_71
  let v273 : BitVec 32 := Scalar.extui v272
  let c0_i32_72 : BitVec 32 := 0#32
  let v274 : BitVec 1 := Scalar.cmpi .slt c128_i32_68 c0_i32_72
  let v275 : BitVec 32 := Scalar.extui v274
  let v276 : BitVec 32 := Scalar.subi v273 v275
  let v277 : BitVec 1 := Scalar.cmpi .ne v271 v276
  let v278 : BitVec 32 := Scalar.remsi v3 c128_i32_68
  let c0_i32_73 : BitVec 32 := 0#32
  let v279 : BitVec 1 := Scalar.cmpi .ne v278 c0_i32_73
  let v280 : BitVec 1 := Scalar.andi v277 v279
  let v266 : BitVec 32 := Scalar.divsi v3 c128_i32_68
  let c1_i32_74 : BitVec 32 := 1#32
  let v281 : BitVec 32 := Scalar.subi v266 c1_i32_74
  let v282 : BitVec 32 := Scalar.select v280 v281 v266
  let c4_i32 : BitVec 32 := 4#32
  let v283 : BitVec 32 := Scalar.subi v282 c4_i32
  let c0_i32_75 : BitVec 32 := 0#32
  let v284 : BitVec 32 := Scalar.maxsi v283 c0_i32_75
  let v327 : BitVec 32 := Scalar.addi v284 c0_i32_109
  let v328 : Index := Scalar.indexCast v327
  let c1 : Index := 1#32
  let c0_110 : Index := 0#32
  let c0_111 : Index := 0#32
  ![v328.toNat, 1, 0, 0]
@[reducible] def k0_t1_loop (i : grid0.Coords) : Scf.Loop 32 :=
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2416 : BitVec 32 := 1#32
  ⟨c0_i32_2414, v7762, c1_i32_2416⟩
def k0_off4 (i : grid0.Coords) (k0_t1 : Fin (k0_t1_loop i).trips) (c1_i32_2496 : BitVec 32) : Fin 3 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let v8030 : BitVec 32 := Scalar.addi v8029 c1_i32_2496
  let v8031 : Index := Scalar.indexCast v8030
  let c0_2497 : Index := 0#32
  let c0_2498 : Index := 0#32
  ![v8031.toNat, 0, 0]
def k0_off5 (i : grid0.Coords) (k0_t1 : Fin (k0_t1_loop i).trips) : Fin 4 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let v8056 : Index := Scalar.indexCast v8029
  let c0_2523 : Index := 0#32
  let c0_2524 : Index := 0#32
  let c0_2525 : Index := 0#32
  ![v8056.toNat, 0, 0, 0]
def k0_off6 (i : grid0.Coords) (k0_t1 : Fin (k0_t1_loop i).trips) : Fin 4 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let v8074 : Index := Scalar.indexCast v8029
  let c1_2532 : Index := 1#32
  let c0_2533 : Index := 0#32
  let c0_2534 : Index := 0#32
  ![v8074.toNat, 1, 0, 0]
def k0_off7 (i : grid0.Coords) (k0_t1 : Fin (k0_t1_loop i).trips) : Fin 4 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let v8092 : Index := Scalar.indexCast v8029
  let c0_2541 : Index := 0#32
  let c0_2542 : Index := 0#32
  let c256_2543 : Index := 256#32
  ![v8092.toNat, 0, 0, 256]
def k0_off8 (i : grid0.Coords) (k0_t1 : Fin (k0_t1_loop i).trips) : Fin 4 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let v8110 : Index := Scalar.indexCast v8029
  let c1_2550 : Index := 1#32
  let c0_2551 : Index := 0#32
  let c256_2552 : Index := 256#32
  ![v8110.toNat, 1, 0, 256]
def k0_off9 (i : grid0.Coords) (k0_t1 : Fin (k0_t1_loop i).trips) : Fin 4 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let c1_i32_2578 : BitVec 32 := 1#32
  let v8150 : BitVec 32 := Scalar.addi v8029 c1_i32_2578
  let v8153 : Index := Scalar.indexCast v8150
  let c0_2583 : Index := 0#32
  let c0_2584 : Index := 0#32
  let c0_2585 : Index := 0#32
  ![v8153.toNat, 0, 0, 0]
def k0_off10 (i : grid0.Coords) (k0_t1 : Fin (k0_t1_loop i).trips) : Fin 4 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let c1_i32_2578 : BitVec 32 := 1#32
  let v8150 : BitVec 32 := Scalar.addi v8029 c1_i32_2578
  let v8171 : Index := Scalar.indexCast v8150
  let c1_2592 : Index := 1#32
  let c0_2593 : Index := 0#32
  let c0_2594 : Index := 0#32
  ![v8171.toNat, 1, 0, 0]
def k0_off11 (i : grid0.Coords) (k0_t1 : Fin (k0_t1_loop i).trips) : Fin 4 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let c1_i32_2578 : BitVec 32 := 1#32
  let v8150 : BitVec 32 := Scalar.addi v8029 c1_i32_2578
  let v8189 : Index := Scalar.indexCast v8150
  let c0_2601 : Index := 0#32
  let c0_2602 : Index := 0#32
  let c256_2603 : Index := 256#32
  ![v8189.toNat, 0, 0, 256]
def k0_off12 (i : grid0.Coords) (k0_t1 : Fin (k0_t1_loop i).trips) : Fin 4 → Nat :=
  let c2_i32_2495 : BitVec 32 := 2#32
  let c0_i32_2414 : BitVec 32 := 0#32
  let c1_i32_2416 : BitVec 32 := 1#32
  let arg16 : BitVec 32 := Scf.iv c0_i32_2414 c1_i32_2416 k0_t1
  let v8029 : BitVec 32 := Scalar.muli c2_i32_2495 arg16
  let c1_i32_2578 : BitVec 32 := 1#32
  let v8150 : BitVec 32 := Scalar.addi v8029 c1_i32_2578
  let v8207 : Index := Scalar.indexCast v8150
  let c1_2610 : Index := 1#32
  let c0_2611 : Index := 0#32
  let c256_2612 : Index := 256#32
  ![v8207.toNat, 1, 0, 256]
@[reducible] def k0_t2_loop (i : grid0.Coords) : Scf.Loop 32 :=
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let v7759 : BitVec 32 := Scalar.addi c0_i32_2414 v7758
  let c1_i32_2417 : BitVec 32 := 1#32
  ⟨v7762, v7759, c1_i32_2417⟩
def k0_off13 (i : grid0.Coords) (k0_t2 : Fin (k0_t2_loop i).trips) (c1_i32_2496 : BitVec 32) : Fin 3 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let v8030 : BitVec 32 := Scalar.addi v8029 c1_i32_2496
  let v8031 : Index := Scalar.indexCast v8030
  let c0_2497 : Index := 0#32
  let c0_2498 : Index := 0#32
  ![v8031.toNat, 0, 0]
def k0_off14 (i : grid0.Coords) (k0_t2 : Fin (k0_t2_loop i).trips) : Fin 4 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let v8056 : Index := Scalar.indexCast v8029
  let c0_2523 : Index := 0#32
  let c0_2524 : Index := 0#32
  let c0_2525 : Index := 0#32
  ![v8056.toNat, 0, 0, 0]
def k0_off15 (i : grid0.Coords) (k0_t2 : Fin (k0_t2_loop i).trips) : Fin 4 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let v8074 : Index := Scalar.indexCast v8029
  let c1_2532 : Index := 1#32
  let c0_2533 : Index := 0#32
  let c0_2534 : Index := 0#32
  ![v8074.toNat, 1, 0, 0]
def k0_off16 (i : grid0.Coords) (k0_t2 : Fin (k0_t2_loop i).trips) : Fin 4 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let v8092 : Index := Scalar.indexCast v8029
  let c0_2541 : Index := 0#32
  let c0_2542 : Index := 0#32
  let c256_2543 : Index := 256#32
  ![v8092.toNat, 0, 0, 256]
def k0_off17 (i : grid0.Coords) (k0_t2 : Fin (k0_t2_loop i).trips) : Fin 4 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let v8110 : Index := Scalar.indexCast v8029
  let c1_2550 : Index := 1#32
  let c0_2551 : Index := 0#32
  let c256_2552 : Index := 256#32
  ![v8110.toNat, 1, 0, 256]
def k0_off18 (i : grid0.Coords) (k0_t2 : Fin (k0_t2_loop i).trips) : Fin 4 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let c1_i32_2578 : BitVec 32 := 1#32
  let v8150 : BitVec 32 := Scalar.addi v8029 c1_i32_2578
  let v8153 : Index := Scalar.indexCast v8150
  let c0_2583 : Index := 0#32
  let c0_2584 : Index := 0#32
  let c0_2585 : Index := 0#32
  ![v8153.toNat, 0, 0, 0]
def k0_off19 (i : grid0.Coords) (k0_t2 : Fin (k0_t2_loop i).trips) : Fin 4 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let c1_i32_2578 : BitVec 32 := 1#32
  let v8150 : BitVec 32 := Scalar.addi v8029 c1_i32_2578
  let v8171 : Index := Scalar.indexCast v8150
  let c1_2592 : Index := 1#32
  let c0_2593 : Index := 0#32
  let c0_2594 : Index := 0#32
  ![v8171.toNat, 1, 0, 0]
def k0_off20 (i : grid0.Coords) (k0_t2 : Fin (k0_t2_loop i).trips) : Fin 4 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let c1_i32_2578 : BitVec 32 := 1#32
  let v8150 : BitVec 32 := Scalar.addi v8029 c1_i32_2578
  let v8189 : Index := Scalar.indexCast v8150
  let c0_2601 : Index := 0#32
  let c0_2602 : Index := 0#32
  let c256_2603 : Index := 256#32
  ![v8189.toNat, 0, 0, 256]
def k0_off21 (i : grid0.Coords) (k0_t2 : Fin (k0_t2_loop i).trips) : Fin 4 → Nat :=
  let c2_i32_2495 : BitVec 32 := 2#32
  let c0_i32_2414 : BitVec 32 := 0#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2408 : BitVec 32 := 0#32
  let v7742 : BitVec 1 := Scalar.cmpi .sgt v7740 c0_i32_2408
  let v7743 : BitVec 32 := Scalar.extui v7742
  let c0_i32_2409 : BitVec 32 := 0#32
  let v7744 : BitVec 1 := Scalar.cmpi .slt v7740 c0_i32_2409
  let v7745 : BitVec 32 := Scalar.extui v7744
  let v7746 : BitVec 32 := Scalar.subi v7743 v7745
  let c2_i32_2407 : BitVec 32 := 2#32
  let c0_i32_2410 : BitVec 32 := 0#32
  let v7747 : BitVec 1 := Scalar.cmpi .sgt c2_i32_2407 c0_i32_2410
  let v7748 : BitVec 32 := Scalar.extui v7747
  let c0_i32_2411 : BitVec 32 := 0#32
  let v7749 : BitVec 1 := Scalar.cmpi .slt c2_i32_2407 c0_i32_2411
  let v7750 : BitVec 32 := Scalar.extui v7749
  let v7751 : BitVec 32 := Scalar.subi v7748 v7750
  let v7752 : BitVec 1 := Scalar.cmpi .ne v7746 v7751
  let v7753 : BitVec 32 := Scalar.remsi v7740 c2_i32_2407
  let c0_i32_2412 : BitVec 32 := 0#32
  let v7754 : BitVec 1 := Scalar.cmpi .ne v7753 c0_i32_2412
  let v7755 : BitVec 1 := Scalar.andi v7752 v7754
  let v7741 : BitVec 32 := Scalar.divsi v7740 c2_i32_2407
  let c1_i32_2413 : BitVec 32 := 1#32
  let v7756 : BitVec 32 := Scalar.subi v7741 c1_i32_2413
  let v7757 : BitVec 32 := Scalar.select v7755 v7756 v7741
  let v7758 : BitVec 32 := Scalar.subi v7757 c0_i32_2414
  let c1_i32_2415 : BitVec 32 := 1#32
  let v7760 : BitVec 32 := Scalar.divsi v7758 c1_i32_2415
  let v7761 : BitVec 32 := Scalar.muli v7760 c1_i32_2415
  let v7762 : BitVec 32 := Scalar.addi c0_i32_2414 v7761
  let c1_i32_2417 : BitVec 32 := 1#32
  let arg16 : BitVec 32 := Scf.iv v7762 c1_i32_2417 k0_t2
  let v8029 : BitVec 32 := Scalar.muli c2_i32_2495 arg16
  let c1_i32_2578 : BitVec 32 := 1#32
  let v8150 : BitVec 32 := Scalar.addi v8029 c1_i32_2578
  let v8207 : Index := Scalar.indexCast v8150
  let c1_2610 : Index := 1#32
  let c0_2611 : Index := 0#32
  let c256_2612 : Index := 256#32
  ![v8207.toNat, 1, 0, 256]
def k0_off22 (i : grid0.Coords) : Fin 3 → Nat :=
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2426 : BitVec 32 := 1#32
  let v7784 : BitVec 32 := Scalar.subi v7571 c1_i32_2426
  let v7785 : Index := Scalar.indexCast v7784
  let c0_2427 : Index := 0#32
  let c0_2428 : Index := 0#32
  ![v7785.toNat, 0, 0]
def k0_off23 (i : grid0.Coords) : Fin 4 → Nat :=
  let c2_i32_2425 : BitVec 32 := 2#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2419 : BitVec 32 := 0#32
  let v7766 : BitVec 1 := Scalar.cmpi .sgt v7740 c0_i32_2419
  let v7767 : BitVec 32 := Scalar.extui v7766
  let c0_i32_2420 : BitVec 32 := 0#32
  let v7768 : BitVec 1 := Scalar.cmpi .slt v7740 c0_i32_2420
  let v7769 : BitVec 32 := Scalar.extui v7768
  let v7770 : BitVec 32 := Scalar.subi v7767 v7769
  let c2_i32_2418 : BitVec 32 := 2#32
  let c0_i32_2421 : BitVec 32 := 0#32
  let v7771 : BitVec 1 := Scalar.cmpi .sgt c2_i32_2418 c0_i32_2421
  let v7772 : BitVec 32 := Scalar.extui v7771
  let c0_i32_2422 : BitVec 32 := 0#32
  let v7773 : BitVec 1 := Scalar.cmpi .slt c2_i32_2418 c0_i32_2422
  let v7774 : BitVec 32 := Scalar.extui v7773
  let v7775 : BitVec 32 := Scalar.subi v7772 v7774
  let v7776 : BitVec 1 := Scalar.cmpi .ne v7770 v7775
  let v7777 : BitVec 32 := Scalar.remsi v7740 c2_i32_2418
  let c0_i32_2423 : BitVec 32 := 0#32
  let v7778 : BitVec 1 := Scalar.cmpi .ne v7777 c0_i32_2423
  let v7779 : BitVec 1 := Scalar.andi v7776 v7778
  let v7765 : BitVec 32 := Scalar.divsi v7740 c2_i32_2418
  let c1_i32_2424 : BitVec 32 := 1#32
  let v7780 : BitVec 32 := Scalar.subi v7765 c1_i32_2424
  let v7781 : BitVec 32 := Scalar.select v7779 v7780 v7765
  let v7782 : BitVec 32 := Scalar.muli c2_i32_2425 v7781
  let v7817 : Index := Scalar.indexCast v7782
  let c0_2454 : Index := 0#32
  let c0_2455 : Index := 0#32
  let c0_2456 : Index := 0#32
  ![v7817.toNat, 0, 0, 0]
def k0_off24 (i : grid0.Coords) : Fin 4 → Nat :=
  let c2_i32_2425 : BitVec 32 := 2#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2419 : BitVec 32 := 0#32
  let v7766 : BitVec 1 := Scalar.cmpi .sgt v7740 c0_i32_2419
  let v7767 : BitVec 32 := Scalar.extui v7766
  let c0_i32_2420 : BitVec 32 := 0#32
  let v7768 : BitVec 1 := Scalar.cmpi .slt v7740 c0_i32_2420
  let v7769 : BitVec 32 := Scalar.extui v7768
  let v7770 : BitVec 32 := Scalar.subi v7767 v7769
  let c2_i32_2418 : BitVec 32 := 2#32
  let c0_i32_2421 : BitVec 32 := 0#32
  let v7771 : BitVec 1 := Scalar.cmpi .sgt c2_i32_2418 c0_i32_2421
  let v7772 : BitVec 32 := Scalar.extui v7771
  let c0_i32_2422 : BitVec 32 := 0#32
  let v7773 : BitVec 1 := Scalar.cmpi .slt c2_i32_2418 c0_i32_2422
  let v7774 : BitVec 32 := Scalar.extui v7773
  let v7775 : BitVec 32 := Scalar.subi v7772 v7774
  let v7776 : BitVec 1 := Scalar.cmpi .ne v7770 v7775
  let v7777 : BitVec 32 := Scalar.remsi v7740 c2_i32_2418
  let c0_i32_2423 : BitVec 32 := 0#32
  let v7778 : BitVec 1 := Scalar.cmpi .ne v7777 c0_i32_2423
  let v7779 : BitVec 1 := Scalar.andi v7776 v7778
  let v7765 : BitVec 32 := Scalar.divsi v7740 c2_i32_2418
  let c1_i32_2424 : BitVec 32 := 1#32
  let v7780 : BitVec 32 := Scalar.subi v7765 c1_i32_2424
  let v7781 : BitVec 32 := Scalar.select v7779 v7780 v7765
  let v7782 : BitVec 32 := Scalar.muli c2_i32_2425 v7781
  let v7837 : Index := Scalar.indexCast v7782
  let c1_2464 : Index := 1#32
  let c0_2465 : Index := 0#32
  let c0_2466 : Index := 0#32
  ![v7837.toNat, 1, 0, 0]
def k0_off25 (i : grid0.Coords) : Fin 4 → Nat :=
  let c2_i32_2425 : BitVec 32 := 2#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2419 : BitVec 32 := 0#32
  let v7766 : BitVec 1 := Scalar.cmpi .sgt v7740 c0_i32_2419
  let v7767 : BitVec 32 := Scalar.extui v7766
  let c0_i32_2420 : BitVec 32 := 0#32
  let v7768 : BitVec 1 := Scalar.cmpi .slt v7740 c0_i32_2420
  let v7769 : BitVec 32 := Scalar.extui v7768
  let v7770 : BitVec 32 := Scalar.subi v7767 v7769
  let c2_i32_2418 : BitVec 32 := 2#32
  let c0_i32_2421 : BitVec 32 := 0#32
  let v7771 : BitVec 1 := Scalar.cmpi .sgt c2_i32_2418 c0_i32_2421
  let v7772 : BitVec 32 := Scalar.extui v7771
  let c0_i32_2422 : BitVec 32 := 0#32
  let v7773 : BitVec 1 := Scalar.cmpi .slt c2_i32_2418 c0_i32_2422
  let v7774 : BitVec 32 := Scalar.extui v7773
  let v7775 : BitVec 32 := Scalar.subi v7772 v7774
  let v7776 : BitVec 1 := Scalar.cmpi .ne v7770 v7775
  let v7777 : BitVec 32 := Scalar.remsi v7740 c2_i32_2418
  let c0_i32_2423 : BitVec 32 := 0#32
  let v7778 : BitVec 1 := Scalar.cmpi .ne v7777 c0_i32_2423
  let v7779 : BitVec 1 := Scalar.andi v7776 v7778
  let v7765 : BitVec 32 := Scalar.divsi v7740 c2_i32_2418
  let c1_i32_2424 : BitVec 32 := 1#32
  let v7780 : BitVec 32 := Scalar.subi v7765 c1_i32_2424
  let v7781 : BitVec 32 := Scalar.select v7779 v7780 v7765
  let v7782 : BitVec 32 := Scalar.muli c2_i32_2425 v7781
  let v7864 : Index := Scalar.indexCast v7782
  let c0_2475 : Index := 0#32
  let c0_2476 : Index := 0#32
  let c256_2477 : Index := 256#32
  ![v7864.toNat, 0, 0, 256]
def k0_off26 (i : grid0.Coords) : Fin 4 → Nat :=
  let c2_i32_2425 : BitVec 32 := 2#32
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c0_i32_2419 : BitVec 32 := 0#32
  let v7766 : BitVec 1 := Scalar.cmpi .sgt v7740 c0_i32_2419
  let v7767 : BitVec 32 := Scalar.extui v7766
  let c0_i32_2420 : BitVec 32 := 0#32
  let v7768 : BitVec 1 := Scalar.cmpi .slt v7740 c0_i32_2420
  let v7769 : BitVec 32 := Scalar.extui v7768
  let v7770 : BitVec 32 := Scalar.subi v7767 v7769
  let c2_i32_2418 : BitVec 32 := 2#32
  let c0_i32_2421 : BitVec 32 := 0#32
  let v7771 : BitVec 1 := Scalar.cmpi .sgt c2_i32_2418 c0_i32_2421
  let v7772 : BitVec 32 := Scalar.extui v7771
  let c0_i32_2422 : BitVec 32 := 0#32
  let v7773 : BitVec 1 := Scalar.cmpi .slt c2_i32_2418 c0_i32_2422
  let v7774 : BitVec 32 := Scalar.extui v7773
  let v7775 : BitVec 32 := Scalar.subi v7772 v7774
  let v7776 : BitVec 1 := Scalar.cmpi .ne v7770 v7775
  let v7777 : BitVec 32 := Scalar.remsi v7740 c2_i32_2418
  let c0_i32_2423 : BitVec 32 := 0#32
  let v7778 : BitVec 1 := Scalar.cmpi .ne v7777 c0_i32_2423
  let v7779 : BitVec 1 := Scalar.andi v7776 v7778
  let v7765 : BitVec 32 := Scalar.divsi v7740 c2_i32_2418
  let c1_i32_2424 : BitVec 32 := 1#32
  let v7780 : BitVec 32 := Scalar.subi v7765 c1_i32_2424
  let v7781 : BitVec 32 := Scalar.select v7779 v7780 v7765
  let v7782 : BitVec 32 := Scalar.muli c2_i32_2425 v7781
  let v7884 : Index := Scalar.indexCast v7782
  let c1_2485 : Index := 1#32
  let c0_2486 : Index := 0#32
  let c256_2487 : Index := 256#32
  ![v7884.toNat, 1, 0, 256]
def k0_cond2 (i : grid0.Coords) : BitVec 1 :=
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2406 : BitVec 32 := 1#32
  let v7740 : BitVec 32 := Scalar.subi v7571 c1_i32_2406
  let c2_i32_2425 : BitVec 32 := 2#32
  let c0_i32_2419 : BitVec 32 := 0#32
  let v7766 : BitVec 1 := Scalar.cmpi .sgt v7740 c0_i32_2419
  let v7767 : BitVec 32 := Scalar.extui v7766
  let c0_i32_2420 : BitVec 32 := 0#32
  let v7768 : BitVec 1 := Scalar.cmpi .slt v7740 c0_i32_2420
  let v7769 : BitVec 32 := Scalar.extui v7768
  let v7770 : BitVec 32 := Scalar.subi v7767 v7769
  let c2_i32_2418 : BitVec 32 := 2#32
  let c0_i32_2421 : BitVec 32 := 0#32
  let v7771 : BitVec 1 := Scalar.cmpi .sgt c2_i32_2418 c0_i32_2421
  let v7772 : BitVec 32 := Scalar.extui v7771
  let c0_i32_2422 : BitVec 32 := 0#32
  let v7773 : BitVec 1 := Scalar.cmpi .slt c2_i32_2418 c0_i32_2422
  let v7774 : BitVec 32 := Scalar.extui v7773
  let v7775 : BitVec 32 := Scalar.subi v7772 v7774
  let v7776 : BitVec 1 := Scalar.cmpi .ne v7770 v7775
  let v7777 : BitVec 32 := Scalar.remsi v7740 c2_i32_2418
  let c0_i32_2423 : BitVec 32 := 0#32
  let v7778 : BitVec 1 := Scalar.cmpi .ne v7777 c0_i32_2423
  let v7779 : BitVec 1 := Scalar.andi v7776 v7778
  let v7765 : BitVec 32 := Scalar.divsi v7740 c2_i32_2418
  let c1_i32_2424 : BitVec 32 := 1#32
  let v7780 : BitVec 32 := Scalar.subi v7765 c1_i32_2424
  let v7781 : BitVec 32 := Scalar.select v7779 v7780 v7765
  let v7782 : BitVec 32 := Scalar.muli c2_i32_2425 v7781
  let v7783 : BitVec 32 := Scalar.subi v7740 v7782
  let c1_i32_2491 : BitVec 32 := 1#32
  let v7902 : BitVec 1 := Scalar.cmpi .eq v7783 c1_i32_2491
  let v7903 : BitVec 32 := Scalar.extui v7902
  let c0_i32_2492 : BitVec 32 := 0#32
  let v7904 : BitVec 1 := Scalar.cmpi .ne v7903 c0_i32_2492
  v7904

def k0_off27 (i : grid0.Coords) : Fin 4 → Nat :=
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2495 : BitVec 32 := 1#32
  let v8029 : BitVec 32 := Scalar.subi v7571 c1_i32_2495
  let v8039 : Index := Scalar.indexCast v8029
  let c0_2501 : Index := 0#32
  let c0_2502 : Index := 0#32
  let c0_2503 : Index := 0#32
  ![v8039.toNat, 0, 0, 0]
def k0_off28 (i : grid0.Coords) : Fin 4 → Nat :=
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2495 : BitVec 32 := 1#32
  let v8029 : BitVec 32 := Scalar.subi v7571 c1_i32_2495
  let v8059 : Index := Scalar.indexCast v8029
  let c1_2511 : Index := 1#32
  let c0_2512 : Index := 0#32
  let c0_2513 : Index := 0#32
  ![v8059.toNat, 1, 0, 0]
def k0_off29 (i : grid0.Coords) : Fin 4 → Nat :=
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2495 : BitVec 32 := 1#32
  let v8029 : BitVec 32 := Scalar.subi v7571 c1_i32_2495
  let v8086 : Index := Scalar.indexCast v8029
  let c0_2522 : Index := 0#32
  let c0_2523 : Index := 0#32
  let c256_2524 : Index := 256#32
  ![v8086.toNat, 0, 0, 256]
def k0_off30 (i : grid0.Coords) : Fin 4 → Nat :=
  let arg1 : BitVec 32 := BitVec.ofNat 32 (i 1).val
  let c128_i32 : BitVec 32 := 128#32
  let v3 : BitVec 32 := Scalar.muli arg1 c128_i32
  let c128_i32_2355 : BitVec 32 := 128#32
  let v7552 : BitVec 32 := Scalar.addi v3 c128_i32_2355
  let c512_i32 : BitVec 32 := 512#32
  let v7553 : BitVec 32 := Scalar.addi v7552 c512_i32
  let c1_i32_2356 : BitVec 32 := 1#32
  let v7554 : BitVec 32 := Scalar.subi v7553 c1_i32_2356
  let c0_i32_2358 : BitVec 32 := 0#32
  let v7556 : BitVec 1 := Scalar.cmpi .sgt v7554 c0_i32_2358
  let v7557 : BitVec 32 := Scalar.extui v7556
  let c0_i32_2359 : BitVec 32 := 0#32
  let v7558 : BitVec 1 := Scalar.cmpi .slt v7554 c0_i32_2359
  let v7559 : BitVec 32 := Scalar.extui v7558
  let v7560 : BitVec 32 := Scalar.subi v7557 v7559
  let c512_i32_2357 : BitVec 32 := 512#32
  let c0_i32_2360 : BitVec 32 := 0#32
  let v7561 : BitVec 1 := Scalar.cmpi .sgt c512_i32_2357 c0_i32_2360
  let v7562 : BitVec 32 := Scalar.extui v7561
  let c0_i32_2361 : BitVec 32 := 0#32
  let v7563 : BitVec 1 := Scalar.cmpi .slt c512_i32_2357 c0_i32_2361
  let v7564 : BitVec 32 := Scalar.extui v7563
  let v7565 : BitVec 32 := Scalar.subi v7562 v7564
  let v7566 : BitVec 1 := Scalar.cmpi .ne v7560 v7565
  let v7567 : BitVec 32 := Scalar.remsi v7554 c512_i32_2357
  let c0_i32_2362 : BitVec 32 := 0#32
  let v7568 : BitVec 1 := Scalar.cmpi .ne v7567 c0_i32_2362
  let v7569 : BitVec 1 := Scalar.andi v7566 v7568
  let v7555 : BitVec 32 := Scalar.divsi v7554 c512_i32_2357
  let c1_i32_2363 : BitVec 32 := 1#32
  let v7570 : BitVec 32 := Scalar.subi v7555 c1_i32_2363
  let v7571 : BitVec 32 := Scalar.select v7569 v7570 v7555
  let c1_i32_2495 : BitVec 32 := 1#32
  let v8029 : BitVec 32 := Scalar.subi v7571 c1_i32_2495
  let v8106 : Index := Scalar.indexCast v8029
  let c1_2532 : Index := 1#32
  let c0_2533 : Index := 0#32
  let c256_2534 : Index := 256#32
  ![v8106.toNat, 1, 0, 256]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2.lean ====
abbrev S4x4096x1024 : Shape := ⟨3, ![4, 4096, 1024]⟩
abbrev S1024 : Shape := ⟨1, ![1024]⟩
abbrev S1024x3096 : Shape := ⟨2, ![1024, 3096]⟩
abbrev S16384x1024 : Shape := ⟨2, ![16384, 1024]⟩
abbrev S1x1024 : Shape := ⟨2, ![1, 1024]⟩
abbrev S1024x24 : Shape := ⟨2, ![1024, 24]⟩
abbrev S_ : Shape := ⟨0, ![]⟩
abbrev S1024x128 : Shape := ⟨2, ![1024, 128]⟩
abbrev S1024x512 : Shape := ⟨2, ![1024, 512]⟩
abbrev S1024x256 : Shape := ⟨2, ![1024, 256]⟩
abbrev S1024x3200 : Shape := ⟨2, ![1024, 3200]⟩
abbrev S16384x512 : Shape := ⟨2, ![16384, 512]⟩
abbrev S4x256x4096 : Shape := ⟨3, ![4, 256, 4096]⟩
abbrev S16384x256 : Shape := ⟨2, ![16384, 256]⟩
abbrev S16384x128 : Shape := ⟨2, ![16384, 128]⟩
abbrev S512x1024 : Shape := ⟨2, ![512, 1024]⟩
abbrev S512x512 : Shape := ⟨2, ![512, 512]⟩
abbrev S1x256x512 : Shape := ⟨3, ![1, 256, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S256x512 : Shape := ⟨2, ![256, 512]⟩

abbrev nBuf : Space → Nat
  | .hbm => 32
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3096, .f32⟩
  | .hbm, ⟨3, _⟩ => ⟨S16384x1024, .f32⟩
  | .hbm, ⟨4, _⟩ => ⟨S1x1024, .f32⟩
  | .hbm, ⟨5, _⟩ => ⟨S1024x24, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x512, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x3200, .f32⟩
  | .hbm, ⟨20, _⟩ => ⟨S1024x3200, .bf16⟩
  | .hbm, ⟨21, _⟩ => ⟨S16384x512, .f32⟩
  | .hbm, ⟨22, _⟩ => ⟨S4x256x4096, .f32⟩
  | .hbm, ⟨23, _⟩ => ⟨S4x256x4096, .f32⟩
  | .hbm, ⟨24, _⟩ => ⟨S4x256x4096, .f32⟩
  | .hbm, ⟨25, _⟩ => ⟨S16384x512, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x512, .f32⟩
  | .local _ .vmem, ⟨5, _⟩ => ⟨S512x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S512x512, .f32⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x128, .f32⟩
  | .local _ .vmem, ⟨25, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev main_v16_6 : Ref sig .tc := ⟨.hbm, 27, rfl⟩
abbrev main_v16_7 : Ref sig .tc := ⟨.hbm, 28, rfl⟩
abbrev main_v16_8 : Ref sig .tc := ⟨.hbm, 29, rfl⟩
abbrev main_v16_9 : Ref sig .tc := ⟨.hbm, 30, rfl⟩
abbrev main_v16_10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4x4096x1024 : Shape := ⟨3, ![4, 4096, 1024]⟩
abbrev S1024 : Shape := ⟨1, ![1024]⟩
abbrev S1024x3096 : Shape := ⟨2, ![1024, 3096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3096 : Shape := ⟨3, ![4, 4096, 3096]⟩
abbrev S4x4096x512 : Shape := ⟨3, ![4, 4096, 512]⟩
abbrev S4x4096x256 : Shape := ⟨3, ![4, 4096, 256]⟩
abbrev S4x4096x24 : Shape := ⟨3, ![4, 4096, 24]⟩
abbrev S4x4096x128 : Shape := ⟨3, ![4, 4096, 128]⟩
abbrev S16384x512 : Shape := ⟨2, ![16384, 512]⟩
abbrev S4x256x4096 : Shape := ⟨3, ![4, 256, 4096]⟩
abbrev S16384x256 : Shape := ⟨2, ![16384, 256]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3096, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3096, .f32⟩
  | .hbm, ⟨20, _⟩ => ⟨S4x4096x512, .f32⟩
  | .hbm, ⟨21, _⟩ => ⟨S4x4096x256, .f32⟩
  | .hbm, ⟨22, _⟩ => ⟨S4x4096x256, .f32⟩
  | .hbm, ⟨23, _⟩ => ⟨S4x4096x256, .f32⟩
  | .hbm, ⟨24, _⟩ => ⟨S4x4096x24, .f32⟩
  | .hbm, ⟨25, _⟩ => ⟨S4x4096x512, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S4x4096x256, .f32⟩
  | .hbm, ⟨30, _⟩ => ⟨S4x4096x256, .f32⟩
  | .hbm, ⟨31, _⟩ => ⟨S_, .i32⟩
  | .hbm, ⟨32, _⟩ => ⟨S_, .f32⟩
  | .hbm, ⟨33, _⟩ => ⟨S4x4096x128, .f32⟩
  | .hbm, ⟨34, _⟩ => ⟨S16384x512, .f32⟩
  | .hbm, ⟨35, _⟩ => ⟨S4x256x4096, .f32⟩
  | .hbm, ⟨36, _⟩ => ⟨S4x256x4096, .f32⟩
  | .hbm, ⟨37, _⟩ => ⟨S4x256x4096, .f32⟩
  | .hbm, ⟨38, _⟩ => ⟨S16384x512, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64x64 : Shape := ⟨3, ![1, 64, 64]⟩
abbrev S64x256 : Shape := ⟨2, ![64, 256]⟩
abbrev S128x128 : Shape := ⟨2, ![128, 128]⟩
abbrev S1x256 : Shape := ⟨2, ![1, 256]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S1x1024 : Shape := ⟨2, ![1, 1024]⟩
abbrev S16384x512 : Shape := ⟨2, ![16384, 512]⟩
abbrev S16384x256 : Shape := ⟨2, ![16384, 256]⟩
abbrev S16384x1024 : Shape := ⟨2, ![16384, 1024]⟩
abbrev S512x1024 : Shape := ⟨2, ![512, 1024]⟩
abbrev S512x512 : Shape := ⟨2, ![512, 512]⟩
abbrev S512x256 : Shape := ⟨2, ![512, 256]⟩
abbrev S16x256 : Shape := ⟨2, ![16, 256]⟩
abbrev S544x256 : Shape := ⟨2, ![544, 256]⟩
abbrev S528x256 : Shape := ⟨2, ![528, 256]⟩
abbrev S256x1024 : Shape := ⟨2, ![256, 1024]⟩
abbrev S512 : Shape := ⟨1, ![512]⟩
abbrev S512x1 : Shape := ⟨2, ![512, 1]⟩

abbrev nBuf : Space → Nat
  | .hbm => 81
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x256, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S4x64x64, .f32⟩
  | .hbm, ⟨9, _⟩ => ⟨S256, .f32⟩
  | .hbm, ⟨10, _⟩ => ⟨S256, .f32⟩
  | .hbm, ⟨11, _⟩ => ⟨S4x128x128, .f32⟩
  | .hbm, ⟨12, _⟩ => ⟨S4x128, .f32⟩
  | .hbm, ⟨13, _⟩ => ⟨S1024x1024, .f32⟩
  | .hbm, ⟨14, _⟩ => ⟨S1024, .f32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .f32⟩
  | .hbm, ⟨22, _⟩ => ⟨S_, .f32⟩
  | .hbm, ⟨23, _⟩ => ⟨S64x64, .f32⟩
  | .hbm, ⟨24, _⟩ => ⟨S4x1x4x1, .f32⟩
  | .hbm, ⟨25, _⟩ => ⟨S1x64x1x64, .f32⟩
  | .hbm, ⟨26, _⟩ => ⟨S4x64x4x64, .f32⟩
  | .hbm, ⟨27, _⟩ => ⟨S4x64x4x64, .f32⟩
  | .hbm, ⟨28, _⟩ => ⟨S4x64x4x64, .f32⟩
  | .hbm, ⟨29, _⟩ => ⟨S256x256, .f32⟩
  | .hbm, ⟨30, _⟩ => ⟨S256x256, .bf16⟩
  | .hbm, ⟨31, _⟩ => ⟨S1x64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S1x64x64, .f32⟩
  | .hbm, ⟨36, _⟩ => ⟨S64x64, .f32⟩
  | .hbm, ⟨37, _⟩ => ⟨S64x256, .f32⟩
  | .hbm, ⟨38, _⟩ => ⟨S1x64x64, .f32⟩
  | .hbm, ⟨39, _⟩ => ⟨S64x64, .f32⟩
  | .hbm, ⟨40, _⟩ => ⟨S64x256, .f32⟩
  | .hbm, ⟨41, _⟩ => ⟨S1x64x64, .f32⟩
  | .hbm, ⟨42, _⟩ => ⟨S64x64, .f32⟩
  | .hbm, ⟨43, _⟩ => ⟨S64x256, .f32⟩
  | .hbm, ⟨44, _⟩ => ⟨S1x64x64, .f32⟩
  | .hbm, ⟨45, _⟩ => ⟨S64x64, .f32⟩
  | .hbm, ⟨46, _⟩ => ⟨S64x256, .f32⟩
  | .hbm, ⟨47, _⟩ => ⟨S256x256, .f32⟩
  | .hbm, ⟨48, _⟩ => ⟨S_, .f32⟩
  | .hbm, ⟨49, _⟩ => ⟨S128x128, .f32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S256x256, .bf16⟩
  | .hbm, ⟨60, _⟩ => ⟨S1x256, .f32⟩
  | .hbm, ⟨61, _⟩ => ⟨S1x256, .f32⟩
  | .hbm, ⟨62, _⟩ => ⟨S1x128x128, .f32⟩
  | .hbm, ⟨63, _⟩ => ⟨S4x128x128, .f32⟩
  | .hbm, ⟨64, _⟩ => ⟨S4x128x128, .f32⟩
  | .hbm, ⟨65, _⟩ => ⟨S4x128x128, .bf16⟩
  | .hbm, ⟨66, _⟩ => ⟨S128x4, .f32⟩
  | .hbm, ⟨67, _⟩ => ⟨S128x4x64, .f32⟩
  | .hbm, ⟨68, _⟩ => ⟨S128x256, .f32⟩
  | .hbm, ⟨69, _⟩ => ⟨S1024x1024, .bf16⟩
  | .hbm, ⟨70, _⟩ => ⟨S1x1024, .f32⟩
  | .hbm, ⟨71, _⟩ => ⟨S16384x512, .f32⟩
  | .hbm, ⟨72, _⟩ => ⟨S16384x256, .f32⟩
  | .hbm, ⟨73, _⟩ => ⟨S16384x256, .f32⟩
  | .hbm, ⟨74, _⟩ => ⟨S16384x256, .f32⟩
  | .hbm, ⟨75, _⟩ => ⟨S16384x256, .f32⟩
  | .hbm, ⟨76, _⟩ => ⟨S16384x256, .f32⟩
  | .hbm, ⟨77, _⟩ => ⟨S16384x1024, .f32⟩
  | .hbm, ⟨78, _⟩ => ⟨S16384x512, .f32⟩
  | .hbm, ⟨79, _⟩ => ⟨S16384x1024, .f32⟩
  | .hbm, ⟨80, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S16x256, .f32⟩
  | .local _ .vmem, ⟨9, _⟩ => ⟨S16x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S256x256, .bf16⟩
  | .local _ .vmem, ⟨19, _⟩ => ⟨S1x256, .f32⟩
  | .local _ .vmem, ⟨20, _⟩ => ⟨S1x256, .f32⟩
  | .local _ .vmem, ⟨21, _⟩ => ⟨S256x256, .bf16⟩
  | .local _ .vmem, ⟨22, _⟩ => ⟨S4x128x128, .bf16⟩
  | .local _ .vmem, ⟨23, _⟩ => ⟨S128x256, .f32⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x256, .f32⟩
  | .local _ .vmem, ⟨29, _⟩ => ⟨S512x256, .f32⟩
  | .local _ .vmem, ⟨30, _⟩ => ⟨S544x256, .f32⟩
  | .local _ .vmem, ⟨31, _⟩ => ⟨S544x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_cst : Ref sig .tc := ⟨.hbm, 56, rfl⟩
abbrev main_call1_v5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47_0 : Ref sig .tc := ⟨.hbm, 79, rfl⟩
abbrev main_v47_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S_ : Shape := ⟨0, ![]⟩
abbrev S4x15x256 : Shape := ⟨3, ![4, 15, 256]⟩
abbrev S4x4111x256 : Shape := ⟨3, ![4, 4111, 256]⟩
abbrev S4x4112x256 : Shape := ⟨3, ![4, 4112, 256]⟩
abbrev S4096 : Shape := ⟨1, ![4096]⟩
abbrev S4x4096x64 : Shape := ⟨3, ![4, 4096, 64]⟩
abbrev S1x4096x1 : Shape := ⟨3, ![1, 4096, 1]⟩
abbrev S4x4096x4x64 : Shape := ⟨4, ![4, 4096, 4, 64]⟩
abbrev S4x64x4x4096 : Shape := ⟨4, ![4, 64, 4, 4096]⟩
abbrev S1x1x256 : Shape := ⟨3, ![1, 1, 256]⟩
abbrev S4x4096x4 : Shape := ⟨3, ![4, 4096, 4]⟩
abbrev S4x4096x4x1 : Shape := ⟨4, ![4, 4096, 4, 1]⟩
abbrev S4x64 : Shape := ⟨2, ![4, 64]⟩
abbrev S1x1x4x64 : Shape := ⟨4, ![1, 1, 4, 64]⟩
abbrev S128x128 : Shape := ⟨2, ![128, 128]⟩
abbrev S1x128x128 : Shape := ⟨3, ![1, 128, 128]⟩
abbrev S4x32x128x4x64 : Shape := ⟨5, ![4, 32, 128, 4, 64]⟩
abbrev S4x4x32x64x128 : Shape := ⟨5, ![4, 4, 32, 64, 128]⟩
abbrev S128x4 : Shape := ⟨2, ![128, 4]⟩
abbrev S1x1x128x4x1 : Shape := ⟨5, ![1, 1, 128, 4, 1]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x256 : Shape := ⟨2, ![16384, 256]⟩

abbrev nBuf : Space → Nat
  | .hbm => 184
  | .vmem => 0
  | .smem => 0
  | _ => 0

abbrev hbmTy0_0 (i : Nat) : BufTy := match i % 128 with
  | 0 => ⟨S4x4096x1024, .f32⟩
  | 1 => ⟨S4x4096x512, .f32⟩
  | 2 => ⟨S4x4096x512, .f32⟩
  | 3 => ⟨S4x4096x256, .f32⟩
  | 4 => ⟨S4x4096x256, .f32⟩
  | 5 => ⟨S4x4096x256, .f32⟩
  | 6 => ⟨S4x4096x256, .f32⟩
  | 7 => ⟨S4x4096x256, .f32⟩
  | 8 => ⟨S4x64x64, .f32⟩
  | 9 => ⟨S256, .f32⟩
  | 10 => ⟨S256, .f32⟩
  | 11 => ⟨S4x128x128, .f32⟩
  | 12 => ⟨S4x128, .f32⟩
  | 13 => ⟨S1024x1024, .f32⟩
  | 14 => ⟨S1024, .f32⟩
  | 15 => ⟨S_, .f32⟩
  | 16 => ⟨S4x15x256, .f32⟩
  | 17 => ⟨S4x4111x256, .f32⟩
  | 18 => ⟨S_, .i32⟩
  | 19 => ⟨S_, .f32⟩
  | 20 => ⟨S4x4112x256, .f32⟩
  | 21 => ⟨S_, .f32⟩
  | 22 => ⟨S_, .f32⟩
  | 23 => ⟨S4x4112x256, .f32⟩
  | 24 => ⟨S4x4096x256, .f32⟩
  | 25 => ⟨S4096, .i32⟩
  | 26 => ⟨S_, .i32⟩
  | 27 => ⟨S4096, .i32⟩
  | 28 => ⟨S4096, .i32⟩
  | 29 => ⟨S4x4096x64, .f32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S4096, .f32⟩
  | 37 => ⟨S1x4096x1, .f32⟩
  | 38 => ⟨S4x4096x64, .f32⟩
  | 39 => ⟨S4x4096x64, .f32⟩
  | 40 => ⟨S4x4096x64, .f32⟩
  | 41 => ⟨S4x4096x64, .f32⟩
  | 42 => ⟨S4x4096x64, .f32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .f32⟩
  | 50 => ⟨S1x4096x1, .f32⟩
  | 51 => ⟨S4x4096x64, .f32⟩
  | 52 => ⟨S4x4096x64, .f32⟩
  | 53 => ⟨S4x4096x64, .f32⟩
  | 54 => ⟨S4x4096x64, .f32⟩
  | 55 => ⟨S4x4096x64, .f32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .f32⟩
  | 63 => ⟨S1x4096x1, .f32⟩
  | 64 => ⟨S4x4096x64, .f32⟩
  | 65 => ⟨S4x4096x64, .f32⟩
  | 66 => ⟨S4x4096x64, .f32⟩
  | 67 => ⟨S4x4096x64, .f32⟩
  | 68 => ⟨S4x4096x64, .f32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .f32⟩
  | 76 => ⟨S1x4096x1, .f32⟩
  | 77 => ⟨S4x4096x64, .f32⟩
  | 78 => ⟨S4x4096x64, .f32⟩
  | 79 => ⟨S4x4096x64, .f32⟩
  | 80 => ⟨S4x4096x64, .f32⟩
  | 81 => ⟨S4x4096x256, .f32⟩
  | 82 => ⟨S4x4096x256, .f32⟩
  | 83 => ⟨S4x4096x256, .f32⟩
  | 84 => ⟨S4x4096x4x64, .f32⟩
  | 85 => ⟨S4x64x4x4096, .f32⟩
  | 86 => ⟨S4x4096x4x64, .f32⟩
  | 87 => ⟨S4x4096x256, .f32⟩
  | 88 => ⟨S1x1x256, .f32⟩
  | 89 => ⟨S4x4096x256, .f32⟩
  | 90 => ⟨S4x4096x256, .f32⟩
  | 91 => ⟨S4x4096x4x64, .f32⟩
  | 92 => ⟨S4x4096x4x64, .f32⟩
  | 93 => ⟨S_, .f32⟩
  | 94 => ⟨S4x4096x4, .f32⟩
  | 95 => ⟨S4x4096x4x1, .f32⟩
  | 96 => ⟨S_, .f32⟩
  | 97 => ⟨S4x4096x4x1, .f32⟩
  | 98 => ⟨S4x4096x4x1, .f32⟩
  | 99 => ⟨S_, .f32⟩
  | 100 => ⟨S4x4096x4x1, .f32⟩
  | 101 => ⟨S4x4096x4x1, .f32⟩
  | 102 => ⟨S4x4096x4x1, .f32⟩
  | 103 => ⟨S4x4096x4x64, .f32⟩
  | 104 => ⟨S4x4096x4x64, .f32⟩
  | 105 => ⟨S4x64, .f32⟩
  | 106 => ⟨S1x1x4x64, .f32⟩
  | 107 => ⟨S4x4096x4x64, .f32⟩
  | 108 => ⟨S4x4096x4x64, .f32⟩
  | 109 => ⟨S_, .f32⟩
  | 110 => ⟨S128x128, .f32⟩
  | 111 => ⟨S128x128, .i32⟩
  | 112 => ⟨S_, .i32⟩
  | 113 => ⟨S128x128, .i32⟩
  | 114 => ⟨S128x128, .i32⟩
  | 115 => ⟨S128x128, .i32⟩
  | 116 => ⟨S128x128, .i1⟩
  | 117 => ⟨S_, .f32⟩
  | 118 => ⟨S128x128, .f32⟩
  | 119 => ⟨S128x128, .f32⟩
  | 120 => ⟨S1x128x128, .f32⟩
  | 121 => ⟨S4x128x128, .f32⟩
  | 122 => ⟨S4x128x128, .f32⟩
  | 123 => ⟨S4x32x128x4x64, .f32⟩
  | 124 => ⟨S4x4x32x64x128, .f32⟩
  | 125 => ⟨S4x32x128x4x64, .f32⟩
  | 126 => ⟨S128x4, .f32⟩
  | 127 => ⟨S1x1x128x4x1, .f32⟩
  | _ => ⟨S4x4096x1024, .f32⟩

abbrev hbmTy0_1 (i : Nat) : BufTy := match i % 128 with
  | 0 => ⟨S4x32x128x4x64, .f32⟩
  | 1 => ⟨S4x32x128x4x64, .f32⟩
  | 2 => ⟨S4x4096x256, .f32⟩
  | 3 => ⟨S4x4096x256, .f32⟩
  | 4 => ⟨S4x4096x256, .f32⟩
  | 5 => ⟨S4x4096x512, .f32⟩
  | 6 => ⟨S4x4096x512, .f32⟩
  | 7 => ⟨S_, .f32⟩
  | 8 => ⟨S4x4096x512, .f32⟩
  | 9 => ⟨S4x4096x512, .f32⟩
  | 10 => ⟨S_, .f32⟩
  | 11 => ⟨S4x4096x512, .f32⟩
  | 12 => ⟨S4x4096x512, .f32⟩
  | 13 => ⟨S4x4096x512, .f32⟩
  | 14 => ⟨S4x4096x512, .f32⟩
  | 15 => ⟨S4x4096x256, .f32⟩
  | 16 => ⟨S4x4096x256, .f32⟩
  | 17 => ⟨S_, .f32⟩
  | 18 => ⟨S4x4096x256, .f32⟩
  | 19 => ⟨S4x4096x256, .f32⟩
  | 20 => ⟨S_, .f32⟩
  | 21 => ⟨S4x4096x256, .f32⟩
  | 22 => ⟨S4x4096x256, .f32⟩
  | 23 => ⟨S4x4096x256, .f32⟩
  | 24 => ⟨S4x4096x256, .f32⟩
  | 25 => ⟨S4x4096x256, .f32⟩
  | 26 => ⟨S4x4096x256, .f32⟩
  | 27 => ⟨S_, .f32⟩
  | 28 => ⟨S4x4096x256, .f32⟩
  | 29 => ⟨S4x4096x256, .f32⟩
  | 30 => ⟨S_, .f32⟩
  | 31 => ⟨S4x4096x256, .f32⟩
  | 32 => ⟨S4x4096x256, .f32⟩
  | 33 => ⟨S4x4096x256, .f32⟩
  | 34 => ⟨S4x4096x256, .f32⟩
  | 35 => ⟨S4x4096x1024, .f32⟩
  | 36 => ⟨S4x4096x1024, .f32⟩
  | 37 => ⟨S4x4096x1024, .f32⟩
  | 38 => ⟨S_, .f32⟩
  | 39 => ⟨S4x4096, .f32⟩
  | 40 => ⟨S4x4096x1, .f32⟩
  | 41 => ⟨S_, .f32⟩
  | 42 => ⟨S4x4096x1, .f32⟩
  | 43 => ⟨S4x4096x1, .f32⟩
  | 44 => ⟨S_, .f32⟩
  | 45 => ⟨S4x4096x1, .f32⟩
  | 46 => ⟨S4x4096x1, .f32⟩
  | 47 => ⟨S4x4096x1, .f32⟩
  | 48 => ⟨S4x4096x1024, .f32⟩
  | 49 => ⟨S4x4096x1024, .f32⟩
  | 50 => ⟨S1x1x1024, .f32⟩
  | 51 => ⟨S4x4096x1024, .f32⟩
  | 52 => ⟨S4x4096x1024, .f32⟩
  | 53 => ⟨S4x4096x1024, .f32⟩
  | 54 => ⟨S16384x1024, .f32⟩
  | 55 => ⟨S16384x256, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_v2 : Ref sig .tc := ⟨.hbm, 20, rfl⟩
abbrev main_call1_call0_cst : Ref sig .tc := ⟨.hbm, 21, rfl⟩
abbrev main_call1_call0_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c_1 : Ref sig .tc := ⟨.hbm, 30, rfl⟩
abbrev main_v9 : Ref sig .tc := ⟨.hbm, 31, rfl⟩
abbrev main_v10 : Ref sig .tc := ⟨.hbm, 32, rfl⟩
abbrev main_c_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_7 : Ref sig .tc := ⟨.hbm, 69, rfl⟩
abbrev main_v42 : Ref sig .tc := ⟨.hbm, 70, rfl⟩
abbrev main_v43 : Ref sig .tc := ⟨.hbm, 71, rfl⟩
abbrev main_c_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_call2_v0 : Ref sig .tc := ⟨.hbm, 111, rfl⟩
abbrev main_call2_c : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_cst : Ref sig .tc := ⟨.hbm, 117, rfl⟩
abbrev main_call2_v5 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v92 : Ref sig .tc := ⟨.hbm, 141, rfl⟩
abbrev main_v93 : Ref sig .tc := ⟨.hbm, 142, rfl⟩
abbrev main_call4_v0 : Ref sig .tc := ⟨.hbm, 143, rfl⟩
abbrev main_call4_v1 : Ref sig .tc := ⟨.hbm, 144, rfl⟩
abbrev main_call4_cst : Ref sig .tc := ⟨.hbm, 145, rfl⟩
abbrev main_call4_v2 : Ref sig .tc := ⟨.hbm, 146, rfl⟩
abbrev main_call4_v3 : Ref sig .tc := ⟨.hbm, 147, rfl⟩
abbrev main_call4_cst_0 : Ref sig .tc := ⟨.hbm, 148, rfl⟩
abbrev main_call4_v4 : Ref sig .tc := ⟨.hbm, 149, rfl⟩
abbrev main_call4_v5 : Ref sig .tc := ⟨.hbm, 150, rfl⟩
abbrev main_v94 : Ref sig .tc := ⟨.hbm, 151, rfl⟩
abbrev main_v95 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_13 : Ref sig .tc := ⟨.hbm, 166, rfl⟩
abbrev main_v101 : Ref sig .tc := ⟨.hbm, 167, rfl⟩
abbrev main_v102 : Ref sig .tc := ⟨.hbm, 168, rfl⟩
abbrev main_cst_14 : Ref sig .tc := ⟨.hbm, 169, rfl⟩
abbrev main_v103 : Ref sig .tc := ⟨.hbm, 170, rfl⟩
abbrev main_v104 : Ref sig .tc := ⟨.hbm, 171, rfl⟩
abbrev main_cst_15 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩

abbrev nD : Nat := 1
abbrev τ : Topo := Topo.v7x

variable {F : FTy → Type} [FloatOps F]
-- ==== Kernel4.lean ====
abbrev S128x1x1024 : Shape := ⟨3, ![128, 1, 1024]⟩
abbrev S1024 : Shape := ⟨1, ![1024]⟩
abbrev S1024x3096 : Shape := ⟨2, ![1024, 3096]⟩
abbrev S128x1024 : Shape := ⟨2, ![128, 1024]⟩
abbrev S1x1024 : Shape := ⟨2, ![1, 1024]⟩
abbrev S1024x24 : Shape := ⟨2, ![1024, 24]⟩
abbrev S_ : Shape := ⟨0, ![]⟩
abbrev S1024x128 : Shape := ⟨2, ![1024, 128]⟩
abbrev S1024x512 : Shape := ⟨2, ![1024, 512]⟩
abbrev S1024x256 : Shape := ⟨2, ![1024, 256]⟩
abbrev S1024x3200 : Shape := ⟨2, ![1024, 3200]⟩
abbrev S128x512 : Shape := ⟨2, ![128, 512]⟩
abbrev S1x256x128 : Shape := ⟨3, ![1, 256, 128]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S256x128 : Shape := ⟨2, ![256, 128]⟩

abbrev nBuf : Space → Nat
  | .hbm => 35
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x3096, .f32⟩
  | .hbm, ⟨3, _⟩ => ⟨S128x1024, .f32⟩
  | .hbm, ⟨4, _⟩ => ⟨S1x1024, .f32⟩
  | .hbm, ⟨5, _⟩ => ⟨S1024x24, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x512, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x3200, .f32⟩
  | .hbm, ⟨20, _⟩ => ⟨S1024x3200, .bf16⟩
  | .hbm, ⟨21, _⟩ => ⟨S128x512, .f32⟩
  | .hbm, ⟨22, _⟩ => ⟨S1x256x128, .f32⟩
  | .hbm, ⟨23, _⟩ => ⟨S128x256, .f32⟩
  | .hbm, ⟨24, _⟩ => ⟨S1x256x128, .f32⟩
  | .hbm, ⟨25, _⟩ => ⟨S128x256, .f32⟩
  | .hbm, ⟨26, _⟩ => ⟨S1x256x128, .f32⟩
  | .hbm, ⟨27, _⟩ => ⟨S128x256, .f32⟩
  | .hbm, ⟨28, _⟩ => ⟨S128x512, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x3200, .bf16⟩
  | .local _ .vmem, ⟨3, _⟩ => ⟨S128x512, .f32⟩
  | .local _ .vmem, ⟨4, _⟩ => ⟨S1x256x128, .f32⟩
  | .local _ .vmem, ⟨5, _⟩ => ⟨S128x256, .f32⟩
  | .local _ .vmem, ⟨6, _⟩ => ⟨S1x256x128, .f32⟩
  | .local _ .vmem, ⟨7, _⟩ => ⟨S128x256, .f32⟩
  | .local _ .vmem, ⟨8, _⟩ => ⟨S1x256x128, .f32⟩
  | .local _ .vmem, ⟨9, _⟩ => ⟨S128x256, .f32⟩
  | .local _ .vmem, ⟨10, _⟩ => ⟨S128x512, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev main_v16_6 : Ref sig .tc := ⟨.hbm, 27, rfl⟩
abbrev main_v16_7 : Ref sig .tc := ⟨.hbm, 28, rfl⟩
abbrev main_v16_8 : Ref sig .tc := ⟨.hbm, 29, rfl⟩
abbrev main_v16_9 : Ref sig .tc := ⟨.hbm, 30, rfl⟩
abbrev main_v16_10 : Ref sig .tc := ⟨.hbm, 31, rfl⟩
abbrev main_v16_11 : Ref sig .tc := ⟨.hbm, 32, rfl⟩
abbrev main_v16_12 : Ref sig .tc := ⟨.hbm, 33, rfl⟩
abbrev main_v16_13 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference4Ideal.lean ====
abbrev S128x1x1024 : Shape := ⟨3, ![128, 1, 1024]⟩
abbrev S1024 : Shape := ⟨1, ![1024]⟩
abbrev S1024x3096 : Shape := ⟨2, ![1024, 3096]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3096 : Shape := ⟨3, ![128, 1, 3096]⟩
abbrev S128x1x512 : Shape := ⟨3, ![128, 1, 512]⟩
abbrev S128x1x256 : Shape := ⟨3, ![128, 1, 256]⟩
abbrev S128x1x24 : Shape := ⟨3, ![128, 1, 24]⟩
abbrev S128x1x128 : Shape := ⟨3, ![128, 1, 128]⟩
abbrev S128x512 : Shape := ⟨2, ![128, 512]⟩
abbrev S1x256x128 : Shape := ⟨3, ![1, 256, 128]⟩
abbrev S128x256 : Shape := ⟨2, ![128, 256]⟩
abbrev S128x128 : Shape := ⟨2, ![128, 128]⟩

abbrev nBuf : Space → Nat
  | .hbm => 48
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x3096, .f32⟩
  | .hbm, ⟨3, _⟩ => ⟨S128x1x1024, .f32⟩
  | .hbm, ⟨4, _⟩ => ⟨S_, .f32⟩
  | .hbm, ⟨5, _⟩ => ⟨S128x1, .f32⟩
  | .hbm, ⟨6, _⟩ => ⟨S128x1x1, .f32⟩
  | .hbm, ⟨7, _⟩ => ⟨S_, .f32⟩
  | .hbm, ⟨8, _⟩ => ⟨S128x1x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S128x1x1, .f32⟩
  | .hbm, ⟨14, _⟩ => ⟨S128x1x1024, .f32⟩
  | .hbm, ⟨15, _⟩ => ⟨S128x1x1024, .f32⟩
  | .hbm, ⟨16, _⟩ => ⟨S1x1x1024, .f32⟩
  | .hbm, ⟨17, _⟩ => ⟨S128x1x1024, .f32⟩
  | .hbm, ⟨18, _⟩ => ⟨S128x1x1024, .f32⟩
  | .hbm, ⟨19, _⟩ => ⟨S128x1x3096, .f32⟩
  | .hbm, ⟨20, _⟩ => ⟨S128x1x512, .f32⟩
  | .hbm, ⟨21, _⟩ => ⟨S128x1x256, .f32⟩
  | .hbm, ⟨22, _⟩ => ⟨S128x1x256, .f32⟩
  | .hbm, ⟨23, _⟩ => ⟨S128x1x256, .f32⟩
  | .hbm, ⟨24, _⟩ => ⟨S128x1x24, .f32⟩
  | .hbm, ⟨25, _⟩ => ⟨S128x1x512, .f32⟩
  | .hbm, ⟨26, _⟩ => ⟨S128x1x256, .f32⟩
  | .hbm, ⟨27, _⟩ => ⟨S128x1x256, .f32⟩
  | .hbm, ⟨28, _⟩ => ⟨S128x1x256, .f32⟩
  | .hbm, ⟨29, _⟩ => ⟨S128x1x256, .f32⟩
  | .hbm, ⟨30, _⟩ => ⟨S128x1x256, .f32⟩
  | .hbm, ⟨31, _⟩ => ⟨S_, .i32⟩
  | .hbm, ⟨32, _⟩ => ⟨S_, .f32⟩
  | .hbm, ⟨33, _⟩ => ⟨S128x1x128, .f32⟩
  | .hbm, ⟨34, _⟩ => ⟨S128x512, .f32⟩
  | .hbm, ⟨35, _⟩ => ⟨S1x256x128, .f32⟩
  | .hbm, ⟨36, _⟩ => ⟨S128x256, .f32⟩
  | .hbm, ⟨37, _⟩ => ⟨S1x256x128, .f32⟩
  | .hbm, ⟨38, _⟩ => ⟨S128x256, .f32⟩
  | .hbm, ⟨39, _⟩ => ⟨S1x256x128, .f32⟩
  | .hbm, ⟨40, _⟩ => ⟨S128x256, .f32⟩
  | .hbm, ⟨41, _⟩ => ⟨S128x512, .f32⟩
  | .hbm, ⟨42, _⟩ => ⟨S128x256, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S128x256, .f32⟩
  | .hbm, ⟨47, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel5.lean ====
abbrev S128x1x1024 : Shape := ⟨3, ![128, 1, 1024]⟩
abbrev S128x1x512 : Shape := ⟨3, ![128, 1, 512]⟩
abbrev S128x1x256 : Shape := ⟨3, ![128, 1, 256]⟩
abbrev S128x15x256 : Shape := ⟨3, ![128, 15, 256]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64x64 : Shape := ⟨3, ![1, 64, 64]⟩
abbrev S64x256 : Shape := ⟨2, ![64, 256]⟩
abbrev S1x256 : Shape := ⟨2, ![1, 256]⟩
abbrev S4x1x1 : Shape := ⟨3, ![4, 1, 1]⟩
abbrev S4 : Shape := ⟨1, ![4]⟩
abbrev S4x64 : Shape := ⟨2, ![4, 64]⟩
abbrev S4x1 : Shape := ⟨2, ![4, 1]⟩
abbrev S1x1024 : Shape := ⟨2, ![1, 1024]⟩
abbrev S128x512 : Shape := ⟨2, ![128, 512]⟩
abbrev S128x256 : Shape := ⟨2, ![128, 256]⟩
abbrev S15x128x256 : Shape := ⟨3, ![15, 128, 256]⟩
abbrev S128x1024 : Shape := ⟨2, ![128, 1024]⟩
abbrev S1x128x256 : Shape := ⟨3, ![1, 128, 256]⟩
abbrev S512x1024 : Shape := ⟨2, ![512, 1024]⟩
abbrev S256x1024 : Shape := ⟨2, ![256, 1024]⟩
abbrev S128 : Shape := ⟨1, ![128]⟩
abbrev S128x1 : Shape := ⟨2, ![128, 1]⟩

abbrev nBuf : Space → Nat
  | .hbm => 75
  | .vmem => 19
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x512, .f32⟩
  | .hbm, ⟨3, _⟩ => ⟨S128x1x256, .f32⟩
  | .hbm, ⟨4, _⟩ => ⟨S128x15x256, .f32⟩
  | .hbm, ⟨5, _⟩ => ⟨S128x1x256, .f32⟩
  | .hbm, ⟨6, _⟩ => ⟨S128x1x256, .f32⟩
  | .hbm, ⟨7, _⟩ => ⟨S128x1x256, .f32⟩
  | .hbm, ⟨8, _⟩ => ⟨S128x1x256, .f32⟩
  | .hbm, ⟨9, _⟩ => ⟨S4x64x64, .f32⟩
  | .hbm, ⟨10, _⟩ => ⟨S256, .f32⟩
  | .hbm, ⟨11, _⟩ => ⟨S256, .f32⟩
  | .hbm, ⟨12, _⟩ => ⟨S4x128x128, .f32⟩
  | .hbm, ⟨13, _⟩ => ⟨S4x128, .f32⟩
  | .hbm, ⟨14, _⟩ => ⟨S1024x1024, .f32⟩
  | .hbm, ⟨15, _⟩ => ⟨S1024, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S_, .f32⟩
  | .hbm, ⟨24, _⟩ => ⟨S64x64, .f32⟩
  | .hbm, ⟨25, _⟩ => ⟨S4x1x4x1, .f32⟩
  | .hbm, ⟨26, _⟩ => ⟨S1x64x1x64, .f32⟩
  | .hbm, ⟨27, _⟩ => ⟨S4x64x4x64, .f32⟩
  | .hbm, ⟨28, _⟩ => ⟨S4x64x4x64, .f32⟩
  | .hbm, ⟨29, _⟩ => ⟨S4x64x4x64, .f32⟩
  | .hbm, ⟨30, _⟩ => ⟨S256x256, .f32⟩
  | .hbm, ⟨31, _⟩ => ⟨S256x256, .bf16⟩
  | .hbm, ⟨32, _⟩ => ⟨S1x64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S1x64x64, .f32⟩
  | .hbm, ⟨37, _⟩ => ⟨S64x64, .f32⟩
  | .hbm, ⟨38, _⟩ => ⟨S64x256, .f32⟩
  | .hbm, ⟨39, _⟩ => ⟨S1x64x64, .f32⟩
  | .hbm, ⟨40, _⟩ => ⟨S64x64, .f32⟩
  | .hbm, ⟨41, _⟩ => ⟨S64x256, .f32⟩
  | .hbm, ⟨42, _⟩ => ⟨S1x64x64, .f32⟩
  | .hbm, ⟨43, _⟩ => ⟨S64x64, .f32⟩
  | .hbm, ⟨44, _⟩ => ⟨S64x256, .f32⟩
  | .hbm, ⟨45, _⟩ => ⟨S1x64x64, .f32⟩
  | .hbm, ⟨46, _⟩ => ⟨S64x64, .f32⟩
  | .hbm, ⟨47, _⟩ => ⟨S64x256, .f32⟩
  | .hbm, ⟨48, _⟩ => ⟨S256x256, .f32⟩
  | .hbm, ⟨49, _⟩ => ⟨S256x256, .bf16⟩
  | .hbm, ⟨50, _⟩ => ⟨S1x256, .f32⟩
  | .hbm, ⟨51, _⟩ => ⟨S1x256, .f32⟩
  | .hbm, ⟨52, _⟩ => ⟨S4x1x1, .f32⟩
  | .hbm, ⟨53, _⟩ => ⟨S4, .f32⟩
  | .hbm, ⟨54, _⟩ => ⟨S4x64, .f32⟩
  | .hbm, ⟨55, _⟩ => ⟨S256, .f32⟩
  | .hbm, ⟨56, _⟩ => ⟨S1x256, .f32⟩
  | .hbm, ⟨57, _⟩ => ⟨S4x1, .f32⟩
  | .hbm, ⟨58, _⟩ => ⟨S4, .f32⟩
  | .hbm, ⟨59, _⟩ => ⟨S4x64, .f32⟩
  | .hbm, ⟨60, _⟩ => ⟨S256, .f32⟩
  | .hbm, ⟨61, _⟩ => ⟨S1x256, .f32⟩
  | .hbm, ⟨62, _⟩ => ⟨S1024x1024, .bf16⟩
  | .hbm, ⟨63, _⟩ => ⟨S1x1024, .f32⟩
  | .hbm, ⟨64, _⟩ => ⟨S128x512, .f32⟩
  | .hbm, ⟨65, _⟩ => ⟨S128x256, .f32⟩
  | .hbm, ⟨66, _⟩ => ⟨S128x256, .f32⟩
  | .hbm, ⟨67, _⟩ => ⟨S128x256, .f32⟩
  | .hbm, ⟨68, _⟩ => ⟨S128x256, .f32⟩
  | .hbm, ⟨69, _⟩ => ⟨S128x256, .f32⟩
  | .hbm, ⟨70, _⟩ => ⟨S15x128x256, .f32⟩
  | .hbm, ⟨71, _⟩ => ⟨S128x1024, .f32⟩
  | .hbm, ⟨72, _⟩ => ⟨S128x512, .f32⟩
  | .hbm, ⟨73, _⟩ => ⟨S128x1024, .f32⟩
  | .hbm, ⟨74, _⟩ => ⟨S128x256, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x256, .f32⟩
  | .local _ .vmem, ⟨4, _⟩ => ⟨S15x128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S256x256, .bf16⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S1x256, .f32⟩
  | .local _ .vmem, ⟨15, _⟩ => ⟨S1024x1024, .bf16⟩
  | .local _ .vmem, ⟨16, _⟩ => ⟨S1x1024, .f32⟩
  | .local _ .vmem, ⟨17, _⟩ => ⟨S128x1024, .f32⟩
  | .local _ .vmem, ⟨18, _⟩ => ⟨S128x256, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49_0 : Ref sig .tc := ⟨.hbm, 73, rfl⟩
abbrev main_v49_1 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference5Ideal.lean ====
abbrev S128x1x1024 : Shape := ⟨3, ![128, 1, 1024]⟩
abbrev S128x1x512 : Shape := ⟨3, ![128, 1, 512]⟩
abbrev S128x1x256 : Shape := ⟨3, ![128, 1, 256]⟩
abbrev S128x15x256 : Shape := ⟨3, ![128, 15, 256]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S128x16x256 : Shape := ⟨3, ![128, 16, 256]⟩
abbrev S_ : Shape := ⟨0, ![]⟩
abbrev S128x17x256 : Shape := ⟨3, ![128, 17, 256]⟩
abbrev S1 : Shape := ⟨1, ![1]⟩
abbrev S128x1x64 : Shape := ⟨3, ![128, 1, 64]⟩
abbrev S1x1x1 : Shape := ⟨3, ![1, 1, 1]⟩
abbrev S128x1x4x64 : Shape := ⟨4, ![128, 1, 4, 64]⟩
abbrev S4x64x128x1 : Shape := ⟨4, ![4, 64, 128, 1]⟩
abbrev S1x1x256 : Shape := ⟨3, ![1, 1, 256]⟩
abbrev S128x1x4 : Shape := ⟨3, ![128, 1, 4]⟩
abbrev S128x1x4x1 : Shape := ⟨4, ![128, 1, 4, 1]⟩
abbrev S4x64 : Shape := ⟨2, ![4, 64]⟩
abbrev S1x1x4x64 : Shape := ⟨4, ![1, 1, 4, 64]⟩
abbrev S4x1x1 : Shape := ⟨3, ![4, 1, 1]⟩
abbrev S1x1 : Shape := ⟨2, ![1, 1]⟩
abbrev S128x1x1x4x64 : Shape := ⟨5, ![128, 1, 1, 4, 64]⟩
abbrev S4x128x1x64x1 : Shape := ⟨5, ![4, 128, 1, 64, 1]⟩
abbrev S4x1 : Shape := ⟨2, ![4, 1]⟩
abbrev S1x4 : Shape := ⟨2, ![1, 4]⟩
abbrev S1x1x1x4x1 : Shape := ⟨5, ![1, 1, 1, 4, 1]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩
abbrev S128x256 : Shape := ⟨2, ![128, 256]⟩

abbrev nBuf : Space → Nat
  | .hbm => 185
  | .vmem => 0
  | .smem => 0
  | _ => 0

abbrev hbmTy0_0 (i : Nat) : BufTy := match i % 128 with
  | 0 => ⟨S128x1x1024, .f32⟩
  | 1 => ⟨S128x1x512, .f32⟩
  | 2 => ⟨S128x1x512, .f32⟩
  | 3 => ⟨S128x1x256, .f32⟩
  | 4 => ⟨S128x15x256, .f32⟩
  | 5 => ⟨S128x1x256, .f32⟩
  | 6 => ⟨S128x1x256, .f32⟩
  | 7 => ⟨S128x1x256, .f32⟩
  | 8 => ⟨S128x1x256, .f32⟩
  | 9 => ⟨S4x64x64, .f32⟩
  | 10 => ⟨S256, .f32⟩
  | 11 => ⟨S256, .f32⟩
  | 12 => ⟨S4x128x128, .f32⟩
  | 13 => ⟨S4x128, .f32⟩
  | 14 => ⟨S1024x1024, .f32⟩
  | 15 => ⟨S1024, .f32⟩
  | 16 => ⟨S128x16x256, .f32⟩
  | 17 => ⟨S_, .i32⟩
  | 18 => ⟨S_, .f32⟩
  | 19 => ⟨S128x17x256, .f32⟩
  | 20 => ⟨S_, .f32⟩
  | 21 => ⟨S_, .f32⟩
  | 22 => ⟨S128x17x256, .f32⟩
  | 23 => ⟨S128x1x256, .f32⟩
  | 24 => ⟨S1, .i32⟩
  | 25 => ⟨S_, .i32⟩
  | 26 => ⟨S1, .i32⟩
  | 27 => ⟨S1, .i32⟩
  | 28 => ⟨S128x1x64, .f32⟩
  | 29 => ⟨S_, .i32⟩
  | 30 => ⟨S1, .i32⟩
  | 31 => ⟨S1, .i32⟩
  | 32 => ⟨S_, .i32⟩
  | 33 => ⟨S1, .i32⟩
  | 34 => ⟨S1, .i32⟩
  | 35 => ⟨S1, .f32⟩
  | 36 => ⟨S1x1x1, .f32⟩
  | 37 => ⟨S128x1x64, .f32⟩
  | 38 => ⟨S128x1x64, .f32⟩
  | 39 => ⟨S128x1x64, .f32⟩
  | 40 => ⟨S128x1x64, .f32⟩
  | 41 => ⟨S128x1x64, .f32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .f32⟩
  | 49 => ⟨S1x1x1, .f32⟩
  | 50 => ⟨S128x1x64, .f32⟩
  | 51 => ⟨S128x1x64, .f32⟩
  | 52 => ⟨S128x1x64, .f32⟩
  | 53 => ⟨S128x1x64, .f32⟩
  | 54 => ⟨S128x1x64, .f32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .f32⟩
  | 62 => ⟨S1x1x1, .f32⟩
  | 63 => ⟨S128x1x64, .f32⟩
  | 64 => ⟨S128x1x64, .f32⟩
  | 65 => ⟨S128x1x64, .f32⟩
  | 66 => ⟨S128x1x64, .f32⟩
  | 67 => ⟨S128x1x64, .f32⟩
  | 68 => ⟨S_, .i32⟩
  | 69 => ⟨S1, .i32⟩
  | 70 => ⟨S1, .i32⟩
  | 71 => ⟨S_, .i32⟩
  | 72 => ⟨S1, .i32⟩
  | 73 => ⟨S1, .i32⟩
  | 74 => ⟨S1, .f32⟩
  | 75 => ⟨S1x1x1, .f32⟩
  | 76 => ⟨S128x1x64, .f32⟩
  | 77 => ⟨S128x1x64, .f32⟩
  | 78 => ⟨S128x1x64, .f32⟩
  | 79 => ⟨S128x1x64, .f32⟩
  | 80 => ⟨S128x1x256, .f32⟩
  | 81 => ⟨S128x1x256, .f32⟩
  | 82 => ⟨S128x1x256, .f32⟩
  | 83 => ⟨S128x1x4x64, .f32⟩
  | 84 => ⟨S4x64x128x1, .f32⟩
  | 85 => ⟨S128x1x4x64, .f32⟩
  | 86 => ⟨S128x1x256, .f32⟩
  | 87 => ⟨S1x1x256, .f32⟩
  | 88 => ⟨S128x1x256, .f32⟩
  | 89 => ⟨S128x1x256, .f32⟩
  | 90 => ⟨S128x1x4x64, .f32⟩
  | 91 => ⟨S128x1x4x64, .f32⟩
  | 92 => ⟨S_, .f32⟩
  | 93 => ⟨S128x1x4, .f32⟩
  | 94 => ⟨S128x1x4x1, .f32⟩
  | 95 => ⟨S_, .f32⟩
  | 96 => ⟨S128x1x4x1, .f32⟩
  | 97 => ⟨S128x1x4x1, .f32⟩
  | 98 => ⟨S_, .f32⟩
  | 99 => ⟨S128x1x4x1, .f32⟩
  | 100 => ⟨S128x1x4x1, .f32⟩
  | 101 => ⟨S128x1x4x1, .f32⟩
  | 102 => ⟨S128x1x4x64, .f32⟩
  | 103 => ⟨S128x1x4x64, .f32⟩
  | 104 => ⟨S4x64, .f32⟩
  | 105 => ⟨S1x1x4x64, .f32⟩
  | 106 => ⟨S128x1x4x64, .f32⟩
  | 107 => ⟨S128x1x4x64, .f32⟩
  | 108 => ⟨S4x1x1, .f32⟩
  | 109 => ⟨S_, .f32⟩
  | 110 => ⟨S1x1, .f32⟩
  | 111 => ⟨S1x1, .i32⟩
  | 112 => ⟨S_, .i32⟩
  | 113 => ⟨S1x1, .i32⟩
  | 114 => ⟨S1x1, .i32⟩
  | 115 => ⟨S1x1, .i32⟩
  | 116 => ⟨S1x1, .i1⟩
  | 117 => ⟨S_, .f32⟩
  | 118 => ⟨S1x1, .f32⟩
  | 119 => ⟨S1x1, .f32⟩
  | 120 => ⟨S1x1x1, .f32⟩
  | 121 => ⟨S4x1x1, .f32⟩
  | 122 => ⟨S4x1x1, .f32⟩
  | 123 => ⟨S128x1x1x4x64, .f32⟩
  | 124 => ⟨S4x128x1x64x1, .f32⟩
  | 125 => ⟨S128x1x1x4x64, .f32⟩
  | 126 => ⟨S4x1, .f32⟩
  | 127 => ⟨S1x4, .f32⟩
  | _ => ⟨S128x1x1024, .f32⟩

abbrev hbmTy0_1 (i : Nat) : BufTy := match i % 128 with
  | 0 => ⟨S1x1x1x4x1, .f32⟩
  | 1 => ⟨S128x1x1x4x64, .f32⟩
  | 2 => ⟨S128x1x1x4x64, .f32⟩
  | 3 => ⟨S128x1x256, .f32⟩
  | 4 => ⟨S128x1x256, .f32⟩
  | 5 => ⟨S128x1x256, .f32⟩
  | 6 => ⟨S128x1x512, .f32⟩
  | 7 => ⟨S128x1x512, .f32⟩
  | 8 => ⟨S_, .f32⟩
  | 9 => ⟨S128x1x512, .f32⟩
  | 10 => ⟨S128x1x512, .f32⟩
  | 11 => ⟨S_, .f32⟩
  | 12 => ⟨S128x1x512, .f32⟩
  | 13 => ⟨S128x1x512, .f32⟩
  | 14 => ⟨S128x1x512, .f32⟩
  | 15 => ⟨S128x1x512, .f32⟩
  | 16 => ⟨S128x1x256, .f32⟩
  | 17 => ⟨S128x1x256, .f32⟩
  | 18 => ⟨S_, .f32⟩
  | 19 => ⟨S128x1x256, .f32⟩
  | 20 => ⟨S128x1x256, .f32⟩
  | 21 => ⟨S_, .f32⟩
  | 22 => ⟨S128x1x256, .f32⟩
  | 23 => ⟨S128x1x256, .f32⟩
  | 24 => ⟨S128x1x256, .f32⟩
  | 25 => ⟨S128x1x256, .f32⟩
  | 26 => ⟨S128x1x256, .f32⟩
  | 27 => ⟨S128x1x256, .f32⟩
  | 28 => ⟨S_, .f32⟩
  | 29 => ⟨S128x1x256, .f32⟩
  | 30 => ⟨S128x1x256, .f32⟩
  | 31 => ⟨S_, .f32⟩
  | 32 => ⟨S128x1x256, .f32⟩
  | 33 => ⟨S128x1x256, .f32⟩
  | 34 => ⟨S128x1x256, .f32⟩
  | 35 => ⟨S128x1x256, .f32⟩
  | 36 => ⟨S128x1x1024, .f32⟩
  | 37 => ⟨S128x1x1024, .f32⟩
  | 38 => ⟨S128x1x1024, .f32⟩
  | 39 => ⟨S_, .f32⟩
  | 40 => ⟨S128x1, .f32⟩
  | 41 => ⟨S128x1x1, .f32⟩
  | 42 => ⟨S_, .f32⟩
  | 43 => ⟨S128x1x1, .f32⟩
  | 44 => ⟨S128x1x1, .f32⟩
  | 45 => ⟨S_, .f32⟩
  | 46 => ⟨S128x1x1, .f32⟩
  | 47 => ⟨S128x1x1, .f32⟩
  | 48 => ⟨S128x1x1, .f32⟩
  | 49 => ⟨S128x1x1024, .f32⟩
  | 50 => ⟨S128x1x1024, .f32⟩
  | 51 => ⟨S1x1x1024, .f32⟩
  | 52 => ⟨S128x1x1024, .f32⟩
  | 53 => ⟨S128x1x1024, .f32⟩
  | 54 => ⟨S128x1x1024, .f32⟩
  | 55 => ⟨S128x1024, .f32⟩
  | 56 => ⟨S128x256, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_call1_call0_cst : Ref sig .tc := ⟨.hbm, 20, rfl⟩
abbrev main_call1_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_c_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_call2_v0 : Ref sig .tc := ⟨.hbm, 111, rfl⟩
abbrev main_call2_c : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_cst : Ref sig .tc := ⟨.hbm, 117, rfl⟩
abbrev main_call2_v5 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call3_v0 : Ref sig .tc := ⟨.hbm, 134, rfl⟩
abbrev main_call3_v1 : Ref sig .tc := ⟨.hbm, 135, rfl⟩
abbrev main_call3_cst : Ref sig .tc := ⟨.hbm, 136, rfl⟩
abbrev main_call3_v2 : Ref sig .tc := ⟨.hbm, 137, rfl⟩
abbrev main_call3_v3 : Ref sig .tc := ⟨.hbm, 138, rfl⟩
abbrev main_call3_cst_0 : Ref sig .tc := ⟨.hbm, 139, rfl⟩
abbrev main_call3_v4 : Ref sig .tc := ⟨.hbm, 140, rfl⟩
abbrev main_call3_v5 : Ref sig .tc := ⟨.hbm, 141, rfl⟩
abbrev main_v93 : Ref sig .tc := ⟨.hbm, 142, rfl⟩
abbrev main_v94 : Ref sig .tc := ⟨.hbm, 143, rfl⟩
abbrev main_call4_v0 : Ref sig .tc := ⟨.hbm, 144, rfl⟩
abbrev main_call4_v1 : Ref sig .tc := ⟨.hbm, 145, rfl⟩
abbrev main_call4_cst : Ref sig .tc := ⟨.hbm, 146, rfl⟩
abbrev main_call4_v2 : Ref sig .tc := ⟨.hbm, 147, rfl⟩
abbrev main_call4_v3 : Ref sig .tc := ⟨.hbm, 148, rfl⟩
abbrev main_call4_cst_0 : Ref sig .tc := ⟨.hbm, 149, rfl⟩
abbrev main_call4_v4 : Ref sig .tc := ⟨.hbm, 150, rfl⟩
abbrev main_call4_v5 : Ref sig .tc := ⟨.hbm, 151, rfl⟩
abbrev main_v95 : Ref sig .tc := ⟨.hbm, 152, rfl⟩
abbrev main_v96 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_cst_12 : Ref sig .tc := ⟨.hbm, 167, rfl⟩
abbrev main_v102 : Ref sig .tc := ⟨.hbm, 168, rfl⟩
abbrev main_v103 : Ref sig .tc := ⟨.hbm, 169, rfl⟩
abbrev main_cst_13 : Ref sig .tc := ⟨.hbm, 170, rfl⟩
abbrev main_v104 : Ref sig .tc := ⟨.hbm, 171, rfl⟩
abbrev main_v105 : Ref sig .tc := ⟨.hbm, 172, rfl⟩
abbrev main_cst_14 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩

abbrev nD : Nat := 1
abbrev τ : Topo := Topo.v7x

variable {F : FTy → Type} [FloatOps F]
-- ==== Kernel6.lean ====
abbrev S2x128x512x2x2x64 : Shape := ⟨6, ![2, 128, 512, 2, 2, 64]⟩
abbrev S2x128x1x256 : Shape := ⟨4, ![2, 128, 1, 256]⟩
abbrev S2x128x2x2x64x512 : Shape := ⟨6, ![2, 128, 2, 2, 64, 512]⟩
abbrev S2x128x256x512 : Shape := ⟨4, ![2, 128, 256, 512]⟩
abbrev S1x8x256x512 : Shape := ⟨4, ![1, 8, 256, 512]⟩
abbrev S1x8x1x256 : Shape := ⟨4, ![1, 8, 1, 256]⟩
abbrev S256x512 : Shape := ⟨2, ![256, 512]⟩
abbrev S1x1x1x256 : Shape := ⟨4, ![1, 1, 1, 256]⟩
abbrev S1x256 : Shape := ⟨2, ![1, 256]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S256x1 : Shape := ⟨2, ![256, 1]⟩
abbrev S1x1x256x512 : Shape := ⟨4, ![1, 1, 256, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x128x512x2x2x64, .f32⟩
  | .hbm, ⟨1, _⟩ => ⟨S2x128x1x256, .f32⟩
  | .hbm, ⟨2, _⟩ => ⟨S2x128x2x2x64x512, .f32⟩
  | .hbm, ⟨3, _⟩ => ⟨S2x128x256x512, .f32⟩
  | .hbm, ⟨4, _⟩ => ⟨S2x128x256x512, .f32⟩
  | .local _ .vmem, ⟨0, _⟩ => ⟨S1x8x256x512, .f32⟩
  | .local _ .vmem, ⟨1, _⟩ => ⟨S1x8x256x512, .f32⟩
  | .local _ .vmem, ⟨2, _⟩ => ⟨S1x8x1x256, .f32⟩
  | .local _ .vmem, ⟨3, _⟩ => ⟨S1x8x1x256, .f32⟩
  | .local _ .vmem, ⟨4, _⟩ => ⟨S1x8x256x512, .f32⟩
  | .local _ .vmem, ⟨5, _⟩ => ⟨S1x8x256x512, .f32⟩
  | _, _ => ⟨S2x128x512x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x128x512x2x2x64 : Shape := ⟨6, ![2, 128, 512, 2, 2, 64]⟩
abbrev S2x128x1x256 : Shape := ⟨4, ![2, 128, 1, 256]⟩
abbrev S2x128x1x2x2x64 : Shape := ⟨6, ![2, 128, 1, 2, 2, 64]⟩
abbrev S2x128x513x2x2x64 : Shape := ⟨6, ![2, 128, 513, 2, 2, 64]⟩
abbrev S2x128x2x2x64x512 : Shape := ⟨6, ![2, 128, 2, 2, 64, 512]⟩
abbrev S2x128x256x512 : Shape := ⟨4, ![2, 128, 256, 512]⟩

abbrev nBuf : Space → Nat
  | .hbm => 7
  | .vmem => 0
  | .smem => 0
  | _ => 0

abbrev bufTy : (tb : Table) → Fin (tcTables nBuf tb) → BufTy
  | .hbm, ⟨0, _⟩ => ⟨S2x128x512x2x2x64, .f32⟩
  | .hbm, ⟨1, _⟩ => ⟨S2x128x1x256, .f32⟩
  | .hbm, ⟨2, _⟩ => ⟨S2x128x1x2x2x64, .f32⟩
  | .hbm, ⟨3, _⟩ => ⟨S2x128x513x2x2x64, .f32⟩
  | .hbm, ⟨4, _⟩ => ⟨S2x128x512x2x2x64, .f32⟩
  | .hbm, ⟨5, _⟩ => ⟨S2x128x2x2x64x512, .f32⟩
  | .hbm, ⟨6, _⟩ => ⟨S2x128x256x512, .f32⟩
  | _, _ => ⟨S2x128x512x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4x4096x2x2x64 : Shape := ⟨5, ![4, 4096, 2, 2, 64]⟩
abbrev S2x64x64 : Shape := ⟨3, ![2, 64, 64]⟩
abbrev S1x64x64 : Shape := ⟨3, ![1, 64, 64]⟩
abbrev S64x64 : Shape := ⟨2, ![64, 64]⟩
abbrev S256x64 : Shape := ⟨2, ![256, 64]⟩
abbrev S256x128 : Shape := ⟨2, ![256, 128]⟩
abbrev S_ : Shape := ⟨0, ![]⟩
abbrev S64x256 : Shape := ⟨2, ![64, 256]⟩
abbrev S256x256 : Shape := ⟨2, ![256, 256]⟩
abbrev S4x4096x256 : Shape := ⟨3, ![4, 4096, 256]⟩
abbrev S4x256x4096 : Shape := ⟨3, ![4, 256, 4096]⟩
abbrev S1x256x1024 : Shape := ⟨3, ![1, 256, 1024]⟩
abbrev S16x256 : Shape := ⟨2, ![16, 256]⟩
abbrev S256x1024 : Shape := ⟨2, ![256, 1024]⟩
abbrev S1024x256 : Shape := ⟨2, ![1024, 256]⟩
abbrev S16x64x256 : Shape := ⟨3, ![16, 64, 256]⟩

abbrev nBuf : Space → Nat
  | .hbm => 53
  | .vmem => 7
  | .smem => 0
  | _ => 0

abbrev bufTy : (tb : Table) → Fin (tcTables nBuf tb) → BufTy
  | .hbm, ⟨0, _⟩ => ⟨S4x4096x2x2x64, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S1x64x64, .f32⟩
  | .hbm, ⟨5, _⟩ => ⟨S64x64, .f32⟩
  | .hbm, ⟨6, _⟩ => ⟨S64x64, .f32⟩
  | .hbm, ⟨7, _⟩ => ⟨S1x64x64, .f32⟩
  | .hbm, ⟨8, _⟩ => ⟨S64x64, .f32⟩
  | .hbm, ⟨9, _⟩ => ⟨S64x64, .f32⟩
  | .hbm, ⟨10, _⟩ => ⟨S1x64x64, .f32⟩
  | .hbm, ⟨11, _⟩ => ⟨S64x64, .f32⟩
  | .hbm, ⟨12, _⟩ => ⟨S64x64, .f32⟩
  | .hbm, ⟨13, _⟩ => ⟨S1x64x64, .f32⟩
  | .hbm, ⟨14, _⟩ => ⟨S64x64, .f32⟩
  | .hbm, ⟨15, _⟩ => ⟨S64x64, .f32⟩
  | .hbm, ⟨16, _⟩ => ⟨S256x64, .f32⟩
  | .hbm, ⟨17, _⟩ => ⟨S256x128, .f32⟩
  | .hbm, ⟨18, _⟩ => ⟨S_, .f32⟩
  | .hbm, ⟨19, _⟩ => ⟨S64x64, .f32⟩
  | .hbm, ⟨20, _⟩ => ⟨S1x64x64, .f32⟩
  | .hbm, ⟨21, _⟩ => ⟨S64x64, .f32⟩
  | .hbm, ⟨22, _⟩ => ⟨S1x64x64, .f32⟩
  | .hbm, ⟨23, _⟩ => ⟨S64x64, .f32⟩
  | .hbm, ⟨24, _⟩ => ⟨S1x64x64, .f32⟩
  | .hbm, ⟨25, _⟩ => ⟨S64x64, .f32⟩
  | .hbm, ⟨26, _⟩ => ⟨S1x64x64, .f32⟩
  | .hbm, ⟨27, _⟩ => ⟨S64x64, .f32⟩
  | .hbm, ⟨28, _⟩ => ⟨S64x256, .f32⟩
  | .hbm, ⟨29, _⟩ => ⟨S64x256, .f32⟩
  | .hbm, ⟨30, _⟩ => ⟨S64x256, .f32⟩
  | .hbm, ⟨31, _⟩ => ⟨S64x256, .f32⟩
  | .hbm, ⟨32, _⟩ => ⟨S256x256, .f32⟩
  | .hbm, ⟨33, _⟩ => ⟨S256x256, .bf16⟩
  | .hbm, ⟨34, _⟩ => ⟨S_, .f32⟩
  | .hbm, ⟨35, _⟩ => ⟨S64x64, .f32⟩
  | .hbm, ⟨36, _⟩ => ⟨S1x64x64, .f32⟩
  | .hbm, ⟨37, _⟩ => ⟨S64x64, .f32⟩
  | .hbm, ⟨38, _⟩ => ⟨S1x64x64, .f32⟩
  | .hbm, ⟨39, _⟩ => ⟨S64x64, .f32⟩
  | .hbm, ⟨40, _⟩ => ⟨S1x64x64, .f32⟩
  | .hbm, ⟨41, _⟩ => ⟨S64x64, .f32⟩
  | .hbm, ⟨42, _⟩ => ⟨S1x64x64, .f32⟩
  | .hbm, ⟨43, _⟩ => ⟨S64x64, .f32⟩
  | .hbm, ⟨44, _⟩ => ⟨S64x256, .f32⟩
  | .hbm, ⟨45, _⟩ => ⟨S64x256, .f32⟩
  | .hbm, ⟨46, _⟩ => ⟨S64x256, .f32⟩
  | .hbm, ⟨47, _⟩ => ⟨S64x256, .f32⟩
  | .hbm, ⟨48, _⟩ => ⟨S256x256, .f32⟩
  | .hbm, ⟨49, _⟩ => ⟨S256x256, .bf16⟩
  | .hbm, ⟨50, _⟩ => ⟨S4x4096x256, .f32⟩
  | .hbm, ⟨51, _⟩ => ⟨S4x256x4096, .f32⟩
  | .hbm, ⟨52, _⟩ => ⟨S256x256, .f32⟩
  | .local _ .vmem, ⟨0, _⟩ => ⟨S1x256x1024, .f32⟩
  | .local _ .vmem, ⟨1, _⟩ => ⟨S1x256x1024, .f32⟩
  | .local _ .vmem, ⟨2, _⟩ => ⟨S256x128, .f32⟩
  | .local _ .vmem, ⟨3, _⟩ => ⟨S256x256, .bf16⟩
  | .local _ .vmem, ⟨4, _⟩ => ⟨S256x256, .bf16⟩
  | .local _ .vmem, ⟨5, _⟩ => ⟨S16x256, .f32⟩
  | .local _ .vmem, ⟨6, _⟩ => ⟨S16x256, .f32⟩
  | _, _ => ⟨S4x4096x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4x4096x2x2x64 : Shape := ⟨5, ![4, 4096, 2, 2, 64]⟩
abbrev S2x64x64 : Shape := ⟨3, ![2, 64, 64]⟩
abbrev S4x64x64x2x2x64 : Shape := ⟨6, ![4, 64, 64, 2, 2, 64]⟩
abbrev S64x2x64 : Shape := ⟨3, ![64, 2, 64]⟩
abbrev S1x1x64x2x1x64 : Shape := ⟨6, ![1, 1, 64, 2, 1, 64]⟩
abbrev S2x64x4x64x64x2 : Shape := ⟨6, ![2, 64, 4, 64, 64, 2]⟩
abbrev S_ : Shape := ⟨0, ![]⟩
abbrev S4x64x2x2x64 : Shape := ⟨5, ![4, 64, 2, 2, 64]⟩
abbrev S2x64x4x64x2 : Shape := ⟨5, ![2, 64, 4, 64, 2]⟩
abbrev S256x256 : Shape := ⟨2, ![256, 256]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x2x2x64, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S4x64x64x2x2x64, .f32⟩
  | .hbm, ⟨5, _⟩ => ⟨S64x2x64, .f32⟩
  | .hbm, ⟨6, _⟩ => ⟨S1x1x64x2x1x64, .f32⟩
  | .hbm, ⟨7, _⟩ => ⟨S4x64x64x2x2x64, .f32⟩
  | .hbm, ⟨8, _⟩ => ⟨S4x64x64x2x2x64, .f32⟩
  | .hbm, ⟨9, _⟩ => ⟨S2x64x4x64x64x2, .f32⟩
  | .hbm, ⟨10, _⟩ => ⟨S4x64x64x2x2x64, .f32⟩
  | .hbm, ⟨11, _⟩ => ⟨S4x64x64x2x2x64, .f32⟩
  | .hbm, ⟨12, _⟩ => ⟨S4x64x64x2x2x64, .f32⟩
  | .hbm, ⟨13, _⟩ => ⟨S_, .f32⟩
  | .hbm, ⟨14, _⟩ => ⟨S4x64x64x2x2x64, .f32⟩
  | .hbm, ⟨15, _⟩ => ⟨S4x64x64x2x2x64, .f32⟩
  | .hbm, ⟨16, _⟩ => ⟨S_, .f32⟩
  | .hbm, ⟨17, _⟩ => ⟨S4x64x64x2x2x64, .f32⟩
  | .hbm, ⟨18, _⟩ => ⟨S4x64x64x2x2x64, .f32⟩
  | .hbm, ⟨19, _⟩ => ⟨S4x64x64x2x2x64, .f32⟩
  | .hbm, ⟨20, _⟩ => ⟨S_, .f32⟩
  | .hbm, ⟨21, _⟩ => ⟨S4x64x2x2x64, .f32⟩
  | .hbm, ⟨22, _⟩ => ⟨S_, .f32⟩
  | .hbm, ⟨23, _⟩ => ⟨S4x64x2x2x64, .f32⟩
  | .hbm, ⟨24, _⟩ => ⟨S4x64x2x2x64, .f32⟩
  | .hbm, ⟨25, _⟩ => ⟨S2x64x4x64x2, .f32⟩
  | .hbm, ⟨26, _⟩ => ⟨S4x64x2x2x64, .f32⟩
  | .hbm, ⟨27, _⟩ => ⟨S256x256, .f32⟩
  | _, _ => ⟨S4x4096x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Proof.Offs.lean ====
/-
  Where the attention body's loads at computed offsets start, in closed form: the window's five blocks of keys and of values
  from block `max (i - 4) 0` on, and the last selected tiles before the final one.
-/
module

public import proofs.«01_k».proof.Proof.Gen.KernelIdeal.Skeleton
public import proofs.«01_k».proof.Proof.Gen.KernelIdeal.Points
public import Idealize.ShloMosaic.Lib.Pipeline.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem winKeys_0 : ∀ i : grid0.Coords, k0_off1 i 0#32 = ![((i 1).val - 4) + 0, 0, 0] := by decide +kernel
instance (i : grid0.Coords) : ClosedOff (k0_off1 i 0#32) := ⟨![((i 1).val - 4) + 0, 0, 0], winKeys_0 i⟩
theorem winVals0_0 : ∀ i : grid0.Coords, k0_off2 i 0#32 = ![((i 1).val - 4) + 0, 0, 0, 0] := by decide +kernel
instance (i : grid0.Coords) : ClosedOff (k0_off2 i 0#32) := ⟨![((i 1).val - 4) + 0, 0, 0, 0], winVals0_0 i⟩
theorem winVals1_0 : ∀ i : grid0.Coords, k0_off3 i 0#32 = ![((i 1).val - 4) + 0, 1, 0, 0] := by decide +kernel
instance (i : grid0.Coords) : ClosedOff (k0_off3 i 0#32) := ⟨![((i 1).val - 4) + 0, 1, 0, 0], winVals1_0 i⟩
theorem winKeys_1 : ∀ i : grid0.Coords, k0_off1 i 1#32 = ![((i 1).val - 4) + 1, 0, 0] := by decide +kernel
instance (i : grid0.Coords) : ClosedOff (k0_off1 i 1#32) := ⟨![((i 1).val - 4) + 1, 0, 0], winKeys_1 i⟩
theorem winVals0_1 : ∀ i : grid0.Coords, k0_off2 i 1#32 = ![((i 1).val - 4) + 1, 0, 0, 0] := by decide +kernel
instance (i : grid0.Coords) : ClosedOff (k0_off2 i 1#32) := ⟨![((i 1).val - 4) + 1, 0, 0, 0], winVals0_1 i⟩
theorem winVals1_1 : ∀ i : grid0.Coords, k0_off3 i 1#32 = ![((i 1).val - 4) + 1, 1, 0, 0] := by decide +kernel
instance (i : grid0.Coords) : ClosedOff (k0_off3 i 1#32) := ⟨![((i 1).val - 4) + 1, 1, 0, 0], winVals1_1 i⟩
theorem winKeys_2 : ∀ i : grid0.Coords, k0_off1 i 2#32 = ![((i 1).val - 4) + 2, 0, 0] := by decide +kernel
instance (i : grid0.Coords) : ClosedOff (k0_off1 i 2#32) := ⟨![((i 1).val - 4) + 2, 0, 0], winKeys_2 i⟩
theorem winVals0_2 : ∀ i : grid0.Coords, k0_off2 i 2#32 = ![((i 1).val - 4) + 2, 0, 0, 0] := by decide +kernel
instance (i : grid0.Coords) : ClosedOff (k0_off2 i 2#32) := ⟨![((i 1).val - 4) + 2, 0, 0, 0], winVals0_2 i⟩
theorem winVals1_2 : ∀ i : grid0.Coords, k0_off3 i 2#32 = ![((i 1).val - 4) + 2, 1, 0, 0] := by decide +kernel
instance (i : grid0.Coords) : ClosedOff (k0_off3 i 2#32) := ⟨![((i 1).val - 4) + 2, 1, 0, 0], winVals1_2 i⟩
theorem winKeys_3 : ∀ i : grid0.Coords, k0_off1 i 3#32 = ![((i 1).val - 4) + 3, 0, 0] := by decide +kernel
instance (i : grid0.Coords) : ClosedOff (k0_off1 i 3#32) := ⟨![((i 1).val - 4) + 3, 0, 0], winKeys_3 i⟩
theorem winVals0_3 : ∀ i : grid0.Coords, k0_off2 i 3#32 = ![((i 1).val - 4) + 3, 0, 0, 0] := by decide +kernel
instance (i : grid0.Coords) : ClosedOff (k0_off2 i 3#32) := ⟨![((i 1).val - 4) + 3, 0, 0, 0], winVals0_3 i⟩
theorem winVals1_3 : ∀ i : grid0.Coords, k0_off3 i 3#32 = ![((i 1).val - 4) + 3, 1, 0, 0] := by decide +kernel
instance (i : grid0.Coords) : ClosedOff (k0_off3 i 3#32) := ⟨![((i 1).val - 4) + 3, 1, 0, 0], winVals1_3 i⟩
theorem winKeys_4 : ∀ i : grid0.Coords, k0_off1 i 4#32 = ![((i 1).val - 4) + 4, 0, 0] := by decide +kernel
instance (i : grid0.Coords) : ClosedOff (k0_off1 i 4#32) := ⟨![((i 1).val - 4) + 4, 0, 0], winKeys_4 i⟩
theorem winVals0_4 : ∀ i : grid0.Coords, k0_off2 i 4#32 = ![((i 1).val - 4) + 4, 0, 0, 0] := by decide +kernel
instance (i : grid0.Coords) : ClosedOff (k0_off2 i 4#32) := ⟨![((i 1).val - 4) + 4, 0, 0, 0], winVals0_4 i⟩
theorem winVals1_4 : ∀ i : grid0.Coords, k0_off3 i 4#32 = ![((i 1).val - 4) + 4, 1, 0, 0] := by decide +kernel
instance (i : grid0.Coords) : ClosedOff (k0_off3 i 4#32) := ⟨![((i 1).val - 4) + 4, 1, 0, 0], winVals1_4 i⟩
theorem lastVals_0_0 : ∀ i : grid0.Coords, k0_off23 i = ![2 * (((128 * (i 1).val + 639) / 512 - 1) / 2), 0, 0, 0] := by decide +kernel
instance (i : grid0.Coords) : ClosedOff (k0_off23 i) := ⟨![2 * (((128 * (i 1).val + 639) / 512 - 1) / 2), 0, 0, 0], lastVals_0_0 i⟩
theorem lastVals_1_0 : ∀ i : grid0.Coords, k0_off24 i = ![2 * (((128 * (i 1).val + 639) / 512 - 1) / 2), 1, 0, 0] := by decide +kernel
instance (i : grid0.Coords) : ClosedOff (k0_off24 i) := ⟨![2 * (((128 * (i 1).val + 639) / 512 - 1) / 2), 1, 0, 0], lastVals_1_0 i⟩
theorem lastVals_0_256 : ∀ i : grid0.Coords, k0_off25 i = ![2 * (((128 * (i 1).val + 639) / 512 - 1) / 2), 0, 0, 256] := by decide +kernel
instance (i : grid0.Coords) : ClosedOff (k0_off25 i) := ⟨![2 * (((128 * (i 1).val + 639) / 512 - 1) / 2), 0, 0, 256], lastVals_0_256 i⟩
theorem lastVals_1_256 : ∀ i : grid0.Coords, k0_off26 i = ![2 * (((128 * (i 1).val + 639) / 512 - 1) / 2), 1, 0, 256] := by decide +kernel
instance (i : grid0.Coords) : ClosedOff (k0_off26 i) := ⟨![2 * (((128 * (i 1).val + 639) / 512 - 1) / 2), 1, 0, 256], lastVals_1_256 i⟩

end Cert.KernelIdeal.Attn

end
-- ==== Proof.RunFirstEven.lean ====
module

public import proofs.«01_k».proof.Proof.Gen.KernelIdeal.Skeleton
public import proofs.«01_k».proof.Proof.Gen.KernelIdeal.Loops
public import proofs.«01_k».proof.Proof.Gen.KernelIdeal.Points
public import proofs.«01_k».proof.Proof.Offs
public import Idealize.ShloMosaic.Lib.Pipeline.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that opens a sequence, where the scratch tables are filled first, the last window block not taken (the conditional's second branch):
    from every operand held whole at anything it runs to its return and hands each back. -/
theorem run_first_even (c : Dev nD) (i : grid0.Coords)
    (arg2 : Memref sig .tc .vmem S128x512 .f32) (harg2 : arg2.IsWhole)
    (arg3 : Memref sig .tc .vmem S128x128 .f32) (harg3 : arg3.IsWhole)
    (arg4 : Memref sig .tc .vmem S64x256 .f32) (harg4 : arg4.IsWhole)
    (arg5 : Memref sig .tc .vmem S1x128x4096 .f32) (harg5 : arg5.IsWhole)
    (arg6 : Memref sig .tc .vmem S1x128x4096 .f32) (harg6 : arg6.IsWhole)
    (arg7 : Memref sig .tc .vmem S1x128x4096 .f32) (harg7 : arg7.IsWhole)
    (arg8 : Memref sig .tc .vmem S1x128x4096 .f32) (harg8 : arg8.IsWhole)
    (arg9 : Memref sig .tc .vmem S4096x128 .bf16) (harg9 : arg9.IsWhole)
    (arg10 : Memref sig .tc .vmem S128x512 .f32) (harg10 : arg10.IsWhole)
    (arg11 : Memref sig .tc .vmem S8x512x256 .bf16) (harg11 : arg11.IsWhole)
    (arg12 : Memref sig .tc .vmem S32x128x256 .bf16) (harg12 : arg12.IsWhole)
    (arg13 : Memref sig .tc .vmem S8x2x80x512 .bf16) (harg13 : arg13.IsWhole)
    (arg14 : Memref sig .tc .vmem S32x2x80x128 .bf16) (harg14 : arg14.IsWhole)
    (arg15 : Memref sig .tc .vmem S2x4x256x512 .f32) (harg15 : arg15.IsWhole)
    (h1 : Scalar.cmpi .ne (Scalar.extui (Scalar.cmpi .eq (BitVec.ofNat 32 (i 1).val) 0#32) : BitVec 32) 0#32 = 1#1) (h2 : ¬ k0_cond2 i = 1#1)
    (K : PUnit → sProp 𝕄) :
    iprop((∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop((∃ d, owns (c : Thread nD τ) arg2 fullShare d)
              ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)) -∗ K ⟨⟩))
      ⊢ wp frame (wpE (defs₀ (F := F)) Variants.none c none) Set.univ
          (cc0_attn_prompt i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec_parts (disch := first | sl_exact h1 | sl_exact h2)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Attn

end
-- ==== Proof.RunFirstOdd.lean ====
module

public import proofs.«01_k».proof.Proof.Gen.KernelIdeal.Skeleton
public import proofs.«01_k».proof.Proof.Gen.KernelIdeal.Loops
public import proofs.«01_k».proof.Proof.Gen.KernelIdeal.Points
public import proofs.«01_k».proof.Proof.Offs
public import Idealize.ShloMosaic.Lib.Pipeline.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that opens a sequence, where the scratch tables are filled first, the last window block taken (the conditional's first branch):
    from every operand held whole at anything it runs to its return and hands each back. -/
theorem run_first_odd (c : Dev nD) (i : grid0.Coords)
    (arg2 : Memref sig .tc .vmem S128x512 .f32) (harg2 : arg2.IsWhole)
    (arg3 : Memref sig .tc .vmem S128x128 .f32) (harg3 : arg3.IsWhole)
    (arg4 : Memref sig .tc .vmem S64x256 .f32) (harg4 : arg4.IsWhole)
    (arg5 : Memref sig .tc .vmem S1x128x4096 .f32) (harg5 : arg5.IsWhole)
    (arg6 : Memref sig .tc .vmem S1x128x4096 .f32) (harg6 : arg6.IsWhole)
    (arg7 : Memref sig .tc .vmem S1x128x4096 .f32) (harg7 : arg7.IsWhole)
    (arg8 : Memref sig .tc .vmem S1x128x4096 .f32) (harg8 : arg8.IsWhole)
    (arg9 : Memref sig .tc .vmem S4096x128 .bf16) (harg9 : arg9.IsWhole)
    (arg10 : Memref sig .tc .vmem S128x512 .f32) (harg10 : arg10.IsWhole)
    (arg11 : Memref sig .tc .vmem S8x512x256 .bf16) (harg11 : arg11.IsWhole)
    (arg12 : Memref sig .tc .vmem S32x128x256 .bf16) (harg12 : arg12.IsWhole)
    (arg13 : Memref sig .tc .vmem S8x2x80x512 .bf16) (harg13 : arg13.IsWhole)
    (arg14 : Memref sig .tc .vmem S32x2x80x128 .bf16) (harg14 : arg14.IsWhole)
    (arg15 : Memref sig .tc .vmem S2x4x256x512 .f32) (harg15 : arg15.IsWhole)
    (h1 : Scalar.cmpi .ne (Scalar.extui (Scalar.cmpi .eq (BitVec.ofNat 32 (i 1).val) 0#32) : BitVec 32) 0#32 = 1#1) (h2 : k0_cond2 i = 1#1)
    (K : PUnit → sProp 𝕄) :
    iprop((∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop((∃ d, owns (c : Thread nD τ) arg2 fullShare d)
              ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)) -∗ K ⟨⟩))
      ⊢ wp frame (wpE (defs₀ (F := F)) Variants.none c none) Set.univ
          (cc0_attn_prompt i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec_parts (disch := first | sl_exact h1 | sl_exact h2)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Attn

end
-- ==== Proof.RunLaterEven.lean ====
module

public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that does not open a sequence, the last window block not taken (the conditional's second branch):
    from every operand held whole at anything it runs to its return and hands each back. -/
theorem run_later_even (c : Dev nD) (i : grid0.Coords)
    (arg2 : Memref sig .tc .vmem S128x512 .f32) (harg2 : arg2.IsWhole)
    (arg3 : Memref sig .tc .vmem S128x128 .f32) (harg3 : arg3.IsWhole)
    (arg4 : Memref sig .tc .vmem S64x256 .f32) (harg4 : arg4.IsWhole)
    (arg5 : Memref sig .tc .vmem S1x128x4096 .f32) (harg5 : arg5.IsWhole)
    (arg6 : Memref sig .tc .vmem S1x128x4096 .f32) (harg6 : arg6.IsWhole)
    (arg7 : Memref sig .tc .vmem S1x128x4096 .f32) (harg7 : arg7.IsWhole)
    (arg8 : Memref sig .tc .vmem S1x128x4096 .f32) (harg8 : arg8.IsWhole)
    (arg9 : Memref sig .tc .vmem S4096x128 .bf16) (harg9 : arg9.IsWhole)
    (arg10 : Memref sig .tc .vmem S128x512 .f32) (harg10 : arg10.IsWhole)
    (arg11 : Memref sig .tc .vmem S8x512x256 .bf16) (harg11 : arg11.IsWhole)
    (arg12 : Memref sig .tc .vmem S32x128x256 .bf16) (harg12 : arg12.IsWhole)
    (arg13 : Memref sig .tc .vmem S8x2x80x512 .bf16) (harg13 : arg13.IsWhole)
    (arg14 : Memref sig .tc .vmem S32x2x80x128 .bf16) (harg14 : arg14.IsWhole)
    (arg15 : Memref sig .tc .vmem S2x4x256x512 .f32) (harg15 : arg15.IsWhole)
    (h1 : ¬ (Scalar.cmpi .ne (Scalar.extui (Scalar.cmpi .eq (BitVec.ofNat 32 (i 1).val) 0#32) : BitVec 32) 0#32 = 1#1)) (h2 : ¬ k0_cond2 i = 1#1)
    (K : PUnit → sProp 𝕄) :
    iprop((∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop((∃ d, owns (c : Thread nD τ) arg2 fullShare d)
              ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)) -∗ K ⟨⟩))
      ⊢ wp frame (wpE (defs₀ (F := F)) Variants.none c none) Set.univ
          (cc0_attn_prompt i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec_parts (disch := first | sl_exact h1 | sl_exact h2)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Attn

end
-- ==== Proof.RunLaterOdd.lean ====
module

public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that does not open a sequence, the last window block taken (the conditional's first branch):
    from every operand held whole at anything it runs to its return and hands each back. -/
theorem run_later_odd (c : Dev nD) (i : grid0.Coords)
    (arg2 : Memref sig .tc .vmem S128x512 .f32) (harg2 : arg2.IsWhole)
    (arg3 : Memref sig .tc .vmem S128x128 .f32) (harg3 : arg3.IsWhole)
    (arg4 : Memref sig .tc .vmem S64x256 .f32) (harg4 : arg4.IsWhole)
    (arg5 : Memref sig .tc .vmem S1x128x4096 .f32) (harg5 : arg5.IsWhole)
    (arg6 : Memref sig .tc .vmem S1x128x4096 .f32) (harg6 : arg6.IsWhole)
    (arg7 : Memref sig .tc .vmem S1x128x4096 .f32) (harg7 : arg7.IsWhole)
    (arg8 : Memref sig .tc .vmem S1x128x4096 .f32) (harg8 : arg8.IsWhole)
    (arg9 : Memref sig .tc .vmem S4096x128 .bf16) (harg9 : arg9.IsWhole)
    (arg10 : Memref sig .tc .vmem S128x512 .f32) (harg10 : arg10.IsWhole)
    (arg11 : Memref sig .tc .vmem S8x512x256 .bf16) (harg11 : arg11.IsWhole)
    (arg12 : Memref sig .tc .vmem S32x128x256 .bf16) (harg12 : arg12.IsWhole)
    (arg13 : Memref sig .tc .vmem S8x2x80x512 .bf16) (harg13 : arg13.IsWhole)
    (arg14 : Memref sig .tc .vmem S32x2x80x128 .bf16) (harg14 : arg14.IsWhole)
    (arg15 : Memref sig .tc .vmem S2x4x256x512 .f32) (harg15 : arg15.IsWhole)
    (h1 : ¬ (Scalar.cmpi .ne (Scalar.extui (Scalar.cmpi .eq (BitVec.ofNat 32 (i 1).val) 0#32) : BitVec 32) 0#32 = 1#1)) (h2 : k0_cond2 i = 1#1)
    (K : PUnit → sProp 𝕄) :
    iprop((∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop((∃ d, owns (c : Thread nD τ) arg2 fullShare d)
              ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)
              ∗ (∃ d, owns (c : Thread nD τ) arg9 fullShare d)
              ∗ (∃ d, owns (c : Thread nD τ) arg10 fullShare d)
              ∗ (∃ d, owns (c : Thread nD τ) arg11 fullShare d)
              ∗ (∃ d, owns (c : Thread nD τ) arg12 fullShare d)
              ∗ (∃ d, owns (c : Thread nD τ) arg13 fullShare d)
              ∗ (∃ d, owns (c : Thread nD τ) arg14 fullShare d)
              ∗ (∃ d, owns (c : Thread nD τ) arg15 fullShare d)) -∗ K ⟨⟩))
      ⊢ wp frame (wpE (defs₀ (F := F)) Variants.none c none) Set.univ
          (cc0_attn_prompt i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec_parts (disch := first | sl_exact h1 | sl_exact h2)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Attn

end
-- ==== Proof.Run.lean ====
/-
  The frame run of the attention call, at any value instance: the launch of its pipeline over the body's runs
  (`RunFirstEven` … `RunLaterOdd`, one for each way the body's two conditionals can go). Every window is forgotten:
  nothing here reads what the body leaves in a staging buffer, and an input's array is never written back.
-/
module

public import proofs.«01_k».proof.Proof.RunFirstEven
public import proofs.«01_k».proof.Proof.RunFirstOdd
public import proofs.«01_k».proof.Proof.RunLaterEven
public import proofs.«01_k».proof.Proof.RunLaterOdd
public import proofs.«01_k».proof.Proof.Gen.KernelIdeal.Frame
public import Idealize.ShloMosaic.Lib.Pipeline.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body at any grid point: whichever way its two conditionals go, it hands every operand back. -/
theorem body_run (c : Dev nD) (i : grid0.Coords)
    (arg2 : Memref sig .tc .vmem S128x512 .f32) (harg2 : arg2.IsWhole)
    (arg3 : Memref sig .tc .vmem S128x128 .f32) (harg3 : arg3.IsWhole)
    (arg4 : Memref sig .tc .vmem S64x256 .f32) (harg4 : arg4.IsWhole)
    (arg5 : Memref sig .tc .vmem S1x128x4096 .f32) (harg5 : arg5.IsWhole)
    (arg6 : Memref sig .tc .vmem S1x128x4096 .f32) (harg6 : arg6.IsWhole)
    (arg7 : Memref sig .tc .vmem S1x128x4096 .f32) (harg7 : arg7.IsWhole)
    (arg8 : Memref sig .tc .vmem S1x128x4096 .f32) (harg8 : arg8.IsWhole)
    (arg9 : Memref sig .tc .vmem S4096x128 .bf16) (harg9 : arg9.IsWhole)
    (arg10 : Memref sig .tc .vmem S128x512 .f32) (harg10 : arg10.IsWhole)
    (arg11 : Memref sig .tc .vmem S8x512x256 .bf16) (harg11 : arg11.IsWhole)
    (arg12 : Memref sig .tc .vmem S32x128x256 .bf16) (harg12 : arg12.IsWhole)
    (arg13 : Memref sig .tc .vmem S8x2x80x512 .bf16) (harg13 : arg13.IsWhole)
    (arg14 : Memref sig .tc .vmem S32x2x80x128 .bf16) (harg14 : arg14.IsWhole)
    (arg15 : Memref sig .tc .vmem S2x4x256x512 .f32) (harg15 : arg15.IsWhole)
    (K : PUnit → sProp 𝕄) :
    iprop((∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop((∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)) -∗ K ⟨⟩))
      ⊢ wp frame (wpE (defs₀ (F := F)) Variants.none c none) Set.univ
          (cc0_attn_prompt i arg2 harg2 arg3 harg3 arg4 harg4 arg5 harg5 arg6 harg6 arg7 harg7 arg8 harg8 arg9 harg9 arg10 harg10 arg11 harg11 arg12 harg12 arg13 harg13 arg14 harg14 arg15 harg15) K := by
  by_cases h1 : Scalar.cmpi .ne (Scalar.extui (Scalar.cmpi .eq (BitVec.ofNat 32 (i 1).val) 0#32) : BitVec 32) 0#32 = 1#1
  · by_cases h2 : k0_cond2 i = 1#1
    · exact run_first_odd c i arg2 harg2 arg3 harg3 arg4 harg4 arg5 harg5 arg6 harg6 arg7 harg7 arg8 harg8 arg9 harg9 arg10 harg10 arg11 harg11 arg12 harg12 arg13 harg13 arg14 harg14 arg15 harg15 h1 h2 K
    · exact run_first_even c i arg2 harg2 arg3 harg3 arg4 harg4 arg5 harg5 arg6 harg6 arg7 harg7 arg8 harg8 arg9 harg9 arg10 harg10 arg11 harg11 arg12 harg12 arg13 harg13 arg14 harg14 arg15 harg15 h1 h2 K
  · by_cases h2 : k0_cond2 i = 1#1
    · exact run_later_odd c i arg2 harg2 arg3 harg3 arg4 harg4 arg5 harg5 arg6 harg6 arg7 harg7 arg8 harg8 arg9 harg9 arg10 harg10 arg11 harg11 arg12 harg12 arg13 harg13 arg14 harg14 arg15 harg15 h1 h2 K
    · exact run_later_even c i arg2 harg2 arg3 harg3 arg4 harg4 arg5 harg5 arg6 harg6 arg7 harg7 arg8 harg8 arg9 harg9 arg10 harg10 arg11 harg11 arg12 harg12 arg13 harg13 arg14 harg14 arg15 harg15 h1 h2 K

/-- Every window is forgotten. -/
def forgets0 : Fin 9 → Bool := fun _ => true

/-- The proof data: each array as the region finds it, what the body leaves unnamed, the scratch at something. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- The scratch and the generator register, conjunct by conjunct. -/
theorem PhiA0_eq (c : Dev nD) :
    (Pipeline.ΦA spec0 c : sProp 𝕄)
      = iprop(iprop((∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)
            ∗ (∃ d, owns (c : Thread nD τ) (Memref.whole cc0_scratch3) fullShare d)
            ∗ (∃ d, owns (c : Thread nD τ) (Memref.whole cc0_scratch4) fullShare d))
          ∗ (∃ r, prngReg c r)) := by
  unfold Pipeline.ΦA; rw [scopedRest0_eq]; simp only [owns_whole]; try rfl

/-- The windows' staging buffers at point `t`, each at something. -/
def stagings (c : Dev nD) (t : Fin cfg0.N) : sProp 𝕄 :=
  iprop((∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

def bodyPre (c : Dev nD) (t : Fin cfg0.N) : sProp 𝕄 :=
  iprop((dats m 0 c).Φ t.castSucc ∗ (dats m 0 c).owesAt () t.castSucc ∗ stagings (F := F) c t)
def bodyPost (c : Dev nD) (t : Fin cfg0.N) : sProp 𝕄 :=
  iprop((dats m 0 c).Φ t.succ ∗ (dats m 0 c).owesAt () t.succ ∗ stagings (F := F) c t)

/-- The body at the point: the invariant opened, the body run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 stagings
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4⟩, Hg⟩, HO, W0, W1, W2, W3, W4, W5, W6, W7, W8⟩
  iapply (body_run c (grid0.coords t) _ _ _ _ _ _ _ _ _ _ _ _ _ _ _ _ _ _ _ _ _ _ _ _ _ _ _ _ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [S0]; · iexact S0
  isplitl [S1]; · iexact S1
  isplitl [S2]; · iexact S2
  isplitl [S3]; · iexact S3
  isplitl [S4]; · iexact S4
  iintro ⟨W0, W1, W2, W3, W4, W5, W6, W7, W8, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  iexact W8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair execution ends, the arrays as the pipeline's record of them says,
    every other unscoped buffer at its contents when the call started, every semaphore counter at zero. -/
theorem run_post :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- What an input window's array may hold at any point is what it held at the start. -/
theorem arrAt_in_eq {cfg : Pipeline.Cfg sig Λ₀} {c : Dev nD} (rd : Pipeline.RDat τ (Elt F) Unit ℕ (UR sig nD τ) ℕ cfg c)
    (w : Fin cfg.W) (hin : (cfg.win w).isOut = false) (t : ℕ) (X) (h : rd.ArrAt w t X) : X = rd.A w := by
  rw [Pipeline.RDat.ArrAt_in rd w hin t] at h
  exact h

/-- An input window's array ends as the region finds it. -/
theorem array_kept {r : PUnit × MemSt nD τ sig (Elt F)} (c : Dev nD) (w : Fin 9) (hw : (cfg0.win w).isOut = false)
    (h : ((dats (F := F) m 0 c).toRForget forgets0).ArrAt w cfg0.N (r.2.mem ((c : Thread nD τ).loc (Pipeline.arrRef spec0 w)))) :
    r.2.mem ((c : Thread nD τ).loc (Pipeline.arrRef spec0 w)) = V m c (Pipeline.arrRef spec0 w) := by
  have h' := arrAt_in_eq ((dats (F := F) m 0 c).toRForget forgets0) w hw cfg0.N _ h
  exact h'.trans (A_eq m c w)

/-- The frame: every argument array as it was, every counter at zero. -/
theorem run_main :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r (h : _ ∧ _) => ⟨fun c =>
    ⟨(array_kept m c 0 rfl ((h.1 c).1 0)).trans (V_main_arg0 m c),
      ((h.1 c).2 main_arg1 (Pipeline.mem_restRefs_of main_arg1 (by decide) (by decide))).trans (V_main_arg1 m c),
      (array_kept m c 2 rfl ((h.1 c).1 2)).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_post m ρ)

end Cert.KernelIdeal.Attn

end
-- ==== Proof.MergeRun.lean ====
/- The merge of one layer over the prompt: the run of its body at the ideal program. -/
module

public import proofs.«01_k».proof.Proof.Gen.Kernel3Ideal.Frame.Runs

@[expose] public section

-- membership in a rectangle of production extents (`View.cover_of_tiled`): the elaborator's structural look
-- recurses once per coordinate of the long axes
set_option maxRecDepth 16384

noncomputable section

namespace Cert.Kernel3Ideal.Merge

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole operands: every input is handed back as it was, and the two results hold the pieces found here. -/
noncomputable def body_run (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x256 .f32) (harg4 : arg4.IsWhole) (arg5 : Memref sig .tc .vmem S16x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .bf16) (harg13 : arg13.IsWhole) (arg14 : Memref sig .tc .vmem S4x128x128 .bf16) (harg14 : arg14.IsWhole) (arg15 : Memref sig .tc .vmem S128x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x256 .f32) (harg19 : arg19.IsWhole) (arg20 : Memref sig .tc .vmem S544x256 .f32) (harg20 : arg20.IsWhole) (arg21 : Memref sig .tc .vmem S544x256 .f32) (harg21 : arg21.IsWhole)
    (x0 : Vec F S512x1024 .f32) (x1 : Vec F S512x512 .f32) (x2 : Vec F S512x512 .f32) (x3 : Vec F S512x256 .f32) (x4 : Vec F S16x256 .f32) (x5 : Vec F S512x256 .f32) (x6 : Vec F S512x256 .f32) (x7 : Vec F S512x256 .f32) (x8 : Vec F S512x256 .f32) (x9 : Vec F S256x256 .bf16) (x10 : Vec F S1x256 .f32) (x11 : Vec F S1x256 .f32) (x12 : Vec F S256x256 .bf16) (x13 : Vec F S4x128x128 .bf16) (x14 : Vec F S128x256 .f32) (x15 : Vec F S1024x1024 .bf16) (x16 : Vec F S1x1024 .f32) :
    Σ' (L17 : List (View.Piece (Elt F) S512x1024 .f32)), { L18 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} f) ∗ (∃ f, arg21.view.loc (c : Thread nD τ) ↦[arg21.view.set]{fullShare} f)) -∗ K ⟨⟩))
          ⊢ wp frame (wpE (defs₀ (F := F)) Variants.none c none) E (cc0_merge_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0_merge_prompt_eq_skeleton]; unfold cc0_merge_prompt_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [HS0]; · iexists _; iexact HS0
    iexists _; iexact HS1

end Cert.Kernel3Ideal.Merge

end
-- ==== Proof.MergeFrame.lean ====
/- The merge of one layer over the prompt: the launch over its body's run at the ideal program. -/
module

public import proofs.«01_k».proof.Proof.MergeRun
public import Idealize.ShloMosaic.Lib.Claim

@[expose] public section

set_option maxRecDepth 16384

noncomputable section

namespace Cert.Kernel3Ideal.Merge

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces found for the first result tile its block. -/
theorem cover0_A_17 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x256 .f32) (harg4 : arg4.IsWhole) (arg5 : Memref sig .tc .vmem S16x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .bf16) (harg13 : arg13.IsWhole) (arg14 : Memref sig .tc .vmem S4x128x128 .bf16) (harg14 : arg14.IsWhole) (arg15 : Memref sig .tc .vmem S128x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x256 .f32) (harg19 : arg19.IsWhole) (arg20 : Memref sig .tc .vmem S544x256 .f32) (harg20 : arg20.IsWhole) (arg21 : Memref sig .tc .vmem S544x256 .f32) (harg21 : arg21.IsWhole)
    (x0 : Vec F S512x1024 .f32) (x1 : Vec F S512x512 .f32) (x2 : Vec F S512x512 .f32) (x3 : Vec F S512x256 .f32) (x4 : Vec F S16x256 .f32) (x5 : Vec F S512x256 .f32) (x6 : Vec F S512x256 .f32) (x7 : Vec F S512x256 .f32) (x8 : Vec F S512x256 .f32) (x9 : Vec F S256x256 .bf16) (x10 : Vec F S1x256 .f32) (x11 : Vec F S1x256 .f32) (x12 : Vec F S256x256 .bf16) (x13 : Vec F S4x128x128 .bf16) (x14 : Vec F S128x256 .f32) (x15 : Vec F S1024x1024 .bf16) (x16 : Vec F S1x1024 .f32) (y : S512x1024.Idx) :
    ∃ pc ∈ (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1, y ∈ pc.1.set :=
  View.cover_of_tiledL (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1 S512x1024.size (by sl_kernel_rfl) y

/-- What the body leaves of the first result, as a function of the input blocks. -/
def out0_A_17 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x256 .f32) (harg4 : arg4.IsWhole) (arg5 : Memref sig .tc .vmem S16x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .bf16) (harg13 : arg13.IsWhole) (arg14 : Memref sig .tc .vmem S4x128x128 .bf16) (harg14 : arg14.IsWhole) (arg15 : Memref sig .tc .vmem S128x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x256 .f32) (harg19 : arg19.IsWhole) (arg20 : Memref sig .tc .vmem S544x256 .f32) (harg20 : arg20.IsWhole) (arg21 : Memref sig .tc .vmem S544x256 .f32) (harg21 : arg21.IsWhole)
    (x0 : Vec F S512x1024 .f32) (x1 : Vec F S512x512 .f32) (x2 : Vec F S512x512 .f32) (x3 : Vec F S512x256 .f32) (x4 : Vec F S16x256 .f32) (x5 : Vec F S512x256 .f32) (x6 : Vec F S512x256 .f32) (x7 : Vec F S512x256 .f32) (x8 : Vec F S512x256 .f32) (x9 : Vec F S256x256 .bf16) (x10 : Vec F S1x256 .f32) (x11 : Vec F S1x256 .f32) (x12 : Vec F S256x256 .bf16) (x13 : Vec F S4x128x128 .bf16) (x14 : Vec F S128x256 .f32) (x15 : Vec F S1024x1024 .bf16) (x16 : Vec F S1x1024 .f32) : Vec F S512x1024 .f32 :=
  VO0_17.read (Elt F) (VO0_17.writes (Elt F) VO0_17.junk (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1)

/-- The pieces found for the second result tile its block. -/
theorem cover0_A_18 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x256 .f32) (harg4 : arg4.IsWhole) (arg5 : Memref sig .tc .vmem S16x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .bf16) (harg13 : arg13.IsWhole) (arg14 : Memref sig .tc .vmem S4x128x128 .bf16) (harg14 : arg14.IsWhole) (arg15 : Memref sig .tc .vmem S128x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x256 .f32) (harg19 : arg19.IsWhole) (arg20 : Memref sig .tc .vmem S544x256 .f32) (harg20 : arg20.IsWhole) (arg21 : Memref sig .tc .vmem S544x256 .f32) (harg21 : arg21.IsWhole)
    (x0 : Vec F S512x1024 .f32) (x1 : Vec F S512x512 .f32) (x2 : Vec F S512x512 .f32) (x3 : Vec F S512x256 .f32) (x4 : Vec F S16x256 .f32) (x5 : Vec F S512x256 .f32) (x6 : Vec F S512x256 .f32) (x7 : Vec F S512x256 .f32) (x8 : Vec F S512x256 .f32) (x9 : Vec F S256x256 .bf16) (x10 : Vec F S1x256 .f32) (x11 : Vec F S1x256 .f32) (x12 : Vec F S256x256 .bf16) (x13 : Vec F S4x128x128 .bf16) (x14 : Vec F S128x256 .f32) (x15 : Vec F S1024x1024 .bf16) (x16 : Vec F S1x1024 .f32) (y : S512x256.Idx) :
    ∃ pc ∈ (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.1, y ∈ pc.1.set :=
  View.cover_of_tiledL (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.1 S512x256.size (by sl_kernel_rfl) y

/-- What the body leaves of the second result, as a function of the input blocks. -/
def out0_A_18 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x256 .f32) (harg4 : arg4.IsWhole) (arg5 : Memref sig .tc .vmem S16x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .bf16) (harg13 : arg13.IsWhole) (arg14 : Memref sig .tc .vmem S4x128x128 .bf16) (harg14 : arg14.IsWhole) (arg15 : Memref sig .tc .vmem S128x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x256 .f32) (harg19 : arg19.IsWhole) (arg20 : Memref sig .tc .vmem S544x256 .f32) (harg20 : arg20.IsWhole) (arg21 : Memref sig .tc .vmem S544x256 .f32) (harg21 : arg21.IsWhole)
    (x0 : Vec F S512x1024 .f32) (x1 : Vec F S512x512 .f32) (x2 : Vec F S512x512 .f32) (x3 : Vec F S512x256 .f32) (x4 : Vec F S16x256 .f32) (x5 : Vec F S512x256 .f32) (x6 : Vec F S512x256 .f32) (x7 : Vec F S512x256 .f32) (x8 : Vec F S512x256 .f32) (x9 : Vec F S256x256 .bf16) (x10 : Vec F S1x256 .f32) (x11 : Vec F S1x256 .f32) (x12 : Vec F S256x256 .bf16) (x13 : Vec F S4x128x128 .bf16) (x14 : Vec F S128x256 .f32) (x15 : Vec F S1024x1024 .bf16) (x16 : Vec F S1x1024 .f32) : Vec F S512x256 .f32 :=
  VO0_18.read (Elt F) (VO0_18.writes (Elt F) VO0_18.junk (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.1)

/-- What the two results hold after a point. -/
def outsAt0 (c : Dev nD) (t : Fin cfg0.N) : Vec F S512x1024 .f32 × Vec F S512x256 .f32 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-- The arrays as the region finds them, and what each window holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2
    | ⟨_ + 19, h⟩ => absurd h (Nat.not_lt.2 (Nat.le_add_left _ _))
  Φ _ := Pipeline.ΦA spec0 c
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- What each window holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What the body hands back at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  unfold outsAt0
  unfold out0_A_17 out0_A_18; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((body_run c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [HS0]; · iexact HS0
  isplitl [HS1]; · iexact HS1
  iintro ⟨H0, H1, H2, H3, H4, H5, H6, H7, H8, H9, H10, H11, H12, H13, H14, H15, H16, ⟨%e17, H17⟩, ⟨%e18, H18⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body meets its specification at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame of the call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel3Ideal.Merge

end
-- ==== Proof.MergeBlocks.lean ====
/- The merge of one layer over the prompt: its result arrays block by block. -/
module

public import proofs.«01_k».proof.Proof.MergeFrame
public import Idealize.ShloMosaic.Lib.Pipeline.Value

@[expose] public section

noncomputable section

namespace Cert.Kernel3Ideal.Merge

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed17 (c : Dev nD) (t : Fin cfg0.N) :
    (dats m 0 c).flushed 17 t = (cfg0.win 17).cut (grid0.coords t) ((outsAt0 m c t).1) := by
  show (cfg0.win 17).cut (grid0.coords t) ((dats m 0 c).after 17 t) = _
  rw [after0_17]

theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0]

theorem idx_inj17 : ∀ t t' : Fin cfg0.N, win0_17.index t = win0_17.index t' → t = t' :=
  (by decide +kernel : ∀ t t' : Fin grid0.N, win0_17.index t = win0_17.index t' → t = t')

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

theorem entry17 (c : Dev nD) (i : S16384x1024.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

theorem flushed18 (c : Dev nD) (t : Fin cfg0.N) :
    (dats m 0 c).flushed 18 t = (cfg0.win 18).cut (grid0.coords t) ((outsAt0 m c t).2) := by
  show (cfg0.win 18).cut (grid0.coords t) ((dats m 0 c).after 18 t) = _
  rw [after0_18]

theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed18, outsAt0]

theorem idx_inj18 : ∀ t t' : Fin cfg0.N, win0_18.index t = win0_18.index t' → t = t' :=
  (by decide +kernel : ∀ t t' : Fin grid0.N, win0_18.index t = win0_18.index t' → t = t')

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

theorem entry18 (c : Dev nD) (i : S16384x256.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

theorem post17 (r : PUnit × MemSt nD τ sig (Elt F)) (h : Pipeline.FramePost cfgs (dats m) 0 (V m) r) (c : Dev nD) :
    r.2.mem ((c : Thread nD τ).loc main_v47_0) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v47_1) = (dats m 0 c).arrAt 18 cfg0.N :=
  (h c).1 18

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem run_blocks : θ_run defs (onTc (τ := τ) (main (F := F))) ⟨m, fun _ => 0, ρ⟩ fun r => ∀ c : Dev nD,
      r.2.mem ((c : Thread nD τ).loc main_v47_0) = (dats m 0 c).arrAt 17 cfg0.N
      ∧ r.2.mem ((c : Thread nD τ).loc main_v47_1) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post17 m r h c,
      post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.Kernel3Ideal.Merge

end
-- ==== Proof.MergeHost.lean ====
/- The merge of one layer over the prompt: the arrays the call is handed. -/
module

public import proofs.«01_k».proof.Proof.MergeBlocks
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

/-- The pooling weights as the call takes them: the four groups' blocks down the diagonal. -/
def pool_bd (W : FVec Ideal S4x64x64 .f32) : FVec Ideal S256x256 .bf16 :=
  truncf .bf16 (concatenate S256x256 0 [⟨S64x256, concatenate S64x256 1 [⟨S64x64, shapeCast S64x64 (extractStridedSlice S1x64x64 ![0, 0, 0] W slices_S4x64x64_S1x64x64_0_0_0) shapeCasts_S1x64x64_S64x64⟩, ⟨S64x64, broadcastInDim S64x64 ![] bcast_S_S64x64 (constant S_ .f32 0x00000000#32)⟩, ⟨S64x64, broadcastInDim S64x64 ![] bcast_S_S64x64 (constant S_ .f32 0x00000000#32)⟩, ⟨S64x64, broadcastInDim S64x64 ![] bcast_S_S64x64 (constant S_ .f32 0x00000000#32)⟩] concatenates_S64x64_S64x64_S64x64_S64x64_S64x256_d1⟩,
    ⟨S64x256, concatenate S64x256 1 [⟨S64x64, broadcastInDim S64x64 ![] bcast_S_S64x64 (constant S_ .f32 0x00000000#32)⟩, ⟨S64x64, shapeCast S64x64 (extractStridedSlice S1x64x64 ![1, 0, 0] W slices_S4x64x64_S1x64x64_1_0_0) shapeCasts_S1x64x64_S64x64⟩, ⟨S64x64, broadcastInDim S64x64 ![] bcast_S_S64x64 (constant S_ .f32 0x00000000#32)⟩, ⟨S64x64, broadcastInDim S64x64 ![] bcast_S_S64x64 (constant S_ .f32 0x00000000#32)⟩] concatenates_S64x64_S64x64_S64x64_S64x64_S64x256_d1⟩,
    ⟨S64x256, concatenate S64x256 1 [⟨S64x64, broadcastInDim S64x64 ![] bcast_S_S64x64 (constant S_ .f32 0x00000000#32)⟩, ⟨S64x64, broadcastInDim S64x64 ![] bcast_S_S64x64 (constant S_ .f32 0x00000000#32)⟩, ⟨S64x64, shapeCast S64x64 (extractStridedSlice S1x64x64 ![2, 0, 0] W slices_S4x64x64_S1x64x64_2_0_0) shapeCasts_S1x64x64_S64x64⟩, ⟨S64x64, broadcastInDim S64x64 ![] bcast_S_S64x64 (constant S_ .f32 0x00000000#32)⟩] concatenates_S64x64_S64x64_S64x64_S64x64_S64x256_d1⟩,
    ⟨S64x256, concatenate S64x256 1 [⟨S64x64, broadcastInDim S64x64 ![] bcast_S_S64x64 (constant S_ .f32 0x00000000#32)⟩, ⟨S64x64, broadcastInDim S64x64 ![] bcast_S_S64x64 (constant S_ .f32 0x00000000#32)⟩, ⟨S64x64, broadcastInDim S64x64 ![] bcast_S_S64x64 (constant S_ .f32 0x00000000#32)⟩, ⟨S64x64, shapeCast S64x64 (extractStridedSlice S1x64x64 ![3, 0, 0] W slices_S4x64x64_S1x64x64_3_0_0) shapeCasts_S1x64x64_S64x64⟩] concatenates_S64x64_S64x64_S64x64_S64x64_S64x256_d1⟩] concatenates_S64x256_S64x256_S64x256_S64x256_S256x256_d0) bitsLt_bf16_f32

/-- The lanes' groups as the call takes them: blocks of ones down the diagonal. -/
def ones_bd : FVec Ideal S256x256 .bf16 :=
  truncf .bf16 (shapeCast S256x256 (mulf
    (broadcastInDim S4x64x4x64 ![0, 1, 2, 3] bcast_S4x1x4x1_S4x64x4x64_0_1_2_3 (broadcastInDim S4x1x4x1 ![0, 2] bcast_S4x4_S4x1x4x1_0_2
      (uitofp .f32 (cmpi .eq (addi (iotaInDim S4x4 32 0) (broadcastInDim S4x4 ![] bcast_S_S4x4 (constantI S_ 32 0#32))) (iotaInDim S4x4 32 1)) : FVec Ideal S4x4 .f32)))
    (broadcastInDim S4x64x4x64 ![0, 1, 2, 3] bcast_S1x64x1x64_S4x64x4x64_0_1_2_3 (broadcastInDim S1x64x1x64 ![1, 3] bcast_S64x64_S1x64x1x64_1_3
      (broadcastInDim S64x64 ![] bcast_S_S64x64 (constant S_ .f32 0x3F800000#32)))))
    shapeCasts_S4x64x4x64_S256x256) bitsLt_bf16_f32

/-- The gating weights as the call takes them: on and below the diagonal. -/
def ws_tril (W : FVec Ideal S4x128x128 .f32) : FVec Ideal S4x128x128 .bf16 :=
  truncf .bf16 (mulf W (broadcastInDim S4x128x128 ![0, 1, 2] bcast_S1x128x128_S4x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constant S_ .f32 0x3F800000#32))
      (broadcastInDim S128x128 ![] bcast_S_S128x128 (constant S_ .f32 0x00000000#32)))))) bitsLt_bf16_f32

/-- The gating offsets as the call takes them: each group's repeated over its lanes. -/
def bs_full (B : FVec Ideal S4x128 .f32) : FVec Ideal S128x256 .f32 :=
  shapeCast S128x256 (broadcastInDim S128x4x64 ![0, 1] bcast_S128x4_S128x4x64_0_1 (transpose S128x4 [1, 0] B transposes_S4x128_S128x4_1_0)) shapeCasts_S128x4x64_S128x256

theorem ofBits_one : Ideal.ofBits .f32 0x3F800000#32 = 1 := Ideal.ofBits_one_f32

theorem word_eq (a b : ℕ) (ha : a < 2 ^ 32) (hb : b < 2 ^ 32) : (BitVec.ofNat 32 a = BitVec.ofNat 32 b) ↔ a = b := by
  constructor
  · intro h
    have := congrArg BitVec.toNat h
    rwa [BitVec.toNat_ofNat, BitVec.toNat_ofNat, Nat.mod_eq_of_lt ha, Nat.mod_eq_of_lt hb] at this
  · rintro rfl; rfl

/-- An entry of the lanes' groups: one within a group, zero across. -/
theorem ones_bd_apply (x l : Fin 256) : ones_bd (ix2 x l) = if x.val / 64 = l.val / 64 then 1 else 0 := by
  pointwise [ones_bd]
  have h0 : IntOp.addi (BitVec.ofNat 32 (x.val / 64)) 0#32 = BitVec.ofNat 32 (x.val / 64) := by simp [IntOp.addi]
  rw [h0]
  by_cases h : x.val / 64 = l.val / 64
  · rw [if_pos h, h]
    simp [IntOp.cmpi, FloatOps.uitofp]
  · rw [if_neg h]
    have : ¬ (BitVec.ofNat 32 (x.val / 64) = BitVec.ofNat 32 (l.val / 64)) := fun e => h ((word_eq _ _ (by omega) (by omega)).mp e)
    simp [IntOp.cmpi, FloatOps.uitofp, this]

theorem blocks (w : Fin 4 → Fin 64 → Fin 64 → EReal) (x l : ℕ) (hx : x < 256) (hl : l < 256) :
    (if h : x < 64 then (if h_1 : l < 64 then w 0 ⟨x, by omega⟩ ⟨l, by omega⟩ else if h_1 : l - 64 < 64 then 0 else if h_1 : l - 64 - 64 < 64 then 0 else 0)
      else if h : x - 64 < 64 then (if h_1 : l < 64 then 0 else if h_1 : l - 64 < 64 then w 1 ⟨x - 64, by omega⟩ ⟨l - 64, by omega⟩ else if h_1 : l - 64 - 64 < 64 then 0 else 0)
      else if h : x - 64 - 64 < 64 then (if h_1 : l < 64 then 0 else if h_1 : l - 64 < 64 then 0 else if h_1 : l - 64 - 64 < 64 then w 2 ⟨x - 64 - 64, by omega⟩ ⟨l - 64 - 64, by omega⟩ else 0)
      else (if h_1 : l < 64 then 0 else if h_1 : l - 64 < 64 then 0 else if h_1 : l - 64 - 64 < 64 then 0 else w 3 ⟨x - 64 - 64 - 64, by omega⟩ ⟨l - 64 - 64 - 64, by omega⟩))
      = if x / 64 = l / 64 then w ⟨l / 64, by omega⟩ ⟨x % 64, by omega⟩ ⟨l % 64, by omega⟩ else 0 := by
  have key : ∀ (a a' : Fin 4) (b b' c c' : Fin 64), a = a' → b = b' → c = c' → w a b c = w a' b' c' := by
    rintro _ _ _ _ _ _ rfl rfl rfl; rfl
  simp only [Nat.sub_sub, Nat.reduceAdd]
  split_ifs <;> first
    | rfl
    | (exfalso; omega)
    | (apply key <;> apply Fin.ext <;> simp only <;> omega)

/-- An entry of the pooling weights: the group's own within a group, zero across. -/
theorem pool_bd_apply (W : FVec Ideal S4x64x64 .f32) (x l : Fin 256) : pool_bd W (ix2 x l)
    = if x.val / 64 = l.val / 64 then W (ix3 ⟨l.val / 64, by omega⟩ ⟨x.val % 64, by omega⟩ ⟨l.val % 64, by omega⟩) else 0 := by
  pointwise [pool_bd]
  exact blocks (fun a b c => W (ix3 a b c)) x.val l.val x.isLt l.isLt

theorem ws_tril_apply (W : FVec Ideal S4x128x128 .f32) (g : Fin 4) (p q : Fin 128) : ws_tril W (ix3 g p q)
    = W (ix3 g p q) * Scalar.select (IntOp.cmpi .sge (IntOp.addi (BitVec.ofNat 32 p.val) 0#32) (BitVec.ofNat 32 q.val)) 1 0 := by
  pointwise [ws_tril]

theorem bs_full_apply (B : FVec Ideal S4x128 .f32) (p : Fin 128) (l : Fin 256) : bs_full B (ix2 p l) = B (ix2 ⟨l.val / 64, by omega⟩ p) := by
  pointwise [bs_full]

end Cert.Kernel3Ideal.Merge
end
-- ==== Proof.MergeMath.lean ====
/- Facts about sums over the extended reals and about the sigmoid, for the merge of one layer. -/
module

public import Idealize.ShloMosaic.Lib.Pipeline.ValueKit
public import Idealize.ShloMosaic.Lib.Claim

@[expose] public section

noncomputable section

open Idealize.ShloMosaic

namespace Cert.Merge

/-- A value that is a real number. -/
def Fin' (x : EReal) : Prop := ∃ r : ℝ, x = r

theorem fin_zero : Fin' 0 := ⟨0, by simp⟩

theorem fin_add {x y : EReal} (hx : Fin' x) (hy : Fin' y) : Fin' (x + y) := by
  obtain ⟨a, rfl⟩ := hx
  obtain ⟨b, rfl⟩ := hy
  exact ⟨a + b, by push_cast; rfl⟩

theorem fin_sum (f : ℕ → EReal) (hf : ∀ i, Fin' (f i)) (n : ℕ) : Fin' (∑ i ∈ Finset.range n, f i) := by
  induction n with
  | zero => simpa using fin_zero
  | succ n ih => rw [Finset.sum_range_succ]; exact fin_add ih (hf n)

/-- A difference of running sums is the sum over the window between them. -/
theorem sum_window (f : ℕ → EReal) (hf : ∀ i, Fin' (f i)) (n w : ℕ) :
    (∑ i ∈ Finset.range (n + w), f i) - ∑ i ∈ Finset.range n, f i = ∑ k ∈ Finset.range w, f (n + k) := by
  rw [Finset.sum_range_add]
  obtain ⟨s, hs⟩ := fin_sum f hf n
  rw [hs, add_comm, EReal.add_sub_cancel_right]

/-- A left fold of additions is the sum. -/
theorem foldl_add {α : Type} (g : α → EReal) (L : List α) (v : EReal) : L.foldl (fun r n => r + g n) v = v + (L.map g).sum := by
  induction L generalizing v with
  | nil => simp
  | cons a L ih => rw [List.foldl_cons, ih, List.map_cons, List.sum_cons, add_assoc]

/-- A finite value less itself is zero. -/
theorem sub_self_of_fin {x : EReal} (hx : Fin' x) : x - x = 0 := by
  obtain ⟨r, rfl⟩ := hx
  rw [← EReal.coe_sub, sub_self, EReal.coe_zero]

theorem fin_mul {x y : EReal} (hx : Fin' x) (hy : Fin' y) : Fin' (x * y) := by
  obtain ⟨a, rfl⟩ := hx
  obtain ⟨b, rfl⟩ := hy
  exact ⟨a * b, by push_cast; rfl⟩

/-- A value of magnitude below infinity is real. -/
theorem fin_of_abs {x : EReal} (h : x ≠ ⊤) (h' : x ≠ ⊥) : Fin' x := ⟨x.toReal, (EReal.coe_toReal h h').symm⟩

/-- The logistic function by the hyperbolic tangent of half the argument. -/
theorem logistic_half (x : EReal) : ((1/2 : ℝ) : EReal) * Ideal.tanh (((1/2 : ℝ) : EReal) * x) + ((1/2 : ℝ) : EReal) = Ideal.div 1 (1 + Ideal.exp (-x)) := by
  show _ = Ideal.logistic x
  induction x with
  | bot =>
    rw [EReal.coe_mul_bot_of_pos (by norm_num), Ideal.tanh_bot, Ideal.logistic_bot]
    rw [show (-1 : EReal) = ((-1 : ℝ) : EReal) from by simp, ← EReal.coe_mul, ← EReal.coe_add]
    norm_num
  | top =>
    rw [EReal.coe_mul_top_of_pos (by norm_num), Ideal.tanh_top, Ideal.logistic_top]
    rw [show (1 : EReal) = ((1 : ℝ) : EReal) from by simp, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1/2 * r)) * Real.exp (-(1/2 * r)) := by rw [← Real.exp_add]; ring_nf
    have h2 : Real.exp (1/2 * r) * Real.exp (-(1/2 * r)) = 1 := by rw [← Real.exp_add]; simp
    have p1 := Real.exp_pos (1/2 * r)
    have p2 := Real.exp_pos (-(1/2 * r))
    rw [h1]
    generalize Real.exp (1/2 * r) = a at *
    generalize Real.exp (-(1/2 * r)) = b at *
    have hs : a + b ≠ 0 := by positivity
    have hb : 1 + b * b ≠ 0 := by positivity
    field_simp
    linear_combination (2 * b) * h2

end Cert.Merge
end
-- ==== Proof.MergeScratch.lean ====
/- The merge of one layer over the prompt: the running sums its scratch rows hold. -/
module

public import proofs.«01_k».proof.Proof.MergeHost
public import proofs.«01_k».proof.Proof.MergeMath

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

open Cert.Merge

abbrev Piece2 := View.Piece (Elt Ideal) S544x256 .f32

theorem canon_hit {W : ℕ} (o : ℕ) (inb) (w : (⟨2, ![W, 256]⟩ : Shape).Idx → Elt Ideal .f32) (L : List Piece2) (k : Fin 544) (l : Fin 256) (r : Fin W)
    (h : k.val = o + r.val) :
    View.canon ((⟨Rect.unit (s := S544x256) ![o, 0] (⟨2, ![W, 256]⟩ : Shape).size inb, w⟩ : Piece2) :: L) (ix2 k l) = w (ix2 r l) := by
  have e : (ix2 k l : S544x256.Idx) = (Rect.unit (s := S544x256) ![o, 0] (⟨2, ![W, 256]⟩ : Shape).size inb).emb (ix2 r l) := by
    funext a; apply Fin.ext; fin_cases a
    · show k.val = o + 1 * r.val; omega
    · show l.val = 0 + 1 * l.val; omega
  rw [e]
  exact View.canon_cons_emb _ _ _ _

theorem canon_miss {W : ℕ} (o : ℕ) (inb) (w : (⟨2, ![W, 256]⟩ : Shape).Idx → Elt Ideal .f32) (L : List Piece2) (k : Fin 544) (l : Fin 256)
    (h : k.val < o ∨ o + W ≤ k.val) :
    View.canon ((⟨Rect.unit (s := S544x256) ![o, 0] (⟨2, ![W, 256]⟩ : Shape).size inb, w⟩ : Piece2) :: L) (ix2 k l) = View.canon L (ix2 k l) := by
  refine View.canon_cons_of_not_mem _ L ?_
  intro hm
  have hm' : (ix2 k l : S544x256.Idx) ∈ (Rect.unit (s := S544x256) ![o, 0] (⟨2, ![W, 256]⟩ : Shape).size inb).set := hm
  have h0 := (Rect.mem_set_unit.mp hm') 0
  have h1 : o ≤ k.val ∧ k.val < o + W := h0
  omega

theorem read_at {W : ℕ} (v : View sig .tc .vmem S544x256 .f32) (p : ℕ) (inb) (L : List Piece2) (r : Fin W) (l : Fin 256) (k : Fin 544) (h : k.val = p + r.val) :
    v.readCov L (Rect.unit (s := S544x256) ![p, 0] (⟨2, ![W, 256]⟩ : Shape).size inb).toLoadRect (ix2 r l) = View.canon L (ix2 k l) := by
  rw [View.readCov_eq_canon']
  refine congrArg (View.canon L) ?_
  funext a; apply Fin.ext; fin_cases a
  · show p + 1 * r.val = k.val; omega
  · show 0 + 1 * l.val = l.val; omega

section
variable (i : grid0.Coords) (x3 : FVec Ideal S512x256 .f32) (x4 : FVec Ideal S16x256 .f32)

/-- The rows written first. -/
def L0 : List Piece2 :=
  [⟨Rect.unit (s := S544x256) ![32, 0] S512x256.size inb_S544x256_S512x256_32_0, k0_pay6 (F := Ideal) x3⟩,
   ⟨Rect.unit (s := S544x256) ![16, 0] S16x256.size inb_S544x256_S16x256_16_0, k0_pay5 (F := Ideal) i x4⟩,
   ⟨Rect.unit (s := S544x256) ![0, 0] S16x256.size inb_S544x256_S16x256_0_0, k0_pay3 (F := Ideal)⟩]

def r31 : Vec Ideal S528x256 .f32 := (View.whole cc0_scratch0).readCov (L0 i x3 x4) (Rect.unit (s := S544x256) ![16, 0] S528x256.size inb_S544x256_S528x256_16_0).toLoadRect
def r32 : Vec Ideal S528x256 .f32 := (View.whole cc0_scratch0).readCov (L0 i x3 x4) (Rect.unit (s := S544x256) ![15, 0] S528x256.size inb_S544x256_S528x256_15_0).toLoadRect

/-- The sums of two rows. -/
def L1 : List Piece2 :=
  [⟨Rect.unit (s := S544x256) ![16, 0] S528x256.size inb_S544x256_S528x256_16_0, k0_pay8 (r31 i x3 x4) (r32 i x3 x4)⟩,
   ⟨Rect.unit (s := S544x256) ![0, 0] S16x256.size inb_S544x256_S16x256_0_0, k0_pay4 (F := Ideal)⟩]

def r37 : Vec Ideal S528x256 .f32 := (View.whole cc0_scratch1).readCov (L1 i x3 x4) (Rect.unit (s := S544x256) ![14, 0] S528x256.size inb_S544x256_S528x256_14_0).toLoadRect

/-- The sums of four rows. -/
def L2 : List Piece2 :=
  ⟨Rect.unit (s := S544x256) ![16, 0] S528x256.size inb_S544x256_S528x256_16_0, k0_pay10 (r31 i x3 x4) (r32 i x3 x4) (r37 i x3 x4)⟩ :: L0 i x3 x4

def r42 : Vec Ideal S528x256 .f32 := (View.whole cc0_scratch0).readCov (L2 i x3 x4) (Rect.unit (s := S544x256) ![12, 0] S528x256.size inb_S544x256_S528x256_12_0).toLoadRect

/-- The sums of eight rows. -/
def L3 : List Piece2 :=
  ⟨Rect.unit (s := S544x256) ![16, 0] S528x256.size inb_S544x256_S528x256_16_0, k0_pay12 (r31 i x3 x4) (r32 i x3 x4) (r37 i x3 x4) (r42 i x3 x4)⟩ :: L1 i x3 x4

def r48 : Vec Ideal S512x256 .f32 := (View.whole cc0_scratch1).readCov (L3 i x3 x4) (Rect.unit (s := S544x256) ![24, 0] S512x256.size inb_S544x256_S512x256_24_0).toLoadRect

variable (l : Fin 256) (f : ℕ → EReal) (hf : ∀ k : Fin 544, 16 ≤ k.val → View.canon (L0 i x3 x4) (ix2 k l) = f k.val)
include hf

theorem two_at (r : Fin 528) (h : 1 ≤ r.val) : k0_pay7 (r31 i x3 x4) (r32 i x3 x4) (ix2 r l) = f (16 + r.val) + f (15 + r.val) := by
  pointwise [k0_pay7]
  rw [show r31 i x3 x4 (ix2 r l) = f (16 + r.val) from (read_at _ _ _ _ r l ⟨16 + r.val, by omega⟩ rfl).trans (hf _ (by simp only; omega)),
    show r32 i x3 x4 (ix2 r l) = f (15 + r.val) from (read_at _ _ _ _ r l ⟨15 + r.val, by omega⟩ rfl).trans (hf _ (by simp only; omega))]

theorem r37_at (r : Fin 528) (h : 3 ≤ r.val) : r37 i x3 x4 (ix2 r l) = f (14 + r.val) + f (13 + r.val) := by
  refine (read_at _ _ _ _ r l ⟨14 + r.val, by omega⟩ rfl).trans ?_
  refine (canon_hit 16 _ _ _ _ l ⟨r.val - 2, by omega⟩ (by simp only; omega)).trans ?_
  show k0_pay8 _ _ _ = _
  pointwise [k0_pay8]
  rw [two_at i x3 x4 l f hf _ (by simp only; omega)]
  congr 2 <;> simp only <;> omega

theorem four_at (r : Fin 528) (h : 3 ≤ r.val) : k0_pay9 (r31 i x3 x4) (r32 i x3 x4) (r37 i x3 x4) (ix2 r l)
    = (f (16 + r.val) + f (15 + r.val)) + (f (14 + r.val) + f (13 + r.val)) := by
  pointwise [k0_pay9]
  rw [two_at i x3 x4 l f hf r (by omega), r37_at i x3 x4 l f hf r h]

theorem r42_at (r : Fin 528) (h : 7 ≤ r.val) : r42 i x3 x4 (ix2 r l) = (f (12 + r.val) + f (11 + r.val)) + (f (10 + r.val) + f (9 + r.val)) := by
  refine (read_at _ _ _ _ r l ⟨12 + r.val, by omega⟩ rfl).trans ?_
  refine (canon_hit 16 _ _ _ _ l ⟨r.val - 4, by omega⟩ (by simp only; omega)).trans ?_
  show k0_pay10 _ _ _ _ = _
  pointwise [k0_pay10]
  rw [four_at i x3 x4 l f hf _ (by simp only; omega)]
  congr 3 <;> simp only <;> omega

theorem eight_at (r : Fin 528) (h : 7 ≤ r.val) : k0_pay11 (r31 i x3 x4) (r32 i x3 x4) (r37 i x3 x4) (r42 i x3 x4) (ix2 r l)
    = ((f (16 + r.val) + f (15 + r.val)) + (f (14 + r.val) + f (13 + r.val))) + ((f (12 + r.val) + f (11 + r.val)) + (f (10 + r.val) + f (9 + r.val))) := by
  pointwise [k0_pay11]
  rw [four_at i x3 x4 l f hf r (by omega), r42_at i x3 x4 l f hf r h]

theorem r48_at (r : Fin 512) : r48 i x3 x4 (ix2 r l)
    = ((f (24 + r.val) + f (23 + r.val)) + (f (22 + r.val) + f (21 + r.val))) + ((f (20 + r.val) + f (19 + r.val)) + (f (18 + r.val) + f (17 + r.val))) := by
  refine (read_at _ _ _ _ r l ⟨24 + r.val, by omega⟩ rfl).trans ?_
  refine (canon_hit 16 _ _ _ _ l ⟨r.val + 8, by omega⟩ (by simp only; omega)).trans ?_
  show k0_pay12 _ _ _ _ _ = _
  pointwise [k0_pay12]
  rw [eight_at i x3 x4 l f hf _ (by simp only; omega)]
  congr 4 <;> simp only <;> omega

theorem sum2_at (r : Fin 512) : k0_pay7 (r31 i x3 x4) (r32 i x3 x4) (ix2 ⟨16 + r.val, by omega⟩ l) = ∑ k ∈ Finset.range 2, f (31 + r.val + k) := by
  rw [two_at i x3 x4 l f hf _ (by simp only; omega)]
  simp only [Finset.sum_range_succ, Finset.sum_range_zero, zero_add]
  rw [add_comm]
  congr 2 <;> omega

theorem sum4_at (r : Fin 512) : k0_pay9 (r31 i x3 x4) (r32 i x3 x4) (r37 i x3 x4) (ix2 ⟨16 + r.val, by omega⟩ l) = ∑ k ∈ Finset.range 4, f (29 + r.val + k) := by
  rw [four_at i x3 x4 l f hf _ (by simp only; omega)]
  simp only [Finset.sum_range_succ, Finset.sum_range_zero, zero_add]
  simp only [← add_assoc, Nat.reduceAdd]
  simp only [add_right_comm _ r.val, Nat.reduceAdd]
  abel

theorem sum8_at (r : Fin 512) : k0_pay11 (r31 i x3 x4) (r32 i x3 x4) (r37 i x3 x4) (r42 i x3 x4) (ix2 ⟨16 + r.val, by omega⟩ l)
    = ∑ k ∈ Finset.range 8, f (25 + r.val + k) := by
  rw [eight_at i x3 x4 l f hf _ (by simp only; omega)]
  simp only [Finset.sum_range_succ, Finset.sum_range_zero, zero_add]
  simp only [← add_assoc, Nat.reduceAdd]
  simp only [add_right_comm _ r.val, Nat.reduceAdd]
  abel

theorem sum16_at (r : Fin 512) : k0_pay13 (r31 i x3 x4) (r32 i x3 x4) (r37 i x3 x4) (r42 i x3 x4) (r48 i x3 x4) (ix2 r l)
    = ∑ k ∈ Finset.range 16, f (17 + r.val + k) := by
  pointwise [k0_pay13]
  rw [eight_at i x3 x4 l f hf _ (by simp only; omega), r48_at i x3 x4 l f hf r]
  simp only [Finset.sum_range_succ, Finset.sum_range_zero, zero_add]
  simp only [← add_assoc, Nat.reduceAdd]
  simp only [add_right_comm _ r.val, Nat.reduceAdd]
  abel
end

end Cert.Kernel3Ideal.Merge
end
-- ==== Proof.MergeGate.lean ====
/- The merge of one layer over the prompt: its gating and its normed rows at an entry. -/
module

public import proofs.«01_k».proof.Proof.MergeHost
public import proofs.«01_k».proof.Proof.MergeMath

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

open Cert.Merge

/-- The weights of one group as the body reads them. -/
abbrev ws0 (x13 : FVec Ideal S4x128x128 .bf16) := View.ld (Val := Elt Ideal) (e' := .bf16) x13 (Rect.unit ![0, 0, 0] ![1, 128, 128] inb_S4x128x128_S1x128x128_0_0_0)
abbrev ws1 (x13 : FVec Ideal S4x128x128 .bf16) := View.ld (Val := Elt Ideal) (e' := .bf16) x13 (Rect.unit ![1, 0, 0] ![1, 128, 128] inb_S4x128x128_S1x128x128_1_0_0)
abbrev ws2 (x13 : FVec Ideal S4x128x128 .bf16) := View.ld (Val := Elt Ideal) (e' := .bf16) x13 (Rect.unit ![2, 0, 0] ![1, 128, 128] inb_S4x128x128_S1x128x128_2_0_0)
abbrev ws3 (x13 : FVec Ideal S4x128x128 .bf16) := View.ld (Val := Elt Ideal) (e' := .bf16) x13 (Rect.unit ![3, 0, 0] ![1, 128, 128] inb_S4x128x128_S1x128x128_3_0_0)

abbrev lanes : IVec S128x256 32 := iota Kind.tc S128x256 32 [1] iota_S128x256_d1_w32

/-- The normed rows. -/
def vnK (x7 : FVec Ideal S512x256 .f32) (x11 : FVec Ideal S1x256 .f32) (x12 : FVec Ideal S256x256 .bf16) : FVec Ideal S512x256 .f32 :=
  k0_pay18 (F := Ideal) (k0_pay17 (F := Ideal) x7) x12 x11

/-- The gated rows. -/
def gating (x6 x7 : FVec Ideal S512x256 .f32) (x11 : FVec Ideal S1x256 .f32) (x12 : FVec Ideal S256x256 .bf16) (x13 : FVec Ideal S4x128x128 .bf16)
    (x14 : FVec Ideal S128x256 .f32) : FVec Ideal S512x256 .f32 :=
  k0_pay31 lanes
    (k0_pay24 lanes (k0_pay20 (k0_pay17 x7) x12 x11) (k0_pay21 (k0_pay17 x7) x12 x11 (ws0 x13) (ws1 x13)) k0_pay22
      (k0_pay23 (k0_pay17 x7) x12 x11 (ws2 x13)) (ws3 x13) x14)
    (k0_pay26 (k0_pay25 (k0_pay19 (k0_pay17 x7) x12 x11) lanes (ws0 x13) (ws1 x13) (ws2 x13) (ws3 x13)) x14)
    (k0_pay27 (k0_pay19 (k0_pay17 x7) x12 x11) lanes (ws0 x13) (ws1 x13) (ws2 x13) (ws3 x13) x14)
    (k0_pay28 (k0_pay19 (k0_pay17 x7) x12 x11))
    (k0_pay29 (k0_pay19 (k0_pay17 x7) x12 x11) (ws0 x13))
    (k0_pay30 lanes) (ws1 x13) (ws2 x13) (ws3 x13) x14 x6

theorem ws0_at (x13 : FVec Ideal S4x128x128 .bf16) (p q : Fin 128) : ws0 x13 (ix3 0 p q) = x13 (ix3 0 p q) := by
  refine congrArg x13 ?_
  idx_ext
theorem ws1_at (x13 : FVec Ideal S4x128x128 .bf16) (p q : Fin 128) : ws1 x13 (ix3 0 p q) = x13 (ix3 1 p q) := by
  refine congrArg x13 ?_
  idx_ext
theorem ws2_at (x13 : FVec Ideal S4x128x128 .bf16) (p q : Fin 128) : ws2 x13 (ix3 0 p q) = x13 (ix3 2 p q) := by
  refine congrArg x13 ?_
  idx_ext
theorem ws3_at (x13 : FVec Ideal S4x128x128 .bf16) (p q : Fin 128) : ws3 x13 (ix3 0 p q) = x13 (ix3 3 p q) := by
  refine congrArg x13 ?_
  idx_ext

theorem lane192 : ∀ l : Fin 256, IntOp.cmpi .sge (BitVec.ofNat 32 l.val) 192#32 = if 192 ≤ l.val then 1#1 else 0#1 := by decide +kernel
theorem lane128 : ∀ l : Fin 256, IntOp.cmpi .sge (BitVec.ofNat 32 l.val) 128#32 = if 128 ≤ l.val then 1#1 else 0#1 := by decide +kernel
theorem lane64 : ∀ l : Fin 256, IntOp.cmpi .sge (BitVec.ofNat 32 l.val) 64#32 = if 64 ≤ l.val then 1#1 else 0#1 := by decide +kernel

/-- The value kept at a lane is its group's. -/
theorem lane_sel (l : Fin 256) (f : Fin 4 → EReal) : Scalar.select (IntOp.cmpi .sge (BitVec.ofNat 32 l.val) 192#32) (f 3)
    (Scalar.select (IntOp.cmpi .sge (BitVec.ofNat 32 l.val) 128#32) (f 2) (Scalar.select (IntOp.cmpi .sge (BitVec.ofNat 32 l.val) 64#32) (f 1) (f 0)))
      = f ⟨l.val / 64, by omega⟩ := by
  rw [lane192, lane128, lane64]
  have key : ∀ a b : Fin 4, a = b → f a = f b := by rintro _ _ rfl; rfl
  by_cases h3 : 192 ≤ l.val
  · rw [if_pos h3]
    exact key _ _ (Fin.ext (by show 3 = l.val / 64; omega))
  · rw [if_neg h3]
    by_cases h2 : 128 ≤ l.val
    · rw [if_pos h2]
      exact key _ _ (Fin.ext (by show 2 = l.val / 64; omega))
    · rw [if_neg h2]
      by_cases h1 : 64 ≤ l.val
      · rw [if_pos h1]
        exact key _ _ (Fin.ext (by show 1 = l.val / 64; omega))
      · rw [if_neg h1]
        exact key _ _ (Fin.ext (by show 0 = l.val / 64; omega))

theorem chunk_sel (x13 : FVec Ideal S4x128x128 .bf16) (x14 : FVec Ideal S128x256 .f32) (v : FVec Ideal S512x256 .f32) (p : Fin 128) (l : Fin 256) (e : Fin 128 → Fin 512) :
    Scalar.select (IntOp.cmpi .sge (BitVec.ofNat 32 l.val) 192#32) (∑ x, ws3 x13 (ix3 0 p x) * v (ix2 (e x) l))
      (Scalar.select (IntOp.cmpi .sge (BitVec.ofNat 32 l.val) 128#32) (∑ x, ws2 x13 (ix3 0 p x) * v (ix2 (e x) l))
        (Scalar.select (IntOp.cmpi .sge (BitVec.ofNat 32 l.val) 64#32) (∑ x, ws1 x13 (ix3 0 p x) * v (ix2 (e x) l)) (∑ x, ws0 x13 (ix3 0 p x) * v (ix2 (e x) l)))) + x14 (ix2 p l)
      = (∑ x : Fin 128, x13 (ix3 ⟨l.val / 64, by omega⟩ p x) * v (ix2 (e x) l)) + x14 (ix2 p l) := by
  refine congrArg (fun z => z + x14 (ix2 p l)) (Eq.trans ?_ (lane_sel l (fun g => ∑ x : Fin 128, x13 (ix3 g p x) * v (ix2 (e x) l))))
  simp only [fun x => ws0_at x13 p x, fun x => ws1_at x13 p x, fun x => ws2_at x13 p x, fun x => ws3_at x13 p x]

theorem gating_at (x6 x7 : FVec Ideal S512x256 .f32) (x11 : FVec Ideal S1x256 .f32) (x12 : FVec Ideal S256x256 .bf16) (x13 : FVec Ideal S4x128x128 .bf16)
    (x14 : FVec Ideal S128x256 .f32) (r : Fin 512) (l : Fin 256) : gating x6 x7 x11 x12 x13 x14 (ix2 r l)
    = x6 (ix2 r l) * ((∑ x : Fin 128, x13 (ix3 ⟨l.val / 64, by omega⟩ ⟨r.val % 128, by omega⟩ x) * vnK x7 x11 x12 (ix2 ⟨r.val / 128 * 128 + x.val, by omega⟩ l))
      + x14 (ix2 ⟨r.val % 128, by omega⟩ l)) := by
  pointwise [gating, k0_pay31, k0_pay24, k0_pay20, k0_pay19, k0_pay21, k0_pay22, k0_pay23, k0_pay25, k0_pay26, k0_pay27, k0_pay28, k0_pay29, k0_pay30]
  rw [show k0_pay18 (F := Ideal) (k0_pay17 (F := Ideal) x7) x12 x11 = vnK x7 x11 x12 from rfl]
  generalize vnK x7 x11 x12 = v
  have key : ∀ (p p' : Fin 128) (e e' : Fin 128 → Fin 512), p = p' → (∀ x, e x = e' x) →
      (∑ x : Fin 128, x13 (ix3 ⟨l.val / 64, by omega⟩ p x) * v (ix2 (e x) l)) + x14 (ix2 p l) = (∑ x : Fin 128, x13 (ix3 ⟨l.val / 64, by omega⟩ p' x) * v (ix2 (e' x) l)) + x14 (ix2 p' l) := by
    intro p p' e e' hp he
    obtain rfl := hp
    obtain rfl : e = e' := funext he
    rfl
  refine congrArg (fun z => x6 (ix2 r l) * z) ?_
  by_cases h0 : r.val < 128
  · refine (dif_pos h0).trans ((chunk_sel x13 x14 v _ l (fun x => ⟨x.val, by omega⟩)).trans (key _ _ _ _ (Fin.ext (by simp only; omega)) fun x => Fin.ext (by simp only; omega)))
  · refine (dif_neg h0).trans ?_
    by_cases h1 : r.val - 128 < 128
    · refine (dif_pos h1).trans ((chunk_sel x13 x14 v _ l (fun x => ⟨128 + x.val, by omega⟩)).trans (key _ _ _ _ (Fin.ext (by simp only; omega)) fun x => Fin.ext (by simp only; omega)))
    · refine (dif_neg h1).trans ?_
      by_cases h2 : r.val - 128 - 128 < 128
      · refine (dif_pos h2).trans ((chunk_sel x13 x14 v _ l (fun x => ⟨256 + x.val, by omega⟩)).trans (key _ _ _ _ (Fin.ext (by simp only; omega)) fun x => Fin.ext (by simp only; omega)))
      · refine (dif_neg h2).trans ((chunk_sel x13 x14 v _ l (fun x => ⟨384 + x.val, by omega⟩)).trans (key _ _ _ _ (Fin.ext (by simp only; omega)) fun x => Fin.ext (by simp only; omega)))

theorem sixty_four : Ideal.ofBits .f32 1115684864#32 = ((64 : ℝ) : EReal) := by
  simp [Ideal.ofBits, Ideal.ieee, -EReal.coe_mul]; norm_num

theorem one_64th : Ideal.ofBits .f32 1015021568#32 = ((1 / 64 : ℝ) : EReal) := by
  simp [Ideal.ofBits, Ideal.ieee, -EReal.coe_mul]; norm_num

theorem half : Ideal.ofBits .f32 1056964608#32 = ((1 / 2 : ℝ) : EReal) := by
  simp [Ideal.ofBits, Ideal.ieee, -EReal.coe_mul]; norm_num

theorem over_64 (x : EReal) : x * Ideal.ofBits .f32 1015021568#32 = Ideal.div x (Ideal.ofBits .f32 1115684864#32) := by
  rw [sixty_four, one_64th]
  unfold Ideal.div
  rw [if_neg (by norm_num), ← EReal.coe_inv]
  norm_num

/-- A sum over all lanes with the other groups' factors zero is the sum over the group's lanes. -/
theorem block_sum (F H : Fin 256 → EReal) (q : Fin 4) : ∑ x : Fin 256, F x * (if x.val / 64 = q.val then H x else 0)
    = ∑ y : Fin 64, F ⟨q.val * 64 + y.val, by omega⟩ * H ⟨q.val * 64 + y.val, by omega⟩ := by
  rw [← (finProdFinEquiv (m := 4) (n := 64)).sum_comp, Fintype.sum_prod_type, Finset.sum_eq_single q]
  · refine Finset.sum_congr rfl fun y _ => ?_
    have e : finProdFinEquiv (q, y) = (⟨q.val * 64 + y.val, by omega⟩ : Fin 256) := Fin.ext (by simp [finProdFinEquiv]; omega)
    rw [e, if_pos (by simp only; omega)]
  · intro g _ hg
    refine Finset.sum_eq_zero fun y _ => ?_
    have e : finProdFinEquiv (g, y) = (⟨g.val * 64 + y.val, by omega⟩ : Fin 256) := Fin.ext (by simp [finProdFinEquiv]; omega)
    rw [e, if_neg, mul_zero]
    intro h
    apply hg
    apply Fin.ext
    simp only at h
    omega
  · intro h
    exact absurd (Finset.mem_univ q) h

theorem vnK_at (x7 : FVec Ideal S512x256 .f32) (x11 : FVec Ideal S1x256 .f32) (hx : ∀ y, Fin' (x7 y)) (r : Fin 512) (l : Fin 256) :
    vnK x7 x11 ones_bd (ix2 r l) = x7 (ix2 r l) * Ideal.rsqrt (Ideal.div (∑ y : Fin 64, x7 (ix2 r ⟨l.val / 64 * 64 + y.val, by omega⟩) * x7 (ix2 r ⟨l.val / 64 * 64 + y.val, by omega⟩)) (Ideal.ofBits .f32 1115684864#32)
      + Ideal.ofBits .f32 897988541#32) * x11 (ix2 0 l) := by
  pointwise [vnK, k0_pay18, k0_pay17]
  have hz : ∀ x : Fin 256, x7 (ix2 r x) * x7 (ix2 r x) - x7 (ix2 r x) * x7 (ix2 r x) = 0 := fun x => sub_self_of_fin (fin_mul (hx _) (hx _))
  simp only [hz, zero_mul, Finset.sum_const_zero, add_zero, ones_bd_apply]
  rw [block_sum (fun x => x7 (ix2 r x) * x7 (ix2 r x)) (fun _ => 1) ⟨l.val / 64, by omega⟩, over_64]
  simp only [mul_one]

end Cert.Kernel3Ideal.Merge
end
-- ==== Proof.MergeEntry.lean ====
/- The merge of one layer over the prompt: each input block at a point, as the arguments' entries. -/
module

public import proofs.«01_k».proof.Proof.MergeHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

variable (m : (ℓ : Loc nD τ sig) → Buf (Elt Ideal) ℓ)

theorem entry_pool (c : Dev nD) : V m c main_v27 = pool_bd (m ((c : Thread nD τ).loc main_arg8)) := by
  entry_read
  rfl

theorem entry_ones (c : Dev nD) : V m c main_v8 = ones_bd := by
  entry_read
  rfl

theorem entry_ws (c : Dev nD) : V m c main_v33 = ws_tril (m ((c : Thread nD τ).loc main_arg11)) := by
  entry_read
  rfl

theorem entry_bs (c : Dev nD) : V m c main_v36 = bs_full (m ((c : Thread nD τ).loc main_arg12)) := by
  entry_read
  rfl

theorem entry_wo (c : Dev nD) : V m c main_v37 = truncf .bf16 (show FVec Ideal S1024x1024 .f32 from m ((c : Thread nD τ).loc main_arg13)) bitsLt_bf16_f32 := by
  entry_read
  rfl

theorem entry_scale (c : Dev nD) : V m c main_v28 = shapeCast S1x256 (show FVec Ideal S256 .f32 from m ((c : Thread nD τ).loc main_arg9)) shapeCasts_S256_S1x256 := by
  entry_read
  rfl

theorem entry_gnorm (c : Dev nD) : V m c main_v29 = shapeCast S1x256 (show FVec Ideal S256 .f32 from m ((c : Thread nD τ).loc main_arg10)) shapeCasts_S256_S1x256 := by
  entry_read
  rfl

theorem entry_gpost (c : Dev nD) : V m c main_v38 = shapeCast S1x1024 (show FVec Ideal S1024 .f32 from m ((c : Thread nD τ).loc main_arg14)) shapeCasts_S1024_S1x1024 := by
  entry_read
  rfl

theorem entry_rows0 (c : Dev nD) : V m c main_v45 = shapeCast S16384x1024 (show FVec Ideal S4x4096x1024 .f32 from m ((c : Thread nD τ).loc main_arg0)) shapeCasts_S4x4096x1024_S16384x1024 := by
  entry_read
  rfl

theorem entry_rows1 (c : Dev nD) : V m c main_v46 = shapeCast S16384x512 (show FVec Ideal S4x4096x512 .f32 from m ((c : Thread nD τ).loc main_arg1)) shapeCasts_S4x4096x512_S16384x512 := by
  entry_read
  rfl

theorem entry_rows2 (c : Dev nD) : V m c main_v39 = shapeCast S16384x512 (show FVec Ideal S4x4096x512 .f32 from m ((c : Thread nD τ).loc main_arg2)) shapeCasts_S4x4096x512_S16384x512 := by
  entry_read
  rfl

theorem entry_rows3 (c : Dev nD) : V m c main_v40 = shapeCast S16384x256 (show FVec Ideal S4x4096x256 .f32 from m ((c : Thread nD τ).loc main_arg3)) shapeCasts_S4x4096x256_S16384x256 := by
  entry_read
  rfl

theorem entry_rows5 (c : Dev nD) : V m c main_v41 = shapeCast S16384x256 (show FVec Ideal S4x4096x256 .f32 from m ((c : Thread nD τ).loc main_arg4)) shapeCasts_S4x4096x256_S16384x256 := by
  entry_read
  rfl

theorem entry_rows6 (c : Dev nD) : V m c main_v42 = shapeCast S16384x256 (show FVec Ideal S4x4096x256 .f32 from m ((c : Thread nD τ).loc main_arg5)) shapeCasts_S4x4096x256_S16384x256 := by
  entry_read
  rfl

theorem entry_rows7 (c : Dev nD) : V m c main_v43 = shapeCast S16384x256 (show FVec Ideal S4x4096x256 .f32 from m ((c : Thread nD τ).loc main_arg6)) shapeCasts_S4x4096x256_S16384x256 := by
  entry_read
  rfl

theorem entry_rows8 (c : Dev nD) : V m c main_v44 = shapeCast S16384x256 (show FVec Ideal S4x4096x256 .f32 from m ((c : Thread nD τ).loc main_arg7)) shapeCasts_S4x4096x256_S16384x256 := by
  entry_read
  rfl

/-- The block each window takes at each point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![max (t.val * 32 - 1) 0, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0]
    ∧ win0_11.index t = ![0, 0]
    ∧ win0_12.index t = ![0, 0]
    ∧ win0_13.index t = ![0, 0, 0]
    ∧ win0_14.index t = ![0, 0]
    ∧ win0_15.index t = ![0, 0]
    ∧ win0_16.index t = ![0, 0]
    ∧ win0_17.index t = ![t.val, 0]
    ∧ win0_18.index t = ![t.val, 0]
    ∧ t.val < 32 :=
  (by decide +kernel : ∀ t : Fin grid0.N, _)

theorem point_lt (t : Fin cfg0.N) : t.val < 32 := lt_of_lt_of_eq t.isLt (by decide +kernel)

set_option maxHeartbeats 4000000 in
theorem rows0_at (c : Dev nD) (t : Fin cfg0.N) (r : Fin 512) (k : Fin 1024) (b : Fin 4) (s : Fin 4096)
    (h : 4096 * b.val + s.val = 512 * t.val + r.val) :
    (show FVec Ideal S512x1024 .f32 from iblk m c 0 t) (ix2 r k)
      = (show FVec Ideal S4x4096x1024 .f32 from m ((c : Thread nD τ).loc main_arg0)) (ix3 b s k) := by
  blk_simp [iblk, idx t]
  rw [entry_rows0]
  pointwise
  refine congrArg _ ?_
  blk_ext [idx t]

set_option maxHeartbeats 4000000 in
theorem rows1_at (c : Dev nD) (t : Fin cfg0.N) (r : Fin 512) (k : Fin 512) (b : Fin 4) (s : Fin 4096)
    (h : 4096 * b.val + s.val = 512 * t.val + r.val) :
    (show FVec Ideal S512x512 .f32 from iblk m c 1 t) (ix2 r k)
      = (show FVec Ideal S4x4096x512 .f32 from m ((c : Thread nD τ).loc main_arg1)) (ix3 b s k) := by
  blk_simp [iblk, idx t]
  rw [entry_rows1]
  pointwise
  refine congrArg _ ?_
  blk_ext [idx t]

set_option maxHeartbeats 4000000 in
theorem rows2_at (c : Dev nD) (t : Fin cfg0.N) (r : Fin 512) (k : Fin 512) (b : Fin 4) (s : Fin 4096)
    (h : 4096 * b.val + s.val = 512 * t.val + r.val) :
    (show FVec Ideal S512x512 .f32 from iblk m c 2 t) (ix2 r k)
      = (show FVec Ideal S4x4096x512 .f32 from m ((c : Thread nD τ).loc main_arg2)) (ix3 b s k) := by
  blk_simp [iblk, idx t]
  rw [entry_rows2]
  pointwise
  refine congrArg _ ?_
  blk_ext [idx t]

set_option maxHeartbeats 4000000 in
theorem rows3_at (c : Dev nD) (t : Fin cfg0.N) (r : Fin 512) (k : Fin 256) (b : Fin 4) (s : Fin 4096)
    (h : 4096 * b.val + s.val = 512 * t.val + r.val) :
    (show FVec Ideal S512x256 .f32 from iblk m c 3 t) (ix2 r k)
      = (show FVec Ideal S4x4096x256 .f32 from m ((c : Thread nD τ).loc main_arg3)) (ix3 b s k) := by
  blk_simp [iblk, idx t]
  rw [entry_rows3]
  pointwise
  refine congrArg _ ?_
  blk_ext [idx t]

set_option maxHeartbeats 4000000 in
theorem rows5_at (c : Dev nD) (t : Fin cfg0.N) (r : Fin 512) (k : Fin 256) (b : Fin 4) (s : Fin 4096)
    (h : 4096 * b.val + s.val = 512 * t.val + r.val) :
    (show FVec Ideal S512x256 .f32 from iblk m c 5 t) (ix2 r k)
      = (show FVec Ideal S4x4096x256 .f32 from m ((c : Thread nD τ).loc main_arg4)) (ix3 b s k) := by
  blk_simp [iblk, idx t]
  rw [entry_rows5]
  pointwise
  refine congrArg _ ?_
  blk_ext [idx t]

set_option maxHeartbeats 4000000 in
theorem rows6_at (c : Dev nD) (t : Fin cfg0.N) (r : Fin 512) (k : Fin 256) (b : Fin 4) (s : Fin 4096)
    (h : 4096 * b.val + s.val = 512 * t.val + r.val) :
    (show FVec Ideal S512x256 .f32 from iblk m c 6 t) (ix2 r k)
      = (show FVec Ideal S4x4096x256 .f32 from m ((c : Thread nD τ).loc main_arg5)) (ix3 b s k) := by
  blk_simp [iblk, idx t]
  rw [entry_rows6]
  pointwise
  refine congrArg _ ?_
  blk_ext [idx t]

set_option maxHeartbeats 4000000 in
theorem rows7_at (c : Dev nD) (t : Fin cfg0.N) (r : Fin 512) (k : Fin 256) (b : Fin 4) (s : Fin 4096)
    (h : 4096 * b.val + s.val = 512 * t.val + r.val) :
    (show FVec Ideal S512x256 .f32 from iblk m c 7 t) (ix2 r k)
      = (show FVec Ideal S4x4096x256 .f32 from m ((c : Thread nD τ).loc main_arg6)) (ix3 b s k) := by
  blk_simp [iblk, idx t]
  rw [entry_rows7]
  pointwise
  refine congrArg _ ?_
  blk_ext [idx t]

set_option maxHeartbeats 4000000 in
theorem rows8_at (c : Dev nD) (t : Fin cfg0.N) (r : Fin 512) (k : Fin 256) (b : Fin 4) (s : Fin 4096)
    (h : 4096 * b.val + s.val = 512 * t.val + r.val) :
    (show FVec Ideal S512x256 .f32 from iblk m c 8 t) (ix2 r k)
      = (show FVec Ideal S4x4096x256 .f32 from m ((c : Thread nD τ).loc main_arg7)) (ix3 b s k) := by
  blk_simp [iblk, idx t]
  rw [entry_rows8]
  pointwise
  refine congrArg _ ?_
  blk_ext [idx t]

set_option maxHeartbeats 4000000 in
/-- The sixteen rows before a point's, for a point that has some. -/
theorem before_at (c : Dev nD) (t : Fin cfg0.N) (r : Fin 16) (k : Fin 256) (b : Fin 4) (s : Fin 4096) (ht : 0 < t.val)
    (h : 4096 * b.val + s.val + 16 = 512 * t.val + r.val) :
    (show FVec Ideal S16x256 .f32 from iblk m c 4 t) (ix2 r k)
      = (show FVec Ideal S4x4096x256 .f32 from m ((c : Thread nD τ).loc main_arg3)) (ix3 b s k) := by
  blk_simp [iblk, idx t]
  rw [entry_rows3]
  pointwise
  refine congrArg _ ?_
  blk_ext [idx t]

theorem scale_at (c : Dev nD) (t : Fin cfg0.N) (k : Fin 256) :
    (show FVec Ideal S1x256 .f32 from iblk m c 10 t) (ix2 0 k)
      = (show FVec Ideal S256 .f32 from m ((c : Thread nD τ).loc main_arg9)) (ix1 k) := by
  blk_simp [iblk, idx t]
  rw [entry_scale]
  pointwise
  refine congrArg _ ?_
  blk_ext [idx t]

theorem gnorm_at (c : Dev nD) (t : Fin cfg0.N) (k : Fin 256) :
    (show FVec Ideal S1x256 .f32 from iblk m c 11 t) (ix2 0 k)
      = (show FVec Ideal S256 .f32 from m ((c : Thread nD τ).loc main_arg10)) (ix1 k) := by
  blk_simp [iblk, idx t]
  rw [entry_gnorm]
  pointwise
  refine congrArg _ ?_
  blk_ext [idx t]

theorem gpost_at (c : Dev nD) (t : Fin cfg0.N) (k : Fin 1024) :
    (show FVec Ideal S1x1024 .f32 from iblk m c 16 t) (ix2 0 k)
      = (show FVec Ideal S1024 .f32 from m ((c : Thread nD τ).loc main_arg14)) (ix1 k) := by
  blk_simp [iblk, idx t]
  rw [entry_gpost]
  pointwise
  refine congrArg _ ?_
  blk_ext [idx t]

theorem pool_at (c : Dev nD) (t : Fin cfg0.N) : (show FVec Ideal S256x256 .bf16 from iblk m c 9 t) = pool_bd (m ((c : Thread nD τ).loc main_arg8)) := by
  funext y
  blk_simp [iblk, idx t]
  rw [entry_pool]
  refine congrArg _ ?_
  blk_ext [idx t]

theorem ones_at (c : Dev nD) (t : Fin cfg0.N) : (show FVec Ideal S256x256 .bf16 from iblk m c 12 t) = ones_bd := by
  funext y
  blk_simp [iblk, idx t]
  rw [entry_ones]
  refine congrArg _ ?_
  blk_ext [idx t]

theorem ws_at (c : Dev nD) (t : Fin cfg0.N) : (show FVec Ideal S4x128x128 .bf16 from iblk m c 13 t) = ws_tril (m ((c : Thread nD τ).loc main_arg11)) := by
  funext y
  blk_simp [iblk, idx t]
  rw [entry_ws]
  refine congrArg _ ?_
  blk_ext [idx t]

theorem bs_at (c : Dev nD) (t : Fin cfg0.N) : (show FVec Ideal S128x256 .f32 from iblk m c 14 t) = bs_full (m ((c : Thread nD τ).loc main_arg12)) := by
  funext y
  blk_simp [iblk, idx t]
  rw [entry_bs]
  refine congrArg _ ?_
  blk_ext [idx t]

theorem wo_at (c : Dev nD) (t : Fin cfg0.N) : (show FVec Ideal S1024x1024 .bf16 from iblk m c 15 t) = truncf .bf16 (show FVec Ideal S1024x1024 .f32 from m ((c : Thread nD τ).loc main_arg13)) bitsLt_bf16_f32 := by
  funext y
  blk_simp [iblk, idx t]
  rw [entry_wo]
  refine congrArg _ ?_
  blk_ext [idx t]

end Cert.Kernel3Ideal.Merge
end
-- ==== Proof.MergeRef.lean ====
/- The merge of one layer over the prompt, the reference's side: its terms by name and read at an index. -/
module

public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference3Ideal.Merge

open Cert.Reference3Ideal Cert.Reference3Ideal.Gen

/-- The rows fifteen zero rows stand before. -/
def front (A3 : FVec Ideal S4x4096x256 .f32) : FVec Ideal S4x4111x256 .f32 :=
  (concatenate S4x4111x256 1 [⟨S4x15x256, (broadcastInDim S4x15x256 ![] bcast_S_S4x15x256 (constant S_ .f32 0x00000000#32))⟩, ⟨S4x4096x256, A3⟩] concatenates_S4x15x256_S4x4096x256_S4x4111x256_d1)

/-- The rows sixteen zero rows stand before. -/
def padded (A3 : FVec Ideal S4x4096x256 .f32) : FVec Ideal S4x4112x256 .f32 :=
  (pad S4x4112x256 ![0, 1, 0] ![0, 0, 0] ![0, 0, 0] (front A3) (sitofp .f32 (constantI S_ 32 0#32)) pads_S4x4111x256_S4x4112x256_000_100_000 h_S_)

/-- The running sums of the padded rows. -/
def sums (A3 : FVec Ideal S4x4096x256 .f32) : FVec Ideal S4x4112x256 .f32 :=
  (Host.reduceWindowAdd ![1, 4112, 1] ![1, 1, 1] ![0, 4111, 0] ![0, 0, 0] (padded A3) (broadcastInDim S_ ![] bcast_S_S_ (constant S_ .f32 0x00000000#32)) reduceWindows_S4x4112x256_S4x4112x256_w1s1p0_0_w4112s1p4111_0_w1s1p0_0 h_S_)

/-- How many rows a window of 2 holds at each row. -/
def count2 : FVec Ideal S4096 .f32 :=
  (sitofp .f32 (minsi (broadcastInDim S4096 ![] bcast_S_S4096 (constantI S_ 32 2#32)) (addi (addi (broadcastInDim S4096 ![] bcast_S_S4096 (constantI S_ 32 0#32)) (iotaInDim S4096 32 0)) (broadcastInDim S4096 ![] bcast_S_S4096 (constantI S_ 32 1#32)))))

/-- How many rows a window of 4 holds at each row. -/
def count4 : FVec Ideal S4096 .f32 :=
  (sitofp .f32 (minsi (broadcastInDim S4096 ![] bcast_S_S4096 (constantI S_ 32 4#32)) (addi (addi (broadcastInDim S4096 ![] bcast_S_S4096 (constantI S_ 32 0#32)) (iotaInDim S4096 32 0)) (broadcastInDim S4096 ![] bcast_S_S4096 (constantI S_ 32 1#32)))))

/-- How many rows a window of 8 holds at each row. -/
def count8 : FVec Ideal S4096 .f32 :=
  (sitofp .f32 (minsi (broadcastInDim S4096 ![] bcast_S_S4096 (constantI S_ 32 8#32)) (addi (addi (broadcastInDim S4096 ![] bcast_S_S4096 (constantI S_ 32 0#32)) (iotaInDim S4096 32 0)) (broadcastInDim S4096 ![] bcast_S_S4096 (constantI S_ 32 1#32)))))

/-- How many rows a window of 16 holds at each row. -/
def count16 : FVec Ideal S4096 .f32 :=
  (sitofp .f32 (minsi (broadcastInDim S4096 ![] bcast_S_S4096 (constantI S_ 32 16#32)) (addi (addi (broadcastInDim S4096 ![] bcast_S_S4096 (constantI S_ 32 0#32)) (iotaInDim S4096 32 0)) (broadcastInDim S4096 ![] bcast_S_S4096 (constantI S_ 32 1#32)))))

/-- The means over windows of 2 rows. -/
def mean2 (A3 : FVec Ideal S4x4096x256 .f32) : FVec Ideal S4x4096x64 .f32 :=
  (Host.divf (subf (extractStridedSlice S4x4096x64 ![0, 0, 0] (extractStridedSlice S4x4096x256 ![0, 16, 0] (sums A3) slices_S4x4112x256_S4x4096x256_0_16_0) slices_S4x4096x256_S4x4096x64_0_0_0) (extractStridedSlice S4x4096x64 ![0, 14, 0] (sums A3) slices_S4x4112x256_S4x4096x64_0_14_0)) (broadcastInDim S4x4096x64 ![0, 1, 2] bcast_S1x4096x1_S4x4096x64_0_1_2 (broadcastInDim S1x4096x1 ![1] bcast_S4096_S1x4096x1_1 (count2 ))))

/-- The means over windows of 4 rows. -/
def mean4 (A3 : FVec Ideal S4x4096x256 .f32) : FVec Ideal S4x4096x64 .f32 :=
  (Host.divf (subf (extractStridedSlice S4x4096x64 ![0, 0, 64] (extractStridedSlice S4x4096x256 ![0, 16, 0] (sums A3) slices_S4x4112x256_S4x4096x256_0_16_0) slices_S4x4096x256_S4x4096x64_0_0_64) (extractStridedSlice S4x4096x64 ![0, 12, 64] (sums A3) slices_S4x4112x256_S4x4096x64_0_12_64)) (broadcastInDim S4x4096x64 ![0, 1, 2] bcast_S1x4096x1_S4x4096x64_0_1_2 (broadcastInDim S1x4096x1 ![1] bcast_S4096_S1x4096x1_1 (count4 ))))

/-- The means over windows of 8 rows. -/
def mean8 (A3 : FVec Ideal S4x4096x256 .f32) : FVec Ideal S4x4096x64 .f32 :=
  (Host.divf (subf (extractStridedSlice S4x4096x64 ![0, 0, 128] (extractStridedSlice S4x4096x256 ![0, 16, 0] (sums A3) slices_S4x4112x256_S4x4096x256_0_16_0) slices_S4x4096x256_S4x4096x64_0_0_128) (extractStridedSlice S4x4096x64 ![0, 8, 128] (sums A3) slices_S4x4112x256_S4x4096x64_0_8_128)) (broadcastInDim S4x4096x64 ![0, 1, 2] bcast_S1x4096x1_S4x4096x64_0_1_2 (broadcastInDim S1x4096x1 ![1] bcast_S4096_S1x4096x1_1 (count8 ))))

/-- The means over windows of 16 rows. -/
def mean16 (A3 : FVec Ideal S4x4096x256 .f32) : FVec Ideal S4x4096x64 .f32 :=
  (Host.divf (subf (extractStridedSlice S4x4096x64 ![0, 0, 192] (extractStridedSlice S4x4096x256 ![0, 16, 0] (sums A3) slices_S4x4112x256_S4x4096x256_0_16_0) slices_S4x4096x256_S4x4096x64_0_0_192) (extractStridedSlice S4x4096x64 ![0, 0, 192] (sums A3) slices_S4x4112x256_S4x4096x64_0_0_192)) (broadcastInDim S4x4096x64 ![0, 1, 2] bcast_S1x4096x1_S4x4096x64_0_1_2 (broadcastInDim S1x4096x1 ![1] bcast_S4096_S1x4096x1_1 (count16 ))))

/-- The window means less the rows themselves. -/
def pooled (A3 : FVec Ideal S4x4096x256 .f32) : FVec Ideal S4x4096x256 .f32 :=
  (subf ((concatenate S4x4096x256 2 [⟨S4x4096x64, ((mean2 A3) : (⟨S4x4096x64, .f32⟩ : BufTy).Contents (Elt Ideal))⟩, ⟨S4x4096x64, ((mean4 A3) : (⟨S4x4096x64, .f32⟩ : BufTy).Contents (Elt Ideal))⟩, ⟨S4x4096x64, ((mean8 A3) : (⟨S4x4096x64, .f32⟩ : BufTy).Contents (Elt Ideal))⟩, ⟨S4x4096x64, ((mean16 A3) : (⟨S4x4096x64, .f32⟩ : BufTy).Contents (Elt Ideal))⟩] concatenates_S4x4096x64_S4x4096x64_S4x4096x64_S4x4096x64_S4x4096x256_d2 : (⟨S4x4096x256, .f32⟩ : BufTy).Contents (Elt Ideal))) (extractStridedSlice S4x4096x256 ![0, 15, 0] (front A3) slices_S4x4111x256_S4x4096x256_0_15_0))

/-- The pooled rows through the weights of each group, times the scale. -/
def mix (A3 : FVec Ideal S4x4096x256 .f32) (A8 : FVec Ideal S4x64x64 .f32) (A9 : FVec Ideal S256 .f32) : FVec Ideal S4x4096x256 .f32 :=
  (mulf (shapeCast _ (transpose S4x4096x4x64 [2, 3, 0, 1] (Host.dotGeneral dot_S4x64x64_S4x4096x4x64_S4x64x4x4096_1_3_2_01_0_2 none A8 (shapeCast _ (pooled A3) shapeCasts_S4x4096x256_S4x4096x4x64)) transposes_S4x64x4x4096_S4x4096x4x64_2_3_0_1) shapeCasts_S4x4096x4x64_S4x4096x256) (broadcastInDim S4x4096x256 ![0, 1, 2] bcast_S1x1x256_S4x4096x256_0_1_2 (broadcastInDim S1x1x256 ![2] bcast_S256_S1x1x256_2 A9)))

/-- The weights of each chunk, zero above the diagonal. -/
def lower (A11 : FVec Ideal S4x128x128 .f32) : FVec Ideal S4x128x128 .f32 :=
  (mulf A11 (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))

/-- Each group of a row over its root mean square, times the gains. -/
def normed4 (A6 : FVec Ideal S4x4096x256 .f32) (A10 : FVec Ideal S256 .f32) : FVec Ideal S4x4096x4x64 .f32 :=
  (mulf (mulf (shapeCast _ A6 shapeCasts_S4x4096x256_S4x4096x4x64) (broadcastInDim S4x4096x4x64 ![0, 1, 2, 3] bcast_S4x4096x4x1_S4x4096x4x64_0_1_2_3 (Host.rsqrt (addf (Host.divf (broadcastInDim S4x4096x4x1 ![0, 1, 2] bcast_S4x4096x4_S4x4096x4x1_0_1_2 (Host.reduceAdd (mulf (shapeCast _ A6 shapeCasts_S4x4096x256_S4x4096x4x64) (shapeCast _ A6 shapeCasts_S4x4096x256_S4x4096x4x64)) (constant S_ .f32 0x00000000#32) reducesTo_S4x4096x4x64_S4x4096x4_d3 h_S_)) (broadcastInDim S4x4096x4x1 ![] bcast_S_S4x4096x4x1 (constant S_ .f32 0x42800000#32))) (broadcastInDim S4x4096x4x1 ![] bcast_S_S4x4096x4x1 (constant S_ .f32 0x358637BD#32)))))) (broadcastInDim S4x4096x4x64 ![0, 1, 2, 3] bcast_S1x1x4x64_S4x4096x4x64_0_1_2_3 (broadcastInDim S1x1x4x64 ![2, 3] bcast_S4x64_S1x1x4x64_2_3 (shapeCast _ A10 shapeCasts_S256_S4x64))))

/-- The chunk mix of the normed rows plus the offsets, times the gate. -/
def gated (A5 : FVec Ideal S4x4096x256 .f32) (A6 : FVec Ideal S4x4096x256 .f32) (A10 : FVec Ideal S256 .f32) (A11 : FVec Ideal S4x128x128 .f32) (A12 : FVec Ideal S4x128 .f32) : FVec Ideal S4x4096x256 .f32 :=
  (mulf A5 (shapeCast _ (addf (transpose S4x32x128x4x64 [1, 2, 4, 0, 3] (Host.dotGeneral dot_S4x32x128x4x64_S4x128x128_S4x4x32x64x128_2_2_014_1_3_0 none (shapeCast _ (normed4 A6 A10) shapeCasts_S4x4096x4x64_S4x32x128x4x64) (lower A11)) transposes_S4x4x32x64x128_S4x32x128x4x64_1_2_4_0_3) (broadcastInDim S4x32x128x4x64 ![0, 1, 2, 3, 4] bcast_S1x1x128x4x1_S4x32x128x4x64_0_1_2_3_4 (broadcastInDim S1x1x128x4x1 ![2, 3] bcast_S128x4_S1x1x128x4x1_2_3 (transpose S128x4 [1, 0] A12 transposes_S4x128_S128x4_1_0)))) shapeCasts_S4x32x128x4x64_S4x4096x256))

/-- Each entry times its sigmoid. -/
def silu512 (Z : FVec Ideal S4x4096x512 .f32) : FVec Ideal S4x4096x512 .f32 :=
  (mulf Z (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf Z)))))

/-- Each entry times its sigmoid. -/
def silu256 (Z : FVec Ideal S4x4096x256 .f32) : FVec Ideal S4x4096x256 .f32 :=
  (mulf Z (Host.divf (broadcastInDim S4x4096x256 ![] bcast_S_S4x4096x256 (constant S_ .f32 0x3F800000#32)) (addf (broadcastInDim S4x4096x256 ![] bcast_S_S4x4096x256 (constant S_ .f32 0x3F800000#32)) (Host.exp (Host.negf Z)))))

/-- The three parts side by side through the output weights. -/
def out (A1 : FVec Ideal S4x4096x512 .f32) (A2 : FVec Ideal S4x4096x512 .f32) (A3 : FVec Ideal S4x4096x256 .f32) (A4 : FVec Ideal S4x4096x256 .f32) (A5 : FVec Ideal S4x4096x256 .f32) (A6 : FVec Ideal S4x4096x256 .f32) (A7 : FVec Ideal S4x4096x256 .f32) (A8 : FVec Ideal S4x64x64 .f32) (A9 : FVec Ideal S256 .f32) (A10 : FVec Ideal S256 .f32) (A11 : FVec Ideal S4x128x128 .f32) (A12 : FVec Ideal S4x128 .f32) (A13 : FVec Ideal S1024x1024 .f32) : FVec Ideal S4x4096x1024 .f32 :=
  (Host.dotGeneral (φ₁ := .f32) (φ₂ := .f32) dot_S4x4096x1024_S1024x1024_S4x4096x1024_2_0_01_1_n_n none ((concatenate S4x4096x1024 2 [⟨S4x4096x512, ((mulf A1 (silu512 A2)) : (⟨S4x4096x512, .f32⟩ : BufTy).Contents (Elt Ideal))⟩, ⟨S4x4096x256, ((mulf (mix A3 A8 A9) (silu256 A4)) : (⟨S4x4096x256, .f32⟩ : BufTy).Contents (Elt Ideal))⟩, ⟨S4x4096x256, ((mulf (gated A5 A6 A10 A11 A12) (silu256 A7)) : (⟨S4x4096x256, .f32⟩ : BufTy).Contents (Elt Ideal))⟩] concatenates_S4x4096x512_S4x4096x256_S4x4096x256_S4x4096x1024_d2 : (⟨S4x4096x1024, .f32⟩ : BufTy).Contents (Elt Ideal))) A13)

/-- The rows plus the normed output rows times the gains. -/
def after (A0 : FVec Ideal S4x4096x1024 .f32) (Y : FVec Ideal S4x4096x1024 .f32) (A14 : FVec Ideal S1024 .f32) : FVec Ideal S4x4096x1024 .f32 :=
  (addf A0 (mulf (mulf Y (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf Y Y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 A14))))

set_option maxHeartbeats 4000000 in
theorem res_eq (m : (ℓ : Loc nD τ sig) → Buf (Elt Ideal) ℓ) (c : Dev nD) : Value.res_main_v114 m c =
  shapeCast _ (after (m ((c.tc : Thread nD τ).loc main_arg0)) (out (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14))) shapeCasts_S4x4096x1024_S16384x1024 := rfl

end Cert.Reference3Ideal.Merge

end
-- ==== Proof.MergeRead.lean ====
/- The merge of one layer over the prompt: the reference's terms read at an index. -/
module

public import proofs.«01_k».proof.Proof.MergeRef
public import proofs.«01_k».proof.Proof.MergeMath

@[expose] public section

set_option maxRecDepth 16384

noncomputable section

open Idealize.ShloMosaic Idealize.ShloMosaic.TcCoe Idealize.SL.Sem
open Idealize.ShloMosaic.Pipeline (Dat)
open Cert.Merge

namespace Cert.Reference3Ideal.Merge

open Cert.Reference3Ideal Cert.Reference3Ideal.Gen

/-- Entry `n` of lane `l` of sequence `b` with sixteen zeros before its rows. -/
def row (A : FVec Ideal S4x4096x256 .f32) (b : Fin 4) (l : Fin 256) (n : ℕ) : EReal :=
  if h : 16 ≤ n ∧ n < 4112 then A (ix3 b ⟨n - 16, by omega⟩ l) else 0

theorem row_fin (A : FVec Ideal S4x4096x256 .f32) (hA : ∀ i, Fin' (A i)) (b : Fin 4) (l : Fin 256) (n : ℕ) : Fin' (row A b l n) := by
  unfold row
  split
  · exact hA _
  · exact fin_zero

theorem sitofp_zero : (FloatOps.sitofp (F := Ideal) FTy.f32 0#32 : EReal) = 0 := by
  simp [FloatOps.sitofp]

theorem padded_apply (A : FVec Ideal S4x4096x256 .f32) (b : Fin 4) (t : Fin 4112) (l : Fin 256) :
    padded A (ix3 b t l) = row A b l t.val := by
  pointwise [padded, front]
  unfold row
  by_cases h1 : 16 ≤ t.val
  · rw [dif_pos (show 1 ≤ (t : ℕ) ∧ (t : ℕ) - 1 < 4111 from ⟨by omega, by omega⟩), dif_neg (by omega), dif_pos ⟨h1, t.isLt⟩]
    congr 1
  · rw [dif_neg (c := 16 ≤ (t : ℕ) ∧ (t : ℕ) < 4112) (fun h => h1 h.1)]
    by_cases h0 : 1 ≤ (t : ℕ)
    · rw [dif_pos (show 1 ≤ (t : ℕ) ∧ (t : ℕ) - 1 < 4111 from ⟨h0, by omega⟩), dif_pos (by omega)]
    · rw [dif_neg (fun h => h0 h.1)]
      exact sitofp_zero

/-- The index of a window position. -/
def pos : Fin 4112 ≃ (⟨3, ![1, 4112, 1]⟩ : Shape).Idx where
  toFun k := ix3 0 k 0
  invFun i := i 1
  left_inv k := rfl
  right_inv i := by
    refine (eq_ix3 _).trans ?_ |>.symm
    congr 1 <;> exact Subsingleton.elim _ _

/-- A window sum of the host is the initial value plus the sum over the window's positions. -/
theorem window_sum {s t : Shape} (window strides lo hi : Fin s.rank → Nat) (x : s.Idx → EReal) (init : EReal)
    (h : s.ReduceWindows window strides lo hi t) (j : t.Idx) :
    Ideal.hostReduceWindowAdd window strides lo hi h x init j = init + ∑ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else init) := by
  unfold Ideal.hostReduceWindowAdd Host.reduceWindow
  dsimp only
  rw [foldl_add, ← Fin.sum_univ_def]
  congr 1
  refine Eq.trans (Finset.sum_congr rfl fun n _ => ?_) <| Equiv.sum_comp (Shape.rowMajor ⟨s.rank, window⟩).symm (fun w => if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else init)
  exact dite_congr rfl (fun _ => rfl) fun _ => rfl

theorem tail_sum (f : ℕ → EReal) (N t : ℕ) (ht : t < N + 1) :
    ∑ i ∈ Finset.range (N + 1), (if N ≤ t + i then f (t + i - N) else 0) = ∑ n ∈ Finset.range (t + 1), f n := by
  obtain ⟨d, rfl⟩ : ∃ d, N = d + t := ⟨N - t, by omega⟩
  rw [show d + t + 1 = d + (t + 1) from by omega, Finset.sum_range_add]
  rw [Finset.sum_eq_zero (fun n hn => if_neg (by have := Finset.mem_range.mp hn; omega)), zero_add]
  refine Finset.sum_congr rfl fun n hn => ?_
  rw [if_pos (by omega)]
  congr 1
  omega

/-- The running sum of a sequence, as the sum over a window as long as the sequence. -/
theorem running (x : S4x4112x256.Idx → EReal) (h) (b : Fin 4) (t : Fin 4112) (l : Fin 256) (f : ℕ → EReal)
    (hf : ∀ k : Fin 4112, x (ix3 b k l) = f k.val) :
    Ideal.hostReduceWindowAdd (s := S4x4112x256) (t := S4x4112x256) ![1, 4112, 1] ![1, 1, 1] ![0, 4111, 0] ![0, 0, 0] h x 0 (ix3 b t l) = ∑ n ∈ Finset.range (t.val + 1), f n := by
  rw [window_sum, zero_add]
  refine (Equiv.sum_comp pos _).symm.trans ?_
  refine Eq.trans (Finset.sum_congr rfl fun k _ => (?_ : _ = (fun n : ℕ => if 4111 ≤ t.val + n then f (t.val + n - 4111) else 0) k.val)) ?_
  · by_cases hk : 4111 ≤ t.val + k.val
    · refine (dif_pos ?_).trans (Eq.trans ?_ (if_pos hk).symm)
      · intro a
        have := t.isLt
        have := k.isLt
        fin_cases a
        · exact ⟨Nat.zero_le _, by show b.val * 1 + 0 - 0 < 4; omega⟩
        · exact ⟨by show 4111 ≤ t.val * 1 + k.val; omega, by show t.val * 1 + k.val - 4111 < 4112; omega⟩
        · exact ⟨Nat.zero_le _, by show l.val * 1 + 0 - 0 < 256; omega⟩
      · refine Eq.trans (congrArg x (funext fun a => Fin.ext ?_)) (hf ⟨t.val + k.val - 4111, by have := t.isLt; have := k.isLt; omega⟩)
        fin_cases a
        · show b.val * 1 + 0 - 0 = b.val
          omega
        · show t.val * 1 + k.val - 4111 = t.val + k.val - 4111
          omega
        · show l.val * 1 + 0 - 0 = l.val
          omega
    · refine (dif_neg ?_).trans (if_neg hk).symm
      intro hh
      exact hk (by have := (hh 1).1; show 4111 ≤ t.val + k.val; have h2 : 4111 ≤ t.val * 1 + k.val := this; omega)
  rw [Fin.sum_univ_eq_sum_range (fun n : ℕ => if 4111 ≤ t.val + n then f (t.val + n - 4111) else 0) 4112]
  exact tail_sum f 4111 t.val t.isLt

theorem sums_apply (A : FVec Ideal S4x4096x256 .f32) (b : Fin 4) (t : Fin 4112) (l : Fin 256) :
    sums A (ix3 b t l) = ∑ n ∈ Finset.range (t.val + 1), row A b l n := by
  have h0 : (broadcastInDim S_ ![] bcast_S_S_ (constant S_ .f32 0x00000000#32) : FVec Ideal S_ .f32) (Shape.Idx.first h_S_) = 0 := by
    pointwise []
  unfold sums
  unfold Host.reduceWindowAdd
  rw [h0]
  exact running (padded A) _ b t l (row A b l) (fun k => padded_apply A b k l)

end Cert.Reference3Ideal.Merge
end
-- ==== Proof.MergeRefAt.lean ====
/- The merge of one layer over the prompt: the reference's window means and groups read at an index. -/
module

public import proofs.«01_k».proof.Proof.MergeRead

@[expose] public section

set_option maxRecDepth 16384

noncomputable section

open Idealize.ShloMosaic Idealize.ShloMosaic.TcCoe Idealize.SL.Sem
open Cert.Merge

namespace Cert.Reference3Ideal.Merge

open Cert.Reference3Ideal Cert.Reference3Ideal.Gen

/-- How many rows back the window of a lane reaches. -/
def wid (l : ℕ) : ℕ := if l < 64 then 2 else if l < 128 then 4 else if l < 192 then 8 else 16

/-- The count of the rows a window of a width holds at a row. -/
def count (w t : ℕ) : EReal := FloatOps.sitofp (F := Ideal) .f32 (IntOp.minsi (BitVec.ofNat 32 w) (IntOp.addi (BitVec.ofNat 32 t) 1#32))

theorem window (A : FVec Ideal S4x4096x256 .f32) (hA : ∀ i, Fin' (A i)) (b : Fin 4) (l : Fin 256) (w : ℕ) (t : ℕ) (p q : Fin 4112) (hp : p.val = 16 + t) (hq : q.val + w = 16 + t) :
    sums A (ix3 b p l) - sums A (ix3 b q l) = ∑ k ∈ Finset.range w, row A b l (17 + t - w + k) := by
  rw [sums_apply, sums_apply, show p.val + 1 = (q.val + 1) + w from by omega, sum_window _ (row_fin A hA b l)]
  refine Finset.sum_congr rfl fun k _ => ?_
  congr 1
  omega

theorem zero_add_word (x : BitVec 32) : IntOp.addi 0#32 x = x := by simp [IntOp.addi]

theorem mean2_at (A : FVec Ideal S4x4096x256 .f32) (hA : ∀ i, Fin' (A i)) (b : Fin 4) (t : Fin 4096) (j : Fin 64) (l : Fin 256) (h : l.val = 0 + j.val) :
    mean2 A (ix3 b t j) = Ideal.div (∑ k ∈ Finset.range 2, row A b l (17 + t.val - 2 + k)) (count 2 t.val) := by
  pointwise [mean2, count2]
  rw [zero_add_word]
  refine congrArg (fun z => Ideal.div z (count 2 t.val)) ?_
  refine Eq.trans ?_ (window A hA b l 2 t.val ⟨16 + t.val, by omega⟩ ⟨14 + t.val, by omega⟩ rfl (by simp only; omega))
  congr 3 <;> (apply Fin.ext; simp only; omega)

theorem mean4_at (A : FVec Ideal S4x4096x256 .f32) (hA : ∀ i, Fin' (A i)) (b : Fin 4) (t : Fin 4096) (j : Fin 64) (l : Fin 256) (h : l.val = 64 + j.val) :
    mean4 A (ix3 b t j) = Ideal.div (∑ k ∈ Finset.range 4, row A b l (17 + t.val - 4 + k)) (count 4 t.val) := by
  pointwise [mean4, count4]
  rw [zero_add_word]
  refine congrArg (fun z => Ideal.div z (count 4 t.val)) ?_
  refine Eq.trans ?_ (window A hA b l 4 t.val ⟨16 + t.val, by omega⟩ ⟨12 + t.val, by omega⟩ rfl (by simp only; omega))
  congr 3 <;> (apply Fin.ext; simp only; omega)

theorem mean8_at (A : FVec Ideal S4x4096x256 .f32) (hA : ∀ i, Fin' (A i)) (b : Fin 4) (t : Fin 4096) (j : Fin 64) (l : Fin 256) (h : l.val = 128 + j.val) :
    mean8 A (ix3 b t j) = Ideal.div (∑ k ∈ Finset.range 8, row A b l (17 + t.val - 8 + k)) (count 8 t.val) := by
  pointwise [mean8, count8]
  rw [zero_add_word]
  refine congrArg (fun z => Ideal.div z (count 8 t.val)) ?_
  refine Eq.trans ?_ (window A hA b l 8 t.val ⟨16 + t.val, by omega⟩ ⟨8 + t.val, by omega⟩ rfl (by simp only; omega))
  congr 3 <;> (apply Fin.ext; simp only; omega)

theorem mean16_at (A : FVec Ideal S4x4096x256 .f32) (hA : ∀ i, Fin' (A i)) (b : Fin 4) (t : Fin 4096) (j : Fin 64) (l : Fin 256) (h : l.val = 192 + j.val) :
    mean16 A (ix3 b t j) = Ideal.div (∑ k ∈ Finset.range 16, row A b l (17 + t.val - 16 + k)) (count 16 t.val) := by
  pointwise [mean16, count16]
  rw [zero_add_word]
  refine congrArg (fun z => Ideal.div z (count 16 t.val)) ?_
  refine Eq.trans ?_ (window A hA b l 16 t.val ⟨16 + t.val, by omega⟩ ⟨0 + t.val, by omega⟩ rfl (by simp only; omega))
  congr 3 <;> (apply Fin.ext; simp only; omega)

theorem pooled_at (A : FVec Ideal S4x4096x256 .f32) (hA : ∀ i, Fin' (A i)) (b : Fin 4) (t : Fin 4096) (l : Fin 256) :
    pooled A (ix3 b t l) = Ideal.div (∑ k ∈ Finset.range (wid l.val), row A b l (17 + t.val - wid l.val + k)) (count (wid l.val) t.val) - A (ix3 b t l) := by
  pointwise [pooled, front]
  refine congrArg₂ (fun x y : EReal => x - y) ?_ ?_
  · unfold wid
    by_cases h0 : l.val < 64
    · rw [if_pos h0]
      refine (dif_pos h0).trans ?_
      exact mean2_at A hA b t _ l (by simp only; omega)
    · rw [if_neg h0]
      refine (dif_neg h0).trans ?_
      by_cases h1 : l.val < 128
      · rw [if_pos h1]
        refine (dif_pos (by omega)).trans ?_
        exact mean4_at A hA b t _ l (by simp only; omega)
      · rw [if_neg h1]
        refine (dif_neg (by omega)).trans ?_
        by_cases h2 : l.val < 192
        · rw [if_pos h2]
          refine (dif_pos (by omega)).trans ?_
          exact mean8_at A hA b t _ l (by simp only; omega)
        · rw [if_neg h2]
          refine (dif_neg (by omega)).trans ?_
          exact mean16_at A hA b t _ l (by simp only; omega)
  · rfl

theorem mix_at (A : FVec Ideal S4x4096x256 .f32) (A8 : FVec Ideal S4x64x64 .f32) (A9 : FVec Ideal S256 .f32) (b : Fin 4) (t : Fin 4096) (l : Fin 256) :
    mix A A8 A9 (ix3 b t l) = (∑ x : Fin 64, A8 (ix3 ⟨l.val / 64, by omega⟩ x ⟨l.val % 64, by omega⟩) * pooled A (ix3 b t ⟨l.val / 64 * 64 + x.val, by omega⟩)) * A9 (ix1 l) := by
  pointwise [mix]

theorem lower_at (A : FVec Ideal S4x128x128 .f32) (g : Fin 4) (p q : Fin 128) : lower A (ix3 g p q)
    = A (ix3 g p q) * Scalar.select (IntOp.cmpi .sge (IntOp.addi (BitVec.ofNat 32 p.val) 0#32) (BitVec.ofNat 32 q.val)) 1 0 := by
  pointwise [lower]

theorem normed4_at (A6 : FVec Ideal S4x4096x256 .f32) (A10 : FVec Ideal S256 .f32) (b : Fin 4) (t : Fin 4096) (g : Fin 4) (j : Fin 64) (l : Fin 256) (h : l.val = g.val * 64 + j.val) :
    normed4 A6 A10 (ix4 b t g j) = A6 (ix3 b t l) * Ideal.rsqrt (Ideal.div (∑ y : Fin 64, A6 (ix3 b t ⟨l.val / 64 * 64 + y.val, by omega⟩) * A6 (ix3 b t ⟨l.val / 64 * 64 + y.val, by omega⟩)) (Ideal.ofBits .f32 1115684864#32)
      + Ideal.ofBits .f32 897988541#32) * A10 (ix1 l) := by
  pointwise [normed4]
  have e : (⟨g.val * 64 + j.val, by omega⟩ : Fin 256) = l := Fin.ext h.symm
  have hg : l.val / 64 = g.val := by omega
  simp only [e, hg]

theorem gated_at (A5 A6 : FVec Ideal S4x4096x256 .f32) (A10 : FVec Ideal S256 .f32) (A11 : FVec Ideal S4x128x128 .f32) (A12 : FVec Ideal S4x128 .f32) (b : Fin 4) (t : Fin 4096) (l : Fin 256) :
    gated A5 A6 A10 A11 A12 (ix3 b t l) = A5 (ix3 b t l) * ((∑ x : Fin 128, normed4 A6 A10 (ix4 b ⟨t.val / 128 * 128 + x.val, by omega⟩ ⟨l.val / 64, by omega⟩ ⟨l.val % 64, by omega⟩)
      * lower A11 (ix3 ⟨l.val / 64, by omega⟩ ⟨t.val % 128, by omega⟩ x)) + A12 (ix2 ⟨l.val / 64, by omega⟩ ⟨t.val % 128, by omega⟩)) := by
  pointwise [gated]

theorem silu256_at (Z : FVec Ideal S4x4096x256 .f32) (b : Fin 4) (t : Fin 4096) (l : Fin 256) :
    silu256 Z (ix3 b t l) = Z (ix3 b t l) * Ideal.div 1 (1 + Ideal.exp (-(Z (ix3 b t l)))) := by
  pointwise [silu256]

theorem silu512_at (Z : FVec Ideal S4x4096x512 .f32) (b : Fin 4) (t : Fin 4096) (l : Fin 512) :
    silu512 Z (ix3 b t l) = Z (ix3 b t l) * Ideal.div 1 (1 + Ideal.exp (-(Z (ix3 b t l)))) := by
  pointwise [silu512]

theorem after_at (A0 Y : FVec Ideal S4x4096x1024 .f32) (A14 : FVec Ideal S1024 .f32) (b : Fin 4) (t : Fin 4096) (l : Fin 1024) :
    after A0 Y A14 (ix3 b t l) = A0 (ix3 b t l) + Y (ix3 b t l) * Ideal.rsqrt (Ideal.div (∑ x : Fin 1024, Y (ix3 b t x) * Y (ix3 b t x)) (Ideal.ofBits .f32 1149239296#32)
      + Ideal.ofBits .f32 897988541#32) * A14 (ix1 l) := by
  pointwise [after]

theorem thirds (F : Fin 1024 → EReal) (G : Fin 512 → EReal) (H K : Fin 256 → EReal) (h0 : ∀ x : Fin 512, F ⟨x.val, by omega⟩ = G x)
    (h1 : ∀ x : Fin 256, F ⟨512 + x.val, by omega⟩ = H x) (h2 : ∀ x : Fin 256, F ⟨768 + x.val, by omega⟩ = K x) :
    ∑ x : Fin 1024, F x = ((∑ x : Fin 512, G x) + ∑ x : Fin 256, H x) + ∑ x : Fin 256, K x := by
  refine (Fin.sum_univ_add (a := 768) (b := 256) F).trans ?_
  refine congrArg₂ (· + ·) ((Fin.sum_univ_add (a := 512) (b := 256) (fun i => F (Fin.castAdd 256 i))).trans ?_) (Finset.sum_congr rfl fun x _ => h2 x)
  exact congrArg₂ (· + ·) (Finset.sum_congr rfl fun x _ => h0 x) (Finset.sum_congr rfl fun x _ => h1 x)

theorem out_at (A1 A2 : FVec Ideal S4x4096x512 .f32) (A3 A4 A5 A6 A7 : FVec Ideal S4x4096x256 .f32) (A8 : FVec Ideal S4x64x64 .f32) (A9 A10 : FVec Ideal S256 .f32)
    (A11 : FVec Ideal S4x128x128 .f32) (A12 : FVec Ideal S4x128 .f32) (A13 : FVec Ideal S1024x1024 .f32) (b : Fin 4) (t : Fin 4096) (l : Fin 1024) :
    out A1 A2 A3 A4 A5 A6 A7 A8 A9 A10 A11 A12 A13 (ix3 b t l)
      = ((∑ x : Fin 512, A1 (ix3 b t x) * silu512 A2 (ix3 b t x) * A13 (ix2 ⟨x.val, by omega⟩ l))
        + ∑ x : Fin 256, mix A3 A8 A9 (ix3 b t x) * silu256 A4 (ix3 b t x) * A13 (ix2 ⟨512 + x.val, by omega⟩ l))
        + ∑ x : Fin 256, gated A5 A6 A10 A11 A12 (ix3 b t x) * silu256 A7 (ix3 b t x) * A13 (ix2 ⟨768 + x.val, by omega⟩ l) := by
  pointwise [out]
  have e512 : ∀ (a b' : Fin 512), a = b' → A1 (ix3 b t a) * silu512 A2 (ix3 b t a) = A1 (ix3 b t b') * silu512 A2 (ix3 b t b') := by rintro _ _ rfl; rfl
  have emix : ∀ (a b' : Fin 256), a = b' → mix A3 A8 A9 (ix3 b t a) * silu256 A4 (ix3 b t a) = mix A3 A8 A9 (ix3 b t b') * silu256 A4 (ix3 b t b') := by rintro _ _ rfl; rfl
  have egat : ∀ (a b' : Fin 256), a = b' → gated A5 A6 A10 A11 A12 (ix3 b t a) * silu256 A7 (ix3 b t a) = gated A5 A6 A10 A11 A12 (ix3 b t b') * silu256 A7 (ix3 b t b') := by rintro _ _ rfl; rfl
  refine thirds _ _ _ _ (fun x => ?_) (fun x => ?_) fun x => ?_
  · refine congrArg (fun z => z * A13 (ix2 ⟨x.val, by omega⟩ l)) ?_
    exact (dif_pos x.isLt)
  · refine congrArg (fun z => z * A13 (ix2 ⟨512 + x.val, by omega⟩ l)) ?_
    refine (dif_neg (by simp only; omega)).trans ((dif_pos (by simp only; omega)).trans (emix _ _ (Fin.ext (by simp only; omega))))
  · refine congrArg (fun z => z * A13 (ix2 ⟨768 + x.val, by omega⟩ l)) ?_
    refine (dif_neg (by simp only; omega)).trans ((dif_neg (by simp only; omega)).trans (egat _ _ (Fin.ext (by simp only; omega))))

end Cert.Reference3Ideal.Merge
end
-- ==== Proof.MergePoint.lean ====
/- The merge of one layer over the prompt: each part the body computes at a point, as the reference's at the same row. -/
module

public import proofs.«01_k».proof.Proof.MergeScratch
public import proofs.«01_k».proof.Proof.MergeGate
public import proofs.«01_k».proof.Proof.MergeEntry
public import proofs.«01_k».proof.Proof.MergeRefAt

@[expose] public section

set_option maxRecDepth 16384

noncomputable section

open Idealize.ShloMosaic Idealize.ShloMosaic.TcCoe Idealize.SL.Sem
open Idealize.ShloMosaic.Pipeline (Dat)
open Cert.Merge
open Cert.Reference3Ideal.Merge (row wid count pooled mix lower normed4 gated silu256 silu512 after out row_fin pooled_at mix_at lower_at normed4_at gated_at silu256_at silu512_at after_at out_at zero_add_word)

namespace Cert.Kernel3Ideal.Merge

open Cert.Kernel3Ideal Cert.Kernel3Ideal.Gen

/-- The remainder of a grid coordinate by eight, as the body takes it. -/
def wrap (i : BitVec 32) : BitVec 32 :=
  (Scalar.select (Scalar.andi (Scalar.xori (Scalar.cmpi .slt (Scalar.remsi i (Scalar.select (Scalar.cmpi .eq 8#32 0#32) 1#32 8#32)) 0#32) (Scalar.cmpi .slt (Scalar.select (Scalar.cmpi .eq 8#32 0#32) 1#32 8#32) 0#32)) (Scalar.cmpi .ne (Scalar.remsi i (Scalar.select (Scalar.cmpi .eq 8#32 0#32) 1#32 8#32)) 0#32)) (Scalar.addi (Scalar.remsi i (Scalar.select (Scalar.cmpi .eq 8#32 0#32) 1#32 8#32)) (Scalar.select (Scalar.cmpi .eq 8#32 0#32) 1#32 8#32)) (Scalar.remsi i (Scalar.select (Scalar.cmpi .eq 8#32 0#32) 1#32 8#32)))

theorem wrap_at : ∀ t : Fin cfg0.N, wrap (BitVec.ofNat 32 (grid0.coords t 0).val) = BitVec.ofNat 32 (t.val % 8) := by decide +kernel

theorem start_at : ∀ t : Fin cfg0.N, Scalar.cmpi .eq (wrap (BitVec.ofNat 32 (grid0.coords t 0).val)) 0#32 = if t.val % 8 = 0 then 1#1 else 0#1 := by decide +kernel

theorem muli_at : ∀ t : Fin cfg0.N, Scalar.muli (wrap (BitVec.ofNat 32 (grid0.coords t 0).val)) 512#32 = BitVec.ofNat 32 (512 * (t.val % 8)) := by decide +kernel

theorem word_add (a b : ℕ) : IntOp.addi (BitVec.ofNat 32 a) (BitVec.ofNat 32 b) = BitVec.ofNat 32 (a + b) := (BitVec.ofNat_add a b).symm

theorem width_word : ∀ x : Fin 256, Scalar.select (IntOp.cmpi .sge (BitVec.ofNat 32 x.val) 192#32) (16#32)
      (Scalar.select (IntOp.cmpi .sge (BitVec.ofNat 32 x.val) 128#32) (8#32)
        (Scalar.select (IntOp.cmpi .sge (BitVec.ofNat 32 x.val) 64#32) (4#32) (2#32))) = BitVec.ofNat 32 (wid x.val) := by decide +kernel

theorem width_at (r : Fin 512) (x : Fin 256) : k0_pay14 (ix2 r x) = BitVec.ofNat 32 (wid x.val) := by
  pointwise [k0_pay14]
  exact width_word x

/-- The value kept by a lane's width. -/
theorem width_sel (x : ℕ) (f : ℕ → EReal) : Scalar.select (IntOp.cmpi .eq (BitVec.ofNat 32 (wid x)) 2#32) (f 2)
    (Scalar.select (IntOp.cmpi .eq (BitVec.ofNat 32 (wid x)) 4#32) (f 4) (Scalar.select (IntOp.cmpi .eq (BitVec.ofNat 32 (wid x)) 8#32) (f 8) (f 16))) = f (wid x) := by
  have h : wid x = 2 ∨ wid x = 4 ∨ wid x = 8 ∨ wid x = 16 := by unfold wid; split_ifs <;> simp
  rcases h with h | h | h | h <;> rw [h] <;> rfl

theorem before_kept (t : Fin cfg0.N) (x4 : FVec Ideal S16x256 .f32) (r : Fin 16) (l : Fin 256) :
    k0_pay5 (F := Ideal) (grid0.coords t) x4 (ix2 r l) = if t.val % 8 = 0 then 0 else x4 (ix2 r l) := by
  unfold k0_pay5
  show shapeCast S16x256 (Scalar.select (Scalar.cmpi .eq (wrap (BitVec.ofNat 32 (grid0.coords t 0).val)) 0#32) (broadcast S16x256 (Scalar.ofBits (F := Ideal) .f32 0x00000000#32)) (shapeCast S16x256 x4 shapeCasts_S16x256_S16x256)) shapeCasts_S16x256_S16x256 (ix2 r l) = _
  rw [start_at]
  by_cases h : t.val % 8 = 0
  · rw [if_pos h, if_pos h]
    show shapeCast S16x256 (broadcast S16x256 (Scalar.ofBits (F := Ideal) .f32 0x00000000#32)) shapeCasts_S16x256_S16x256 (ix2 r l) = _
    pointwise []
  · rw [if_neg h, if_neg h]
    show shapeCast S16x256 (shapeCast S16x256 x4 shapeCasts_S16x256_S16x256) shapeCasts_S16x256_S16x256 (ix2 r l) = _
    pointwise []

theorem norm_of (r : Fin 512) (A B : FVec Ideal S512x1024 .f32) (x16 : FVec Ideal S1x1024 .f32) (P : FVec Ideal S512x256 .bf16) (W : FVec Ideal S1024x1024 .bf16) (Y : Fin 1024 → EReal) (g : EReal) (a : EReal) (l : Fin 1024)
    (hA : A (ix2 r l) = a) (hg : x16 (ix2 0 l) = g) (hY : ∀ l, B (ix2 r l) + ∑ x : Fin 256, P (ix2 r x) * W (ix2 ⟨768 + x.val, by omega⟩ l) = Y l) :
    k0_pay1 (F := Ideal) (k0_pay32 (F := Ideal) A) (k0_pay36 (F := Ideal) x16) B P (View.ld (Val := Elt Ideal) (e' := .bf16) W (Rect.unit ![768, 0] ![256, 1024] inb_S1024x1024_S256x1024_768_0)) (ix2 r l)
      = a + Y l * Ideal.rsqrt (Ideal.div (∑ x : Fin 1024, Y x * Y x) (Ideal.ofBits .f32 1149239296#32) + Ideal.ofBits .f32 897988541#32) * g := by
  pointwise [k0_pay1, k0_pay32, k0_pay36]
  simp only [hY, hA, hg]

theorem silu_half (z : EReal) : z * (Ideal.ofBits .f32 1056964608#32 * Ideal.tanh (Ideal.ofBits .f32 1056964608#32 * z) + Ideal.ofBits .f32 1056964608#32)
    = z * Ideal.div 1 (1 + Ideal.exp (-z)) := by
  rw [half, logistic_half]

theorem vnK_of (x7 : FVec Ideal S512x256 .f32) (x11 : FVec Ideal S1x256 .f32) (hx : ∀ y, Fin' (x7 y)) (r : Fin 512) (l : Fin 256)
    (A : Fin 256 → EReal) (hA : ∀ k, x7 (ix2 r k) = A k) (g : EReal) (hg : x11 (ix2 0 l) = g) :
    vnK x7 x11 ones_bd (ix2 r l) = A l * Ideal.rsqrt (Ideal.div (∑ y : Fin 64, A ⟨l.val / 64 * 64 + y.val, by omega⟩ * A ⟨l.val / 64 * 64 + y.val, by omega⟩) (Ideal.ofBits .f32 1115684864#32)
      + Ideal.ofBits .f32 897988541#32) * g := by
  rw [vnK_at _ _ hx]
  simp only [hA, hg]

section
variable (m : (ℓ : Loc nD τ sig) → Buf (Elt Ideal) ℓ) (c : Dev nD)

abbrev in0 : FVec Ideal Cert.Reference3Ideal.S4x4096x1024 .f32 := m ((c : Thread nD τ).loc main_arg0)
abbrev in1 : FVec Ideal Cert.Reference3Ideal.S4x4096x512 .f32 := m ((c : Thread nD τ).loc main_arg1)
abbrev in2 : FVec Ideal Cert.Reference3Ideal.S4x4096x512 .f32 := m ((c : Thread nD τ).loc main_arg2)
abbrev in3 : FVec Ideal Cert.Reference3Ideal.S4x4096x256 .f32 := m ((c : Thread nD τ).loc main_arg3)
abbrev in4 : FVec Ideal Cert.Reference3Ideal.S4x4096x256 .f32 := m ((c : Thread nD τ).loc main_arg4)
abbrev in5 : FVec Ideal Cert.Reference3Ideal.S4x4096x256 .f32 := m ((c : Thread nD τ).loc main_arg5)
abbrev in6 : FVec Ideal Cert.Reference3Ideal.S4x4096x256 .f32 := m ((c : Thread nD τ).loc main_arg6)
abbrev in7 : FVec Ideal Cert.Reference3Ideal.S4x4096x256 .f32 := m ((c : Thread nD τ).loc main_arg7)
abbrev in8 : FVec Ideal Cert.Reference3Ideal.S4x64x64 .f32 := m ((c : Thread nD τ).loc main_arg8)
abbrev in9 : FVec Ideal Cert.Reference3Ideal.S256 .f32 := m ((c : Thread nD τ).loc main_arg9)
abbrev in10 : FVec Ideal Cert.Reference3Ideal.S256 .f32 := m ((c : Thread nD τ).loc main_arg10)
abbrev in11 : FVec Ideal Cert.Reference3Ideal.S4x128x128 .f32 := m ((c : Thread nD τ).loc main_arg11)
abbrev in12 : FVec Ideal Cert.Reference3Ideal.S4x128 .f32 := m ((c : Thread nD τ).loc main_arg12)
abbrev in13 : FVec Ideal Cert.Reference3Ideal.S1024x1024 .f32 := m ((c : Thread nD τ).loc main_arg13)
abbrev in14 : FVec Ideal Cert.Reference3Ideal.S1024 .f32 := m ((c : Thread nD τ).loc main_arg14)

variable (t : Fin cfg0.N) (b : Fin 4) (hb : b.val = t.val / 8)
include hb

/-- What the scratch rows hold at first: the sequence's rows from sixteen before the point's, after sixteen more. -/
theorem first_rows (l : Fin 256) (k : Fin 544) (hk : 16 ≤ k.val) :
    View.canon (L0 (grid0.coords t) (iblk m c 3 t) (iblk m c 4 t)) (ix2 k l) = row (in3 m c) b l (512 * (t.val % 8) + k.val - 16) := by
  have ht := point_lt t
  unfold L0
  by_cases h1 : 32 ≤ k.val
  · refine (canon_hit 32 _ _ _ k l ⟨k.val - 32, by omega⟩ (by simp only; omega)).trans ?_
    have e : k0_pay6 (F := Ideal) (iblk m c 3 t) (ix2 (⟨k.val - 32, by omega⟩ : Fin 512) l) = (show FVec Ideal S512x256 .f32 from iblk m c 3 t) (ix2 ⟨k.val - 32, by omega⟩ l) := by
      pointwise [k0_pay6, k0_pay2]
    refine e.trans ((rows3_at m c t _ l b ⟨512 * (t.val % 8) + k.val - 32, by omega⟩ (by simp only; omega)).trans ?_)
    unfold row
    rw [dif_pos (by omega)]
    refine congrArg (in3 m c) ?_
    congr 2
  · refine (canon_miss 32 _ _ _ k l (by omega)).trans ?_
    refine (canon_hit 16 _ _ _ k l ⟨k.val - 16, by omega⟩ (by simp only; omega)).trans ?_
    refine (before_kept t _ _ l).trans ?_
    unfold row
    by_cases h0 : t.val % 8 = 0
    · rw [if_pos h0, dif_neg (by omega)]
    · rw [if_neg h0, dif_pos (by omega)]
      refine (before_at m c t _ l b ⟨512 * (t.val % 8) + k.val - 32, by omega⟩ (by omega) (by simp only; omega)).trans ?_
      refine congrArg (in3 m c) ?_
      congr 2

/-- The window sums the body takes at a row and lane. -/
theorem windows (r : Fin 512) (l : Fin 256) (w : ℕ) (q : EReal)
    (h : q = ∑ k ∈ Finset.range w, (fun n => row (in3 m c) b l (512 * (t.val % 8) + n - 16)) (33 - w + r.val + k)) (hw : w ≤ 16) :
    q = ∑ k ∈ Finset.range w, row (in3 m c) b l (17 + (512 * (t.val % 8) + r.val) - w + k) := by
  rw [h]
  refine Finset.sum_congr rfl fun k _ => ?_
  show row _ _ _ _ = _
  congr 1
  omega

variable (T : Fin 4096) (r : Fin 512) (hT : T.val = 512 * (t.val % 8) + r.val)
include hT

/-- The mean at a lane less the row's entry is the reference's. -/
theorem pool_lane (hA : ∀ i, Fin' (in3 m c i)) (x : Fin 256) :
    Ideal.div
      (Scalar.select (IntOp.cmpi .eq (k0_pay14 (ix2 r x)) 2#32) (k0_pay7 (F := Ideal) (r31 (grid0.coords t) (iblk m c 3 t) (iblk m c 4 t)) (r32 (grid0.coords t) (iblk m c 3 t) (iblk m c 4 t)) (ix2 ⟨16 + r.val, by omega⟩ x))
        (Scalar.select (IntOp.cmpi .eq (k0_pay14 (ix2 r x)) 4#32) (k0_pay9 (F := Ideal) (r31 (grid0.coords t) (iblk m c 3 t) (iblk m c 4 t)) (r32 (grid0.coords t) (iblk m c 3 t) (iblk m c 4 t)) (r37 (grid0.coords t) (iblk m c 3 t) (iblk m c 4 t)) (ix2 ⟨16 + r.val, by omega⟩ x))
          (Scalar.select (IntOp.cmpi .eq (k0_pay14 (ix2 r x)) 8#32) (k0_pay11 (F := Ideal) (r31 (grid0.coords t) (iblk m c 3 t) (iblk m c 4 t)) (r32 (grid0.coords t) (iblk m c 3 t) (iblk m c 4 t)) (r37 (grid0.coords t) (iblk m c 3 t) (iblk m c 4 t)) (r42 (grid0.coords t) (iblk m c 3 t) (iblk m c 4 t)) (ix2 ⟨16 + r.val, by omega⟩ x))
            (k0_pay13 (F := Ideal) (r31 (grid0.coords t) (iblk m c 3 t) (iblk m c 4 t)) (r32 (grid0.coords t) (iblk m c 3 t) (iblk m c 4 t)) (r37 (grid0.coords t) (iblk m c 3 t) (iblk m c 4 t)) (r42 (grid0.coords t) (iblk m c 3 t) (iblk m c 4 t)) (r48 (grid0.coords t) (iblk m c 3 t) (iblk m c 4 t)) (ix2 r x)))))
      (FloatOps.sitofp (F := Ideal) .f32 (IntOp.minsi (k0_pay14 (ix2 r x)) (IntOp.addi (IntOp.addi (Scalar.muli (wrap (BitVec.ofNat 32 (grid0.coords t 0).val)) 512#32) (BitVec.ofNat 32 r.val)) 1#32)))
      - k0_pay2 (F := Ideal) (iblk m c 3 t) (ix2 r x) = pooled (in3 m c) (ix3 b T x) := by
  have ht := point_lt t
  rw [pooled_at _ hA, width_at, muli_at, word_add, ← hT]
  have hf := first_rows m c t b hb x
  rw [sum2_at _ _ _ x (fun n => row (in3 m c) b x (512 * (t.val % 8) + n - 16)) hf r, sum4_at _ _ _ x (fun n => row (in3 m c) b x (512 * (t.val % 8) + n - 16)) hf r, sum8_at _ _ _ x (fun n => row (in3 m c) b x (512 * (t.val % 8) + n - 16)) hf r, sum16_at _ _ _ x (fun n => row (in3 m c) b x (512 * (t.val % 8) + n - 16)) hf r]
  refine congrArg₂ (fun p q : EReal => p - q) (congrArg (fun z => Ideal.div z (count (wid x.val) T.val)) ?_) ?_
  · rw [hT]
    refine Eq.trans ?_ (width_sel x.val (fun w => ∑ k ∈ Finset.range w, row (in3 m c) b x (17 + (512 * (t.val % 8) + r.val) - w + k)))
    rw [windows m c t b hb r x 2 _ rfl (by omega), windows m c t b hb r x 4 _ rfl (by omega), windows m c t b hb r x 8 _ rfl (by omega), windows m c t b hb r x 16 _ rfl (by omega)]
  · have e : k0_pay2 (F := Ideal) (iblk m c 3 t) (ix2 r x) = (show FVec Ideal S512x256 .f32 from iblk m c 3 t) (ix2 r x) := by
      pointwise [k0_pay2]
    exact e.trans (rows3_at m c t r x b T (by omega))

/-- The pooled rows through their weights. -/
theorem mixing_at (hA : ∀ i, Fin' (in3 m c i)) (l : Fin 256) :
    k0_pay16 (F := Ideal) (BitVec.ofNat 32 (grid0.coords t 0).val) (k0_pay2 (F := Ideal) (iblk m c 3 t))
      (k0_pay7 (F := Ideal) (r31 (grid0.coords t) (iblk m c 3 t) (iblk m c 4 t)) (r32 (grid0.coords t) (iblk m c 3 t) (iblk m c 4 t)))
      (k0_pay9 (F := Ideal) (r31 (grid0.coords t) (iblk m c 3 t) (iblk m c 4 t)) (r32 (grid0.coords t) (iblk m c 3 t) (iblk m c 4 t)) (r37 (grid0.coords t) (iblk m c 3 t) (iblk m c 4 t)))
      (k0_pay11 (F := Ideal) (r31 (grid0.coords t) (iblk m c 3 t) (iblk m c 4 t)) (r32 (grid0.coords t) (iblk m c 3 t) (iblk m c 4 t)) (r37 (grid0.coords t) (iblk m c 3 t) (iblk m c 4 t)) (r42 (grid0.coords t) (iblk m c 3 t) (iblk m c 4 t)))
      (k0_pay13 (F := Ideal) (r31 (grid0.coords t) (iblk m c 3 t) (iblk m c 4 t)) (r32 (grid0.coords t) (iblk m c 3 t) (iblk m c 4 t)) (r37 (grid0.coords t) (iblk m c 3 t) (iblk m c 4 t)) (r42 (grid0.coords t) (iblk m c 3 t) (iblk m c 4 t)) (r48 (grid0.coords t) (iblk m c 3 t) (iblk m c 4 t)))
      k0_pay14 k0_pay15 (show FVec Ideal S256x256 .bf16 from iblk m c 9 t) (show FVec Ideal S1x256 .f32 from iblk m c 10 t) (ix2 r l) = mix (in3 m c) (in8 m c) (in9 m c) (ix3 b T l) := by
  rw [mix_at]
  pointwise [k0_pay16, k0_pay15]
  refine congrArg₂ (fun p q : EReal => p * q) ?_ (scale_at m c t l)
  refine (Finset.sum_congr rfl fun x _ => congrArg₂ (fun p q : EReal => p * q) (pool_lane m c t b hb T r hT hA x)
    ((congrFun (pool_at m c t) (ix2 x l)).trans (pool_bd_apply _ x l))).trans ?_
  refine (block_sum (fun x => pooled (in3 m c) (ix3 b T x)) (fun x => in8 m c (ix3 ⟨l.val / 64, by omega⟩ ⟨x.val % 64, by omega⟩ ⟨l.val % 64, by omega⟩)) ⟨l.val / 64, by omega⟩).trans ?_
  refine Finset.sum_congr rfl fun y _ => ?_
  rw [mul_comm]
  refine congrArg₂ (fun p q : EReal => p * q) (congrArg (in8 m c) ?_) rfl
  congr 1
  exact Fin.ext (by simp only; omega)

/-- The normed rows. -/
theorem vn_at (hV : ∀ i, Fin' (in6 m c i)) (l : Fin 256) :
    vnK (iblk m c 7 t) (iblk m c 11 t) (iblk m c 12 t) (ix2 r l) = normed4 (in6 m c) (in10 m c) (ix4 b T ⟨l.val / 64, by omega⟩ ⟨l.val % 64, by omega⟩) := by
  have ht := point_lt t
  have hx : ∀ y, Fin' ((show FVec Ideal S512x256 .f32 from iblk m c 7 t) y) := by
    intro y
    rw [eq_ix2 y]
    have hy : (y 0).val < 512 := (y 0).isLt
    rw [rows7_at m c t (y 0) (y 1) b ⟨512 * (t.val % 8) + (y 0).val, by omega⟩ (by simp only; omega)]
    exact hV _
  refine (congrArg (fun z => vnK (iblk m c 7 t) (iblk m c 11 t) z (ix2 r l)) (ones_at m c t)).trans ?_
  rw [normed4_at _ _ b T _ _ l (by simp only; omega)]
  exact vnK_of _ _ hx r l _ (fun k => rows7_at m c t r k b T (by omega)) _ (gnorm_at m c t l)

/-- The gated rows. -/
theorem gate_at (hV : ∀ i, Fin' (in6 m c i)) (l : Fin 256) :
    gating (iblk m c 6 t) (iblk m c 7 t) (iblk m c 11 t) (iblk m c 12 t) (iblk m c 13 t) (iblk m c 14 t) (ix2 r l)
      = gated (in5 m c) (in6 m c) (in10 m c) (in11 m c) (in12 m c) (ix3 b T l) := by
  have ht := point_lt t
  rw [gating_at, gated_at]
  refine congrArg₂ (fun p q : EReal => p * q) (rows6_at m c t r l b T (by omega)) (congrArg₂ (fun p q : EReal => p + q) (Finset.sum_congr rfl fun x _ => ?_) ?_)
  · rw [mul_comm, vn_at m c t b hb ⟨T.val / 128 * 128 + x.val, by omega⟩ ⟨r.val / 128 * 128 + x.val, by omega⟩ (by simp only; omega) hV l]
    refine congrArg₂ (fun p q : EReal => p * q) rfl ((congrFun (ws_at m c t) _).trans ((ws_tril_apply _ _ _ _).trans ?_))
    rw [lower_at]
    have e : r.val % 128 = T.val % 128 := by omega
    simp only [e]
  · refine (congrFun (bs_at m c t) _).trans ((bs_full_apply _ _ _).trans ?_)
    refine congrArg (in12 m c) ?_
    have e : r.val % 128 = T.val % 128 := by omega
    simp only [e]

/-- The rows through the output weights, from the mixed and the gated rows. -/
theorem output_at (M G : FVec Ideal S512x256 .f32) (hM : ∀ l, M (ix2 r l) = mix (in3 m c) (in8 m c) (in9 m c) (ix3 b T l))
    (hG : ∀ l, G (ix2 r l) = gated (in5 m c) (in6 m c) (in10 m c) (in11 m c) (in12 m c) (ix3 b T l)) (l : Fin 1024) :
    k0_pay37 (F := Ideal) M (k0_pay33 (F := Ideal) (show FVec Ideal S512x512 .f32 from iblk m c 1 t)) (k0_pay34 (F := Ideal) (show FVec Ideal S512x512 .f32 from iblk m c 2 t)) (k0_pay35 (F := Ideal) (show FVec Ideal S512x256 .f32 from iblk m c 5 t))
        (View.ld (Val := Elt Ideal) (e' := .bf16) (show FVec Ideal S1024x1024 .bf16 from iblk m c 15 t) (Rect.unit ![0, 0] ![512, 1024] inb_S1024x1024_S512x1024_0_0))
        (View.ld (Val := Elt Ideal) (e' := .bf16) (show FVec Ideal S1024x1024 .bf16 from iblk m c 15 t) (Rect.unit ![512, 0] ![256, 1024] inb_S1024x1024_S256x1024_512_0)) (ix2 r l)
      + ∑ x : Fin 256, k0_pay38 (F := Ideal) G (show FVec Ideal S512x256 .f32 from iblk m c 8 t) (ix2 r x) * (show FVec Ideal S1024x1024 .bf16 from iblk m c 15 t) (ix2 ⟨768 + x.val, by omega⟩ l)
      = out (in1 m c) (in2 m c) (in3 m c) (in4 m c) (in5 m c) (in6 m c) (in7 m c) (in8 m c) (in9 m c) (in10 m c) (in11 m c) (in12 m c) (in13 m c) (ix3 b T l) := by
  have ht := point_lt t
  rw [out_at]
  have hw : ∀ x, (show FVec Ideal S1024x1024 .bf16 from iblk m c 15 t) (ix2 x l) = in13 m c (ix2 x l) := fun x => congrFun (wo_at m c t) _
  refine congrArg₂ (fun p q : EReal => p + q) ?_ (Finset.sum_congr rfl fun x _ => congrArg₂ (fun p q : EReal => p * q) ?_ (hw _))
  · pointwise [k0_pay37, k0_pay33, k0_pay34, k0_pay35]
    refine congrArg₂ (fun p q : EReal => p + q) (Finset.sum_congr rfl fun x _ => congrArg₂ (fun p q : EReal => p * q) (congrArg₂ (fun p q : EReal => p * q) ?_ ?_) (hw _))
      (Finset.sum_congr rfl fun x _ => congrArg₂ (fun p q : EReal => p * q) (congrArg₂ (fun p q : EReal => p * q) (hM x) ?_) (hw _))
    · exact rows1_at m c t r x b T (by omega)
    · rw [silu512_at]
      exact (silu_half _).trans (congrArg (fun z => z * Ideal.div 1 (1 + Ideal.exp (-z))) (rows2_at m c t r x b T (by omega)))
    · rw [silu256_at]
      exact (silu_half _).trans (congrArg (fun z => z * Ideal.div 1 (1 + Ideal.exp (-z))) (rows5_at m c t r x b T (by omega)))
  · pointwise [k0_pay38]
    refine congrArg₂ (fun p q : EReal => p * q) (hG x) ?_
    rw [silu256_at]
    exact (silu_half _).trans (congrArg (fun z => z * Ideal.div 1 (1 + Ideal.exp (-z))) (rows8_at m c t r x b T (by omega)))

/-- The rows after the merge, from the mixed and the gated rows. -/
theorem after_rows (M G : FVec Ideal S512x256 .f32) (hM : ∀ l, M (ix2 r l) = mix (in3 m c) (in8 m c) (in9 m c) (ix3 b T l))
    (hG : ∀ l, G (ix2 r l) = gated (in5 m c) (in6 m c) (in10 m c) (in11 m c) (in12 m c) (ix3 b T l)) (l : Fin 1024) :
    k0_pay1 (F := Ideal) (k0_pay32 (F := Ideal) (show FVec Ideal S512x1024 .f32 from iblk m c 0 t)) (k0_pay36 (F := Ideal) (show FVec Ideal S1x1024 .f32 from iblk m c 16 t))
      (k0_pay37 (F := Ideal) M (k0_pay33 (F := Ideal) (show FVec Ideal S512x512 .f32 from iblk m c 1 t)) (k0_pay34 (F := Ideal) (show FVec Ideal S512x512 .f32 from iblk m c 2 t)) (k0_pay35 (F := Ideal) (show FVec Ideal S512x256 .f32 from iblk m c 5 t))
        (View.ld (Val := Elt Ideal) (e' := .bf16) (show FVec Ideal S1024x1024 .bf16 from iblk m c 15 t) (Rect.unit ![0, 0] ![512, 1024] inb_S1024x1024_S512x1024_0_0))
        (View.ld (Val := Elt Ideal) (e' := .bf16) (show FVec Ideal S1024x1024 .bf16 from iblk m c 15 t) (Rect.unit ![512, 0] ![256, 1024] inb_S1024x1024_S256x1024_512_0)))
      (k0_pay38 (F := Ideal) G (show FVec Ideal S512x256 .f32 from iblk m c 8 t))
      (View.ld (Val := Elt Ideal) (e' := .bf16) (show FVec Ideal S1024x1024 .bf16 from iblk m c 15 t) (Rect.unit ![768, 0] ![256, 1024] inb_S1024x1024_S256x1024_768_0)) (ix2 r l)
      = after (in0 m c) (out (in1 m c) (in2 m c) (in3 m c) (in4 m c) (in5 m c) (in6 m c) (in7 m c) (in8 m c) (in9 m c) (in10 m c) (in11 m c) (in12 m c) (in13 m c)) (in14 m c) (ix3 b T l) := by
  have ht := point_lt t
  rw [after_at]
  exact norm_of r _ _ _ _ _ (fun l => out (in1 m c) (in2 m c) (in3 m c) (in4 m c) (in5 m c) (in6 m c) (in7 m c) (in8 m c) (in9 m c) (in10 m c) (in11 m c) (in12 m c) (in13 m c) (ix3 b T l)) _ _ l
    (rows0_at m c t r l b T (by omega)) (gpost_at m c t l) (fun l => output_at m c t b hb T r hT M G hM hG l)
end

end Cert.Kernel3Ideal.Merge
end
-- ==== Proof.MergeFinal.lean ====
/- The merge of one layer over the prompt: its two result arrays are the reference's terms of the arguments. -/
module

public import proofs.«01_k».proof.Proof.MergePoint
public import proofs.«01_k».proof.Proof.MergeBlocks
public import Idealize.ShloMosaic.Lib.ReduceAll
public import proofs.«01_k».proof.Pre_finite

@[expose] public section

set_option maxRecDepth 16384

noncomputable section

open Idealize.ShloMosaic Idealize.ShloMosaic.TcCoe Idealize.SL.Sem
open Idealize.ShloMosaic.Pipeline (Dat)
open Cert.Merge
open Cert.Reference3Ideal.Merge (mix normed4 gated after out)

namespace Cert.Kernel3Ideal.Merge

open Cert.Kernel3Ideal Cert.Kernel3Ideal.Gen

theorem inf_word : Ideal.ofBits .f32 0x7F800000#32 = (⊤ : EReal) := by
  simp [Ideal.ofBits, Ideal.ieee]

theorem below_inf (x : EReal) (h : Ideal.cmp .olt (max x (-x)) (Ideal.ofBits .f32 0x7F800000#32) = 1#1) : Fin' x := by
  rw [inf_word] at h
  have h' : max x (-x) < ⊤ := by
    by_contra hn
    simp [Ideal.cmp, hn] at h
  refine fin_of_abs ?_ ?_
  · rintro rfl
    simp at h'
  · rintro rfl
    simp at h'

/-- The finiteness of the pooled and the gated rows, read off the precondition. -/
theorem finite_entries [Cert.Pre_finite.Facts] (x0 x1 x2 x3 x4 x5 x6 x7 x8 x9 x10 x11 x12 x13 x14)
    (h : Cert.Pre_finite.fn (F := Ideal) x0 x1 x2 x3 x4 x5 x6 x7 x8 x9 x10 x11 x12 x13 x14 = fun _ => 1#1) : (∀ i, Fin' (x3 i)) ∧ ∀ i, Fin' (x6 i) := by
  have hb := congrFun h ix0
  obtain ⟨h3, h6⟩ := IntOp.andi_eq_one.1 hb
  haveI : Subsingleton (Cert.Pre_finite.S_).Idx := ⟨fun a b => funext fun i => i.elim0⟩
  exact ⟨fun i => below_inf _ (Host.reduce_andi_all _ _ _ _ _ h3 i), fun i => below_inf _ (Host.reduce_andi_all _ _ _ _ _ h6 i)⟩

variable (m : (ℓ : Loc nD τ sig) → Buf (Elt Ideal) ℓ) (c : Dev nD)

/-- The rows the reference leaves. -/
def ref_xp : FVec Ideal Cert.Reference3Ideal.S16384x1024 .f32 :=
  shapeCast _ (after (in0 m c) (out (in1 m c) (in2 m c) (in3 m c) (in4 m c) (in5 m c) (in6 m c) (in7 m c) (in8 m c) (in9 m c) (in10 m c) (in11 m c) (in12 m c) (in13 m c)) (in14 m c))
    Cert.Reference3Ideal.Gen.shapeCasts_S4x4096x1024_S16384x1024

/-- The normed rows the reference leaves. -/
def ref_vn : FVec Ideal Cert.Reference3Ideal.S16384x256 .f32 :=
  shapeCast _ (shapeCast Cert.Reference3Ideal.S4x4096x256 (normed4 (in6 m c) (in10 m c)) Cert.Reference3Ideal.Gen.shapeCasts_S4x4096x4x64_S4x4096x256)
    Cert.Reference3Ideal.Gen.shapeCasts_S4x4096x256_S16384x256

theorem ref_xp_at (i : Cert.Reference3Ideal.S16384x1024.Idx) (b : Fin 4) (T : Fin 4096) (l : Fin 1024) (hb : b.val = (i 0 : ℕ) / 4096) (hT : T.val = (i 0 : ℕ) % 4096) (hl : l.val = (i 1 : ℕ)) :
    ref_xp m c i = after (in0 m c) (out (in1 m c) (in2 m c) (in3 m c) (in4 m c) (in5 m c) (in6 m c) (in7 m c) (in8 m c) (in9 m c) (in10 m c) (in11 m c) (in12 m c) (in13 m c)) (in14 m c) (ix3 b T l) := by
  pointwise [ref_xp]
  refine congrArg _ ?_
  idx_ext

theorem ref_vn_at (i : Cert.Reference3Ideal.S16384x256.Idx) (b : Fin 4) (T : Fin 4096) (l : Fin 256) (hb : b.val = (i 0 : ℕ) / 4096) (hT : T.val = (i 0 : ℕ) % 4096) (hl : l.val = (i 1 : ℕ)) :
    ref_vn m c i = normed4 (in6 m c) (in10 m c) (ix4 b T ⟨l.val / 64, by omega⟩ ⟨l.val % 64, by omega⟩) := by
  pointwise [ref_vn]
  refine congrArg _ ?_
  idx_ext

theorem point17 (hA : ∀ i, Fin' (in3 m c i)) (hV : ∀ i, Fin' (in6 m c i)) (t : Fin cfg0.N) (r : Fin 512) (l : Fin 1024) (i : S16384x1024.Idx)
    (h0 : (i 0 : ℕ) = t.val * 512 + r.val) (h1 : (i 1 : ℕ) = l.val) :
    k0_pay1 (F := Ideal) (k0_pay32 (F := Ideal) (iblk m c 0 t)) (k0_pay36 (F := Ideal) (iblk m c 16 t))
      (k0_pay37 (F := Ideal) (k0_pay16 (F := Ideal) (BitVec.ofNat 32 (grid0.coords t 0).val) (k0_pay2 (F := Ideal) (iblk m c 3 t))
      (k0_pay7 (F := Ideal) (r31 (grid0.coords t) (iblk m c 3 t) (iblk m c 4 t)) (r32 (grid0.coords t) (iblk m c 3 t) (iblk m c 4 t)))
      (k0_pay9 (F := Ideal) (r31 (grid0.coords t) (iblk m c 3 t) (iblk m c 4 t)) (r32 (grid0.coords t) (iblk m c 3 t) (iblk m c 4 t)) (r37 (grid0.coords t) (iblk m c 3 t) (iblk m c 4 t)))
      (k0_pay11 (F := Ideal) (r31 (grid0.coords t) (iblk m c 3 t) (iblk m c 4 t)) (r32 (grid0.coords t) (iblk m c 3 t) (iblk m c 4 t)) (r37 (grid0.coords t) (iblk m c 3 t) (iblk m c 4 t)) (r42 (grid0.coords t) (iblk m c 3 t) (iblk m c 4 t)))
      (k0_pay13 (F := Ideal) (r31 (grid0.coords t) (iblk m c 3 t) (iblk m c 4 t)) (r32 (grid0.coords t) (iblk m c 3 t) (iblk m c 4 t)) (r37 (grid0.coords t) (iblk m c 3 t) (iblk m c 4 t)) (r42 (grid0.coords t) (iblk m c 3 t) (iblk m c 4 t)) (r48 (grid0.coords t) (iblk m c 3 t) (iblk m c 4 t)))
      k0_pay14 k0_pay15 (iblk m c 9 t) (iblk m c 10 t)) (k0_pay33 (F := Ideal) (iblk m c 1 t)) (k0_pay34 (F := Ideal) (iblk m c 2 t)) (k0_pay35 (F := Ideal) (iblk m c 5 t))
        (View.ld (Val := Elt Ideal) (e' := .bf16) (show FVec Ideal S1024x1024 .bf16 from iblk m c 15 t) (Rect.unit ![0, 0] ![512, 1024] inb_S1024x1024_S512x1024_0_0))
        (View.ld (Val := Elt Ideal) (e' := .bf16) (show FVec Ideal S1024x1024 .bf16 from iblk m c 15 t) (Rect.unit ![512, 0] ![256, 1024] inb_S1024x1024_S256x1024_512_0)))
      (k0_pay38 (F := Ideal) (gating (iblk m c 6 t) (iblk m c 7 t) (iblk m c 11 t) (iblk m c 12 t) (iblk m c 13 t) (iblk m c 14 t)) (iblk m c 8 t))
      (View.ld (Val := Elt Ideal) (e' := .bf16) (show FVec Ideal S1024x1024 .bf16 from iblk m c 15 t) (Rect.unit ![768, 0] ![256, 1024] inb_S1024x1024_S256x1024_768_0)) (ix2 r l)
      = ref_xp m c i := by
  have ht := point_lt t
  have hb : t.val / 8 < 4 := by omega
  have hT : 512 * (t.val % 8) + r.val < 4096 := by omega
  rw [ref_xp_at m c i ⟨t.val / 8, hb⟩ ⟨512 * (t.val % 8) + r.val, hT⟩ l (by simp only; omega) (by simp only; omega) h1.symm]
  exact after_rows m c t _ rfl _ r rfl _ _ (mixing_at m c t _ rfl _ r rfl hA) (gate_at m c t _ rfl _ r rfl hV) l

theorem point18 (hV : ∀ i, Fin' (in6 m c i)) (t : Fin cfg0.N) (r : Fin 512) (l : Fin 256) (i : S16384x256.Idx)
    (h0 : (i 0 : ℕ) = t.val * 512 + r.val) (h1 : (i 1 : ℕ) = l.val) :
    k0_pay18 (F := Ideal) (k0_pay17 (F := Ideal) (iblk m c 7 t)) (iblk m c 12 t) (iblk m c 11 t) (ix2 r l) = ref_vn m c i := by
  have ht := point_lt t
  have hb : t.val / 8 < 4 := by omega
  have hT : 512 * (t.val % 8) + r.val < 4096 := by omega
  rw [ref_vn_at m c i ⟨t.val / 8, hb⟩ ⟨512 * (t.val % 8) + r.val, hT⟩ l (by simp only; omega) (by simp only; omega) h1.symm]
  exact vn_at m c t _ rfl _ r rfl hV l

set_option maxHeartbeats 4000000 in
/-- The normed rows after the run are the reference's. -/
theorem final_vn (hV : ∀ i, Fin' (in6 m c i)) : (dats m 0 c).arrAt 18 cfg0.N = ref_vn m c := by
  refine (dats m 0 c).arrAt_eq_of_covers 18 _ (by decide +kernel) fun t _ y => ?_
  blk_simp
  rw [after0_18]
  dsimp only [outsAt0]
  unfold out0_A_18 body_run
  frame_out
  refine (congrArg _ (eq_ix2 y)).trans (point18 m c hV t (y 0) (y 1) _ ?_ ?_)
  all_goals blk_simp [idx t]
  all_goals (try omega)

set_option maxHeartbeats 4000000 in
/-- The rows after the run are the reference's. -/
theorem final_xp (hA : ∀ i, Fin' (in3 m c i)) (hV : ∀ i, Fin' (in6 m c i)) : (dats m 0 c).arrAt 17 cfg0.N = ref_xp m c := by
  refine (dats m 0 c).arrAt_eq_of_covers 17 _ (by decide +kernel) fun t _ y => ?_
  blk_simp
  rw [after0_17]
  dsimp only [outsAt0]
  unfold out0_A_17 body_run
  frame_out
  refine (congrArg _ (eq_ix2 y)).trans (point17 m c hA hV t (y 0) (y 1) _ ?_ ?_)
  all_goals blk_simp [idx t]
  all_goals (try omega)

end Cert.Kernel3Ideal.Merge
end
-- ==== Proof.Proj.lean ====
/- The projection of one layer over the prompt: each result array of the call is the reference's term of the arguments. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

/-- The normed rows of the reference: each row over its root mean square, times the gains. -/
def normed (X : FVec Ideal Cert.Reference2Ideal.S4x4096x1024 .f32) (G : FVec Ideal Cert.Reference2Ideal.S1024 .f32) :
    FVec Ideal Cert.Reference2Ideal.S4x4096x1024 .f32 :=
  mulf (mulf X (broadcastInDim Cert.Reference2Ideal.S4x4096x1024 ![0, 1, 2] Cert.Reference2Ideal.Gen.bcast_S4x4096x1_S4x4096x1024_0_1_2 (Host.rsqrt (addf (Host.divf (broadcastInDim Cert.Reference2Ideal.S4x4096x1 ![0, 1] Cert.Reference2Ideal.Gen.bcast_S4x4096_S4x4096x1_0_1 (Host.reduceAdd (mulf X X) (constant Cert.Reference2Ideal.S_ .f32 0x00000000#32) Cert.Reference2Ideal.Gen.reducesTo_S4x4096x1024_S4x4096_d2 Cert.Reference2Ideal.Gen.h_S_)) (broadcastInDim Cert.Reference2Ideal.S4x4096x1 ![] Cert.Reference2Ideal.Gen.bcast_S_S4x4096x1 (constant Cert.Reference2Ideal.S_ .f32 0x44800000#32))) (broadcastInDim Cert.Reference2Ideal.S4x4096x1 ![] Cert.Reference2Ideal.Gen.bcast_S_S4x4096x1 (constant Cert.Reference2Ideal.S_ .f32 0x358637BD#32)))))) (broadcastInDim Cert.Reference2Ideal.S4x4096x1024 ![0, 1, 2] Cert.Reference2Ideal.Gen.bcast_S1x1x1024_S4x4096x1024_0_1_2 (broadcastInDim Cert.Reference2Ideal.S1x1x1024 ![2] Cert.Reference2Ideal.Gen.bcast_S1024_S1x1x1024_2 G))

/-- The reference's whole projection: all segments side by side. -/
def proj (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S4x4096x3096 .f32 :=
  Host.dotGeneral Cert.Reference2Ideal.dot_S4x4096x1024_S1024x3096_S4x4096x3096_2_0_01_1_n_n none (normed X G) W

/-- The weight columns as the call takes them: the segments in the call's order, the gates' padded to 128 lanes. -/
def wcat (W : FVec Ideal S1024x3096 .f32) : FVec Ideal S1024x3200 .bf16 :=
  truncf .bf16 (concatenate S1024x3200 1 [⟨S1024x512, extractStridedSlice S1024x512 ![0, 0] W slices_S1024x3096_S1024x512_0_0⟩,
    ⟨S1024x256, extractStridedSlice S1024x256 ![0, 512] W slices_S1024x3096_S1024x256_0_512⟩,
    ⟨S1024x256, extractStridedSlice S1024x256 ![0, 768] W slices_S1024x3096_S1024x256_0_768⟩,
    ⟨S1024x256, extractStridedSlice S1024x256 ![0, 1024] W slices_S1024x3096_S1024x256_0_1024⟩,
    ⟨S1024x512, extractStridedSlice S1024x512 ![0, 1304] W slices_S1024x3096_S1024x512_0_1304⟩,
    ⟨S1024x256, extractStridedSlice S1024x256 ![0, 1816] W slices_S1024x3096_S1024x256_0_1816⟩,
    ⟨S1024x256, extractStridedSlice S1024x256 ![0, 2072] W slices_S1024x3096_S1024x256_0_2072⟩,
    ⟨S1024x256, extractStridedSlice S1024x256 ![0, 2328] W slices_S1024x3096_S1024x256_0_2328⟩,
    ⟨S1024x256, extractStridedSlice S1024x256 ![0, 2584] W slices_S1024x3096_S1024x256_0_2584⟩,
    ⟨S1024x256, extractStridedSlice S1024x256 ![0, 2840] W slices_S1024x3096_S1024x256_0_2840⟩,
    ⟨S1024x128, pad S1024x128 ![0, 0] ![0, 104] ![0, 0] (extractStridedSlice S1024x24 ![0, 1280] W slices_S1024x3096_S1024x24_0_1280)
      (sitofp .f32 (constantI S_ 32 0#32)) pads_S1024x24_S1024x128_000_01040 h_S_⟩]
    concatenates_S1024x512_S1024x256_S1024x256_S1024x256_S1024x512_S1024x256_S1024x256_S1024x256_S1024x256_S1024x256_S1024x128_S1024x3200_d1) bitsLt_bf16_f32

variable (m : (ℓ : Loc nD τ sig) → Buf (Elt Ideal) ℓ)

theorem entry_weights (c : Dev nD) : V m c main_v15 = wcat (m ((c : Thread nD τ).loc main_arg2)) := by
  entry_read
  rfl

theorem entry_rows (c : Dev nD) : V m c main_v0 = shapeCast S16384x1024 (show FVec Ideal S4x4096x1024 .f32 from m ((c : Thread nD τ).loc main_arg0)) shapeCasts_S4x4096x1024_S16384x1024 := by
  entry_read
  rfl

theorem entry_gain (c : Dev nD) : V m c main_v1 = shapeCast S1x1024 (show FVec Ideal S1024 .f32 from m ((c : Thread nD τ).loc main_arg1)) shapeCasts_S1024_S1x1024 := by
  entry_read
  rfl

/-- The call's columns from 0 on are the projection's from 0 on. -/
theorem wcat_q (W : FVec Ideal S1024x3096 .f32) (k : Fin 1024) (e : Fin 3200) (f : Fin 3096) (n : ℕ) (hn : n < 512)
    (he : e.val = 0 + n) (hf : f.val = 0 + n) : wcat W (ix2 k e) = W (ix2 k f) := by
  pointwise [wcat]
  rw [dif_pos (by (try simp only [Nat.sub_sub, Nat.reduceAdd]); omega)]
  exact congrArg W (by (try simp only [Nat.sub_sub, Nat.reduceAdd]); idx_ext)

/-- The call's columns from 512 on are the projection's from 512 on. -/
theorem wcat_kc (W : FVec Ideal S1024x3096 .f32) (k : Fin 1024) (e : Fin 3200) (f : Fin 3096) (n : ℕ) (hn : n < 256)
    (he : e.val = 512 + n) (hf : f.val = 512 + n) : wcat W (ix2 k e) = W (ix2 k f) := by
  pointwise [wcat]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 768 on are the projection's from 768 on. -/
theorem wcat_ks (W : FVec Ideal S1024x3096 .f32) (k : Fin 1024) (e : Fin 3200) (f : Fin 3096) (n : ℕ) (hn : n < 256)
    (he : e.val = 768 + n) (hf : f.val = 768 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 1024 on are the projection's from 1024 on. -/
theorem wcat_kw (W : FVec Ideal S1024x3096 .f32) (k : Fin 1024) (e : Fin 3200) (f : Fin 3096) (n : ℕ) (hn : n < 256)
    (he : e.val = 1024 + n) (hf : f.val = 1024 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 1280 on are the projection's from 1304 on. -/
theorem wcat_za (W : FVec Ideal S1024x3096 .f32) (k : Fin 1024) (e : Fin 3200) (f : Fin 3096) (n : ℕ) (hn : n < 512)
    (he : e.val = 1280 + n) (hf : f.val = 1304 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 1792 on are the projection's from 1816 on. -/
theorem wcat_pin (W : FVec Ideal S1024x3096 .f32) (k : Fin 1024) (e : Fin 3200) (f : Fin 3096) (n : ℕ) (hn : n < 256)
    (he : e.val = 1792 + n) (hf : f.val = 1816 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 2048 on are the projection's from 2072 on. -/
theorem wcat_zb (W : FVec Ideal S1024x3096 .f32) (k : Fin 1024) (e : Fin 3200) (f : Fin 3096) (n : ℕ) (hn : n < 256)
    (he : e.val = 2048 + n) (hf : f.val = 2072 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 2304 on are the projection's from 2328 on. -/
theorem wcat_u (W : FVec Ideal S1024x3096 .f32) (k : Fin 1024) (e : Fin 3200) (f : Fin 3096) (n : ℕ) (hn : n < 256)
    (he : e.val = 2304 + n) (hf : f.val = 2328 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 2560 on are the projection's from 2584 on. -/
theorem wcat_v (W : FVec Ideal S1024x3096 .f32) (k : Fin 1024) (e : Fin 3200) (f : Fin 3096) (n : ℕ) (hn : n < 256)
    (he : e.val = 2560 + n) (hf : f.val = 2584 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 2816 on are the projection's from 2840 on. -/
theorem wcat_zc (W : FVec Ideal S1024x3096 .f32) (k : Fin 1024) (e : Fin 3200) (f : Fin 3096) (n : ℕ) (hn : n < 256)
    (he : e.val = 2816 + n) (hf : f.val = 2840 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The call's columns from 3072 on are the projection's from 1280 on. -/
theorem wcat_gl (W : FVec Ideal S1024x3096 .f32) (k : Fin 1024) (e : Fin 3200) (f : Fin 3096) (n : ℕ) (hn : n < 24)
    (he : e.val = 3072 + n) (hf : f.val = 1280 + n) : wcat W (ix2 k e) = W (ix2 k f) := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_pos (by (try simp only [Nat.sub_sub, Nat.reduceAdd]); omega)]
  exact congrArg W (by (try simp only [Nat.sub_sub, Nat.reduceAdd]); idx_ext)

/-- The integer zero is the real zero. -/
theorem padding_zero : FloatOps.sitofp (F := Ideal) FTy.f32 (0#32) = (0 : EReal) := by
  show (((0#32 : BitVec 32).toInt : ℝ) : EReal) = 0
  simp

/-- The padding of the gates' columns is zero. -/
theorem wcat_pad (W : FVec Ideal S1024x3096 .f32) (k : Fin 1024) (e : Fin 3200) (he : 3096 ≤ e.val) : wcat W (ix2 k e) = 0 := by
  pointwise [wcat]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  rw [dif_neg (by (try simp only [Nat.sub_sub, Nat.reduceAdd]); omega)]
  exact padding_zero

theorem idx : ∀ t : Fin cfg0.N, win0_0.index t = ![t.val, 0] ∧ win0_1.index t = ![0, 0] ∧ win0_2.index t = ![0, 0]
    ∧ win0_3.index t = ![t.val, 0]
    ∧ win0_4.index t = ![t.val / 8, 0, t.val % 8]
    ∧ win0_5.index t = ![t.val / 8, 0, t.val % 8]
    ∧ win0_6.index t = ![t.val / 8, 0, t.val % 8]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ t.val < 32 :=
  (by decide +kernel : ∀ t : Fin grid0.N, _)

theorem point_lt (t : Fin cfg0.N) : t.val < 32 := lt_of_lt_of_eq t.isLt (by decide +kernel)

theorem rows_at (c : Dev nD) (t : Fin cfg0.N) (r : Fin 512) (k : Fin 1024) (b : Fin 4) (s : Fin 4096)
    (h : 4096 * b.val + s.val = 512 * t.val + r.val) :
    (show FVec Ideal S512x1024 .f32 from iblk m c 0 t) (ix2 r k)
      = (show FVec Ideal S4x4096x1024 .f32 from m ((c : Thread nD τ).loc main_arg0)) (ix3 b s k) := by
  blk_simp [iblk, idx t]
  rw [entry_rows]
  pointwise
  refine congrArg _ ?_
  blk_ext [idx t]

theorem gain_at (c : Dev nD) (t : Fin cfg0.N) (k : Fin 1024) :
    (show FVec Ideal S1x1024 .f32 from iblk m c 1 t) (ix2 0 k)
      = (show FVec Ideal S1024 .f32 from m ((c : Thread nD τ).loc main_arg1)) (ix1 k) := by
  blk_simp [iblk, idx t]
  rw [entry_gain]
  pointwise
  blk_ext [idx t]

theorem weights_at (c : Dev nD) (t : Fin cfg0.N) (k : Fin 1024) (e : Fin 3200) :
    (show FVec Ideal S1024x3200 .bf16 from iblk m c 2 t) (ix2 k e)
      = wcat (m ((c : Thread nD τ).loc main_arg2)) (ix2 k e) := by
  blk_simp [iblk, idx t]
  rw [entry_weights]
  refine congrArg _ ?_
  blk_ext [idx t]

theorem core (x : FVec Ideal S512x1024 .f32) (g : FVec Ideal S1x1024 .f32) (w : Fin 1024 → EReal)
    (X : FVec Ideal Cert.Reference2Ideal.S4x4096x1024 .f32) (G : FVec Ideal Cert.Reference2Ideal.S1024 .f32)
    (W : FVec Ideal Cert.Reference2Ideal.S1024x3096 .f32) (r : Fin 512) (b : Fin 4) (s : Fin 4096) (e : Fin 3096)
    (hx : ∀ k : Fin 1024, x (ix2 r k) = X (ix3 b s k)) (hg : ∀ k : Fin 1024, g (ix2 0 k) = G (ix1 k))
    (hw : ∀ k : Fin 1024, w k = W (ix2 k e)) :
    ∑ k : Fin 1024, k0_pay4 (F := Ideal) x g (ix2 r k) * w k = proj X G W (ix3 b s e) := by
  pointwise [k0_pay4, proj, normed, hx, hg, hw]

/-- The normalised rows, read off whole blocks. -/
theorem pay14 (x0 : Vec Ideal S512x1024 .f32) (x1 : Vec Ideal S1x1024 .f32) (x2 : Vec Ideal S1024x3200 .bf16) :
    k0_pay14 x0 x1 x2 = k0_pay4 x0 x1 := by
  unfold k0_pay14
  frame_out

/-- The reference's result `q`. -/
def ref_q (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S16384x512 .f32 :=
  shapeCast _ (extractStridedSlice Cert.Reference2Ideal.S4x4096x512 ![0, 0, 0] (proj X G W) Cert.Reference2Ideal.Gen.slices_S4x4096x3096_S4x4096x512_0_0_0) Cert.Reference2Ideal.Gen.shapeCasts_S4x4096x512_S16384x512

theorem point_q (c : Dev nD) (t : Fin cfg0.N) (r : Fin 512) (j : Fin 512) (i : S16384x512.Idx)
    (h0 : (i 0 : ℕ) = t.val * 512 + r.val) (h1 : (i 1 : ℕ) = j.val) :
    k0_pay5 (F := Ideal) (iblk m c 0 t) (iblk m c 1 t) (View.ld (iblk m c 2 t) r0_2) (ix2 r j)
      = ref_q (m ((c : Thread nD τ).loc main_arg0)) (m ((c : Thread nD τ).loc main_arg1)) (m ((c : Thread nD τ).loc main_arg2)) i := by
  have ht := point_lt t
  pointwise [k0_pay5, ref_q, r0_2]
  refine core _ _ _ _ _ _ r _ _ _ (fun k => rows_at m c t r k _ _ ?_) (fun k => gain_at m c t k) (fun k => ?_)
  · show 4096 * ((i 0 : ℕ) / 4096) + (i 0 : ℕ) % 4096 = _
    omega
  · refine (weights_at m c t k _).trans (wcat_q _ k _ _ j.val j.isLt ?_ ?_)
    · simp
    · simp [h1]

/-- The result array `q` after the run is the reference's. -/
theorem final_q (c : Dev nD) : (dats m 0 c).arrAt 3 (cfgs 0).N
    = ref_q (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine (congrArg _ (eq_ix2 y)).trans (point_q m c t (y 0) (y 1) _ ?_ ?_)
  all_goals blk_simp [idx t]

/-- The reference's result `kc`. -/
def ref_kc (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S4x256x4096 .f32 :=
  transpose Cert.Reference2Ideal.S4x256x4096 [0, 2, 1] (extractStridedSlice Cert.Reference2Ideal.S4x4096x256 ![0, 0, 512] (proj X G W) Cert.Reference2Ideal.Gen.slices_S4x4096x3096_S4x4096x256_0_0_512) Cert.Reference2Ideal.Gen.transposes_S4x4096x256_S4x256x4096_0_2_1

theorem point_kc (c : Dev nD) (t : Fin cfg0.N) (z : Fin 1) (j : Fin 256) (r : Fin 512) (i : S4x256x4096.Idx)
    (h0 : (i 0 : ℕ) = t.val / 8) (h1 : (i 1 : ℕ) = j.val) (h2 : (i 2 : ℕ) = t.val % 8 * 512 + r.val) :
    k0_pay6 (F := Ideal) (iblk m c 0 t) (iblk m c 1 t) (View.ld (iblk m c 2 t) r0_4) (ix3 z j r)
      = ref_kc (m ((c : Thread nD τ).loc main_arg0)) (m ((c : Thread nD τ).loc main_arg1)) (m ((c : Thread nD τ).loc main_arg2)) i := by
  have ht := point_lt t
  pointwise [k0_pay6, ref_kc, r0_4]
  refine core _ _ _ _ _ _ r _ _ _ (fun k => rows_at m c t r k _ _ ?_) (fun k => gain_at m c t k) (fun k => ?_)
  · show 4096 * (i 0 : ℕ) + (i 2 : ℕ) = _
    omega
  · refine (weights_at m c t k _).trans (wcat_kc _ k _ _ j.val j.isLt ?_ ?_)
    · show _ = _
      simp
    · simp [h1]

/-- The result array `kc` after the run is the reference's. -/
theorem final_kc (c : Dev nD) : (dats m 0 c).arrAt 4 (cfgs 0).N
    = ref_kc (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine (congrArg _ (eq_ix3 y)).trans (point_kc m c t (y 0) (y 1) (y 2) _ ?_ ?_ ?_)
  all_goals blk_simp [idx t]
  all_goals (try omega)

/-- The reference's result `ks`. -/
def ref_ks (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S4x256x4096 .f32 :=
  transpose Cert.Reference2Ideal.S4x256x4096 [0, 2, 1] (extractStridedSlice Cert.Reference2Ideal.S4x4096x256 ![0, 0, 768] (proj X G W) Cert.Reference2Ideal.Gen.slices_S4x4096x3096_S4x4096x256_0_0_768) Cert.Reference2Ideal.Gen.transposes_S4x4096x256_S4x256x4096_0_2_1

theorem point_ks (c : Dev nD) (t : Fin cfg0.N) (z : Fin 1) (j : Fin 256) (r : Fin 512) (i : S4x256x4096.Idx)
    (h0 : (i 0 : ℕ) = t.val / 8) (h1 : (i 1 : ℕ) = j.val) (h2 : (i 2 : ℕ) = t.val % 8 * 512 + r.val) :
    k0_pay8 (k0_pay7 (F := Ideal) (iblk m c 0 t) (iblk m c 1 t) (View.ld (iblk m c 2 t) r0_6)) (ix3 z j r)
      = ref_ks (m ((c : Thread nD τ).loc main_arg0)) (m ((c : Thread nD τ).loc main_arg1)) (m ((c : Thread nD τ).loc main_arg2)) i := by
  have ht := point_lt t
  pointwise [k0_pay7, k0_pay8, ref_ks, r0_6]
  refine core _ _ _ _ _ _ r _ _ _ (fun k => rows_at m c t r k _ _ ?_) (fun k => gain_at m c t k) (fun k => ?_)
  · show 4096 * (i 0 : ℕ) + (i 2 : ℕ) = _
    omega
  · refine (weights_at m c t k _).trans (wcat_ks _ k _ _ j.val j.isLt ?_ ?_)
    · show _ = _
      simp
    · simp [h1]

/-- The result array `ks` after the run is the reference's. -/
theorem final_ks (c : Dev nD) : (dats m 0 c).arrAt 5 (cfgs 0).N
    = ref_ks (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  refine (congrArg _ (eq_ix3 y)).trans (point_ks m c t (y 0) (y 1) (y 2) _ ?_ ?_ ?_)
  all_goals blk_simp [idx t]
  all_goals (try omega)

/-- The reference's result `kw`. -/
def ref_kw (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S4x256x4096 .f32 :=
  transpose Cert.Reference2Ideal.S4x256x4096 [0, 2, 1] (extractStridedSlice Cert.Reference2Ideal.S4x4096x256 ![0, 0, 1024] (proj X G W) Cert.Reference2Ideal.Gen.slices_S4x4096x3096_S4x4096x256_0_0_1024) Cert.Reference2Ideal.Gen.transposes_S4x4096x256_S4x256x4096_0_2_1

theorem point_kw (c : Dev nD) (t : Fin cfg0.N) (z : Fin 1) (j : Fin 256) (r : Fin 512) (i : S4x256x4096.Idx)
    (h0 : (i 0 : ℕ) = t.val / 8) (h1 : (i 1 : ℕ) = j.val) (h2 : (i 2 : ℕ) = t.val % 8 * 512 + r.val) :
    k0_pay9 (F := Ideal) (k0_pay4 (iblk m c 0 t) (iblk m c 1 t)) (View.ld (iblk m c 2 t) r0_7) (ix3 z j r)
      = ref_kw (m ((c : Thread nD τ).loc main_arg0)) (m ((c : Thread nD τ).loc main_arg1)) (m ((c : Thread nD τ).loc main_arg2)) i := by
  have ht := point_lt t
  pointwise [k0_pay9, ref_kw, r0_7]
  refine core _ _ _ _ _ _ r _ _ _ (fun k => rows_at m c t r k _ _ ?_) (fun k => gain_at m c t k) (fun k => ?_)
  · show 4096 * (i 0 : ℕ) + (i 2 : ℕ) = _
    omega
  · refine (weights_at m c t k _).trans (wcat_kw _ k _ _ j.val j.isLt ?_ ?_)
    · show _ = _
      simp
    · simp [h1]

/-- The result array `kw` after the run is the reference's. -/
theorem final_kw (c : Dev nD) : (dats m 0 c).arrAt 6 (cfgs 0).N
    = ref_kw (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  rw [pay14]
  refine (congrArg _ (eq_ix3 y)).trans (point_kw m c t (y 0) (y 1) (y 2) _ ?_ ?_ ?_)
  all_goals blk_simp [idx t]
  all_goals (try omega)

/-- The reference's result `za`. -/
def ref_za (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S16384x512 .f32 :=
  shapeCast _ (extractStridedSlice Cert.Reference2Ideal.S4x4096x512 ![0, 0, 1304] (proj X G W) Cert.Reference2Ideal.Gen.slices_S4x4096x3096_S4x4096x512_0_0_1304) Cert.Reference2Ideal.Gen.shapeCasts_S4x4096x512_S16384x512

theorem point_za (c : Dev nD) (t : Fin cfg0.N) (r : Fin 512) (j : Fin 512) (i : S16384x512.Idx)
    (h0 : (i 0 : ℕ) = t.val * 512 + r.val) (h1 : (i 1 : ℕ) = j.val) :
    k0_pay10 (F := Ideal) (k0_pay4 (iblk m c 0 t) (iblk m c 1 t)) (View.ld (iblk m c 2 t) r0_8) (ix2 r j)
      = ref_za (m ((c : Thread nD τ).loc main_arg0)) (m ((c : Thread nD τ).loc main_arg1)) (m ((c : Thread nD τ).loc main_arg2)) i := by
  have ht := point_lt t
  pointwise [k0_pay10, ref_za, r0_8]
  refine core _ _ _ _ _ _ r _ _ _ (fun k => rows_at m c t r k _ _ ?_) (fun k => gain_at m c t k) (fun k => ?_)
  · show 4096 * ((i 0 : ℕ) / 4096) + (i 0 : ℕ) % 4096 = _
    omega
  · refine (weights_at m c t k _).trans (wcat_za _ k _ _ j.val j.isLt ?_ ?_)
    · simp
    · simp [h1]

/-- The result array `za` after the run is the reference's. -/
theorem final_za (c : Dev nD) : (dats m 0 c).arrAt 7 (cfgs 0).N
    = ref_za (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  rw [pay14]
  refine (congrArg _ (eq_ix2 y)).trans (point_za m c t (y 0) (y 1) _ ?_ ?_)
  all_goals blk_simp [idx t]

/-- The reference's result `pin`. -/
def ref_pin (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S16384x256 .f32 :=
  shapeCast _ (extractStridedSlice Cert.Reference2Ideal.S4x4096x256 ![0, 0, 1816] (proj X G W) Cert.Reference2Ideal.Gen.slices_S4x4096x3096_S4x4096x256_0_0_1816) Cert.Reference2Ideal.Gen.shapeCasts_S4x4096x256_S16384x256

theorem point_pin (c : Dev nD) (t : Fin cfg0.N) (r : Fin 512) (j : Fin 256) (i : S16384x256.Idx)
    (h0 : (i 0 : ℕ) = t.val * 512 + r.val) (h1 : (i 1 : ℕ) = j.val) :
    k0_pay11 (F := Ideal) (k0_pay4 (iblk m c 0 t) (iblk m c 1 t)) (View.ld (iblk m c 2 t) r0_9) (ix2 r j)
      = ref_pin (m ((c : Thread nD τ).loc main_arg0)) (m ((c : Thread nD τ).loc main_arg1)) (m ((c : Thread nD τ).loc main_arg2)) i := by
  have ht := point_lt t
  pointwise [k0_pay11, ref_pin, r0_9]
  refine core _ _ _ _ _ _ r _ _ _ (fun k => rows_at m c t r k _ _ ?_) (fun k => gain_at m c t k) (fun k => ?_)
  · show 4096 * ((i 0 : ℕ) / 4096) + (i 0 : ℕ) % 4096 = _
    omega
  · refine (weights_at m c t k _).trans (wcat_pin _ k _ _ j.val j.isLt ?_ ?_)
    · simp
    · simp [h1]

/-- The result array `pin` after the run is the reference's. -/
theorem final_pin (c : Dev nD) : (dats m 0 c).arrAt 8 (cfgs 0).N
    = ref_pin (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  rw [pay14]
  refine (congrArg _ (eq_ix2 y)).trans (point_pin m c t (y 0) (y 1) _ ?_ ?_)
  all_goals blk_simp [idx t]

/-- The reference's result `zb`. -/
def ref_zb (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S16384x256 .f32 :=
  shapeCast _ (extractStridedSlice Cert.Reference2Ideal.S4x4096x256 ![0, 0, 2072] (proj X G W) Cert.Reference2Ideal.Gen.slices_S4x4096x3096_S4x4096x256_0_0_2072) Cert.Reference2Ideal.Gen.shapeCasts_S4x4096x256_S16384x256

theorem point_zb (c : Dev nD) (t : Fin cfg0.N) (r : Fin 512) (j : Fin 256) (i : S16384x256.Idx)
    (h0 : (i 0 : ℕ) = t.val * 512 + r.val) (h1 : (i 1 : ℕ) = j.val) :
    k0_pay12 (F := Ideal) (k0_pay4 (iblk m c 0 t) (iblk m c 1 t)) (View.ld (iblk m c 2 t) r0_11) (ix2 r j)
      = ref_zb (m ((c : Thread nD τ).loc main_arg0)) (m ((c : Thread nD τ).loc main_arg1)) (m ((c : Thread nD τ).loc main_arg2)) i := by
  have ht := point_lt t
  pointwise [k0_pay12, ref_zb, r0_11]
  refine core _ _ _ _ _ _ r _ _ _ (fun k => rows_at m c t r k _ _ ?_) (fun k => gain_at m c t k) (fun k => ?_)
  · show 4096 * ((i 0 : ℕ) / 4096) + (i 0 : ℕ) % 4096 = _
    omega
  · refine (weights_at m c t k _).trans (wcat_zb _ k _ _ j.val j.isLt ?_ ?_)
    · simp
    · simp [h1]

/-- The result array `zb` after the run is the reference's. -/
theorem final_zb (c : Dev nD) : (dats m 0 c).arrAt 9 (cfgs 0).N
    = ref_zb (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  rw [pay14]
  refine (congrArg _ (eq_ix2 y)).trans (point_zb m c t (y 0) (y 1) _ ?_ ?_)
  all_goals blk_simp [idx t]

/-- The reference's result `u`. -/
def ref_u (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S16384x256 .f32 :=
  shapeCast _ (extractStridedSlice Cert.Reference2Ideal.S4x4096x256 ![0, 0, 2328] (proj X G W) Cert.Reference2Ideal.Gen.slices_S4x4096x3096_S4x4096x256_0_0_2328) Cert.Reference2Ideal.Gen.shapeCasts_S4x4096x256_S16384x256

theorem point_u (c : Dev nD) (t : Fin cfg0.N) (r : Fin 512) (j : Fin 256) (i : S16384x256.Idx)
    (h0 : (i 0 : ℕ) = t.val * 512 + r.val) (h1 : (i 1 : ℕ) = j.val) :
    k0_pay13 (F := Ideal) (k0_pay4 (iblk m c 0 t) (iblk m c 1 t)) (View.ld (iblk m c 2 t) r0_12) (ix2 r j)
      = ref_u (m ((c : Thread nD τ).loc main_arg0)) (m ((c : Thread nD τ).loc main_arg1)) (m ((c : Thread nD τ).loc main_arg2)) i := by
  have ht := point_lt t
  pointwise [k0_pay13, ref_u, r0_12]
  refine core _ _ _ _ _ _ r _ _ _ (fun k => rows_at m c t r k _ _ ?_) (fun k => gain_at m c t k) (fun k => ?_)
  · show 4096 * ((i 0 : ℕ) / 4096) + (i 0 : ℕ) % 4096 = _
    omega
  · refine (weights_at m c t k _).trans (wcat_u _ k _ _ j.val j.isLt ?_ ?_)
    · simp
    · simp [h1]

/-- The result array `u` after the run is the reference's. -/
theorem final_u (c : Dev nD) : (dats m 0 c).arrAt 10 (cfgs 0).N
    = ref_u (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; frame_out
  rw [pay14]
  refine (congrArg _ (eq_ix2 y)).trans (point_u m c t (y 0) (y 1) _ ?_ ?_)
  all_goals blk_simp [idx t]

/-- The reference's result `v`. -/
def ref_v (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S16384x256 .f32 :=
  shapeCast _ (extractStridedSlice Cert.Reference2Ideal.S4x4096x256 ![0, 0, 2584] (proj X G W) Cert.Reference2Ideal.Gen.slices_S4x4096x3096_S4x4096x256_0_0_2584) Cert.Reference2Ideal.Gen.shapeCasts_S4x4096x256_S16384x256

theorem point_v (c : Dev nD) (t : Fin cfg0.N) (r : Fin 512) (j : Fin 256) (i : S16384x256.Idx)
    (h0 : (i 0 : ℕ) = t.val * 512 + r.val) (h1 : (i 1 : ℕ) = j.val) :
    k0_pay1 (F := Ideal) (k0_pay4 (iblk m c 0 t) (iblk m c 1 t)) (View.ld (iblk m c 2 t) r0_13) (ix2 r j)
      = ref_v (m ((c : Thread nD τ).loc main_arg0)) (m ((c : Thread nD τ).loc main_arg1)) (m ((c : Thread nD τ).loc main_arg2)) i := by
  have ht := point_lt t
  pointwise [k0_pay1, ref_v, r0_13]
  refine core _ _ _ _ _ _ r _ _ _ (fun k => rows_at m c t r k _ _ ?_) (fun k => gain_at m c t k) (fun k => ?_)
  · show 4096 * ((i 0 : ℕ) / 4096) + (i 0 : ℕ) % 4096 = _
    omega
  · refine (weights_at m c t k _).trans (wcat_v _ k _ _ j.val j.isLt ?_ ?_)
    · simp
    · simp [h1]

/-- The result array `v` after the run is the reference's. -/
theorem final_v (c : Dev nD) : (dats m 0 c).arrAt 11 (cfgs 0).N
    = ref_v (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]; frame_out
  rw [pay14]
  refine (congrArg _ (eq_ix2 y)).trans (point_v m c t (y 0) (y 1) _ ?_ ?_)
  all_goals blk_simp [idx t]

/-- The reference's result `zc`. -/
def ref_zc (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S16384x256 .f32 :=
  shapeCast _ (extractStridedSlice Cert.Reference2Ideal.S4x4096x256 ![0, 0, 2840] (proj X G W) Cert.Reference2Ideal.Gen.slices_S4x4096x3096_S4x4096x256_0_0_2840) Cert.Reference2Ideal.Gen.shapeCasts_S4x4096x256_S16384x256

theorem point_zc (c : Dev nD) (t : Fin cfg0.N) (r : Fin 512) (j : Fin 256) (i : S16384x256.Idx)
    (h0 : (i 0 : ℕ) = t.val * 512 + r.val) (h1 : (i 1 : ℕ) = j.val) :
    k0_pay2 (F := Ideal) (k0_pay4 (iblk m c 0 t) (iblk m c 1 t)) (View.ld (iblk m c 2 t) r0_14) (ix2 r j)
      = ref_zc (m ((c : Thread nD τ).loc main_arg0)) (m ((c : Thread nD τ).loc main_arg1)) (m ((c : Thread nD τ).loc main_arg2)) i := by
  have ht := point_lt t
  pointwise [k0_pay2, ref_zc, r0_14]
  refine core _ _ _ _ _ _ r _ _ _ (fun k => rows_at m c t r k _ _ ?_) (fun k => gain_at m c t k) (fun k => ?_)
  · show 4096 * ((i 0 : ℕ) / 4096) + (i 0 : ℕ) % 4096 = _
    omega
  · refine (weights_at m c t k _).trans (wcat_zc _ k _ _ j.val j.isLt ?_ ?_)
    · simp
    · simp [h1]

/-- The result array `zc` after the run is the reference's. -/
theorem final_zc (c : Dev nD) : (dats m 0 c).arrAt 12 (cfgs 0).N
    = ref_zc (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  rw [pay14]
  refine (congrArg _ (eq_ix2 y)).trans (point_zc m c t (y 0) (y 1) _ ?_ ?_)
  all_goals blk_simp [idx t]

/-- The reference's result `gl`. -/
def ref_gl (X : FVec Ideal Cert.Reference2Ideal.S4x4096x1024 .f32) (G : FVec Ideal Cert.Reference2Ideal.S1024 .f32)
    (W : FVec Ideal Cert.Reference2Ideal.S1024x3096 .f32) : FVec Ideal Cert.Reference2Ideal.S16384x128 .f32 :=
  shapeCast _ (pad Cert.Reference2Ideal.S4x4096x128 ![0, 0, 0] ![0, 0, 104] ![0, 0, 0] (extractStridedSlice Cert.Reference2Ideal.S4x4096x24 ![0, 0, 1280] (proj X G W) Cert.Reference2Ideal.Gen.slices_S4x4096x3096_S4x4096x24_0_0_1280) (sitofp .f32 (constantI Cert.Reference2Ideal.S_ 32 0#32)) Cert.Reference2Ideal.Gen.pads_S4x4096x24_S4x4096x128_000_000_01040 Cert.Reference2Ideal.Gen.h_S_) Cert.Reference2Ideal.Gen.shapeCasts_S4x4096x128_S16384x128

theorem point_gl (c : Dev nD) (t : Fin cfg0.N) (r : Fin 512) (j : Fin 128) (i : S16384x128.Idx)
    (h0 : (i 0 : ℕ) = t.val * 512 + r.val) (h1 : (i 1 : ℕ) = j.val) :
    k0_pay3 (F := Ideal) (k0_pay4 (iblk m c 0 t) (iblk m c 1 t)) (View.ld (iblk m c 2 t) r0_15) (ix2 r j)
      = ref_gl (m ((c : Thread nD τ).loc main_arg0)) (m ((c : Thread nD τ).loc main_arg1)) (m ((c : Thread nD τ).loc main_arg2)) i := by
  have ht := point_lt t
  pointwise [k0_pay3, ref_gl, r0_15]
  by_cases hj : j.val < 24
  · have hi : (i 1 : ℕ) < 24 := by omega
    rw [dif_pos (show (i 0 : ℕ) / 4096 < 4 ∧ (i 0 : ℕ) % 4096 < 4096 ∧ (i 1 : ℕ) < 24 from ⟨by omega, by omega, hi⟩)]
    refine core _ _ _ _ _ _ r _ _ _ (fun k => rows_at m c t r k _ _ ?_) (fun k => gain_at m c t k) (fun k => ?_)
    · show 4096 * ((i 0 : ℕ) / 4096) + (i 0 : ℕ) % 4096 = _
      omega
    · refine (weights_at m c t k _).trans (wcat_gl _ k _ _ j.val hj ?_ ?_)
      · simp
      · simp [h1]
  · have hi : ¬ (i 1 : ℕ) < 24 := by omega
    rw [dif_neg (fun h => hi h.2.2)]
    refine (Finset.sum_eq_zero fun k _ => ?_).trans padding_zero.symm
    refine (congrArg _ ((weights_at m c t k _).trans (wcat_pad _ k _ ?_))).trans (mul_zero _)
    simp
    omega

/-- The result array `gl` after the run is the reference's. -/
theorem final_gl (c : Dev nD) : (dats m 0 c).arrAt 13 (cfgs 0).N
    = ref_gl (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]; frame_out
  rw [pay14]
  refine (congrArg _ (eq_ix2 y)).trans (point_gl m c t (y 0) (y 1) _ ?_ ?_)
  all_goals blk_simp [idx t]

end Cert.Kernel2Ideal.Proj

end
-- ==== Proof.Proj4.lean ====
/- The projection of one layer over the sample: each result array of the call is the reference's term of the arguments. -/
module

public import proofs.«01_k».proof.Proof.Gen.Kernel4Ideal.Value
public import proofs.«01_k».proof.Proof.Gen.Reference4Ideal.Run
public import proofs.«01_k».proof.Proof.Proj

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen
open Cert.Kernel2Ideal.Proj (wcat wcat_q wcat_kc wcat_ks wcat_kw wcat_za wcat_pin wcat_zb wcat_u wcat_v wcat_zc wcat_gl wcat_pad padding_zero)

/-- The normed rows of the reference: each row over its root mean square, times the gains. -/
def normed (X : FVec Ideal Cert.Reference4Ideal.S128x1x1024 .f32) (G : FVec Ideal Cert.Reference4Ideal.S1024 .f32) :
    FVec Ideal Cert.Reference4Ideal.S128x1x1024 .f32 :=
  mulf (mulf X (broadcastInDim Cert.Reference4Ideal.S128x1x1024 ![0, 1, 2] Cert.Reference4Ideal.Gen.bcast_S128x1x1_S128x1x1024_0_1_2 (Host.rsqrt (addf (Host.divf (broadcastInDim Cert.Reference4Ideal.S128x1x1 ![0, 1] Cert.Reference4Ideal.Gen.bcast_S128x1_S128x1x1_0_1 (Host.reduceAdd (mulf X X) (constant Cert.Reference4Ideal.S_ .f32 0x00000000#32) Cert.Reference4Ideal.Gen.reducesTo_S128x1x1024_S128x1_d2 Cert.Reference4Ideal.Gen.h_S_)) (broadcastInDim Cert.Reference4Ideal.S128x1x1 ![] Cert.Reference4Ideal.Gen.bcast_S_S128x1x1 (constant Cert.Reference4Ideal.S_ .f32 0x44800000#32))) (broadcastInDim Cert.Reference4Ideal.S128x1x1 ![] Cert.Reference4Ideal.Gen.bcast_S_S128x1x1 (constant Cert.Reference4Ideal.S_ .f32 0x358637BD#32)))))) (broadcastInDim Cert.Reference4Ideal.S128x1x1024 ![0, 1, 2] Cert.Reference4Ideal.Gen.bcast_S1x1x1024_S128x1x1024_0_1_2 (broadcastInDim Cert.Reference4Ideal.S1x1x1024 ![2] Cert.Reference4Ideal.Gen.bcast_S1024_S1x1x1024_2 G))

/-- The reference's whole projection: all segments side by side. -/
def proj (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x1x3096 .f32 :=
  Host.dotGeneral Cert.Reference4Ideal.dot_S128x1x1024_S1024x3096_S128x1x3096_2_0_01_1_n_n none (normed X G) W

variable (m : (ℓ : Loc nD τ sig) → Buf (Elt Ideal) ℓ)

theorem entry_weights (c : Dev nD) : V m c main_v15 = wcat (m ((c : Thread nD τ).loc main_arg2)) := by
  entry_read
  rfl

theorem entry_rows (c : Dev nD) : V m c main_v0 = shapeCast S128x1024 (show FVec Ideal S128x1x1024 .f32 from m ((c : Thread nD τ).loc main_arg0)) shapeCasts_S128x1x1024_S128x1024 := by
  entry_read
  rfl

theorem entry_gain (c : Dev nD) : V m c main_v1 = shapeCast S1x1024 (show FVec Ideal S1024 .f32 from m ((c : Thread nD τ).loc main_arg1)) shapeCasts_S1024_S1x1024 := by
  entry_read
  rfl

theorem idx : ∀ t : Fin cfg0.N, win0_0.index t = ![0, 0] ∧ win0_1.index t = ![0, 0] ∧ win0_2.index t = ![0, 0]
    ∧ win0_3.index t = ![0, 0]
    ∧ win0_4.index t = ![0, 0, 0]
    ∧ win0_5.index t = ![0, 0]
    ∧ win0_6.index t = ![0, 0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ t.val < 1 :=
  (by decide +kernel : ∀ t : Fin grid0.N, _)

theorem rows_at (c : Dev nD) (t : Fin cfg0.N) (r : Fin 128) (k : Fin 1024) (b : Fin 128) (s : Fin 1) (h : b.val = r.val) :
    (show FVec Ideal S128x1024 .f32 from iblk m c 0 t) (ix2 r k)
      = (show FVec Ideal S128x1x1024 .f32 from m ((c : Thread nD τ).loc main_arg0)) (ix3 b s k) := by
  blk_simp [iblk, idx t]
  rw [entry_rows]
  pointwise
  refine congrArg _ ?_
  blk_ext [idx t]

theorem gain_at (c : Dev nD) (t : Fin cfg0.N) (k : Fin 1024) :
    (show FVec Ideal S1x1024 .f32 from iblk m c 1 t) (ix2 0 k)
      = (show FVec Ideal S1024 .f32 from m ((c : Thread nD τ).loc main_arg1)) (ix1 k) := by
  blk_simp [iblk, idx t]
  rw [entry_gain]
  pointwise
  blk_ext [idx t]

theorem weights_at (c : Dev nD) (t : Fin cfg0.N) (k : Fin 1024) (e : Fin 3200) :
    (show FVec Ideal S1024x3200 .bf16 from iblk m c 2 t) (ix2 k e)
      = wcat (m ((c : Thread nD τ).loc main_arg2)) (ix2 k e) := by
  blk_simp [iblk, idx t]
  rw [entry_weights]
  refine congrArg _ ?_
  blk_ext [idx t]

theorem core (x : FVec Ideal S128x1024 .f32) (g : FVec Ideal S1x1024 .f32) (w : Fin 1024 → EReal)
    (X : FVec Ideal Cert.Reference4Ideal.S128x1x1024 .f32) (G : FVec Ideal Cert.Reference4Ideal.S1024 .f32)
    (W : FVec Ideal Cert.Reference4Ideal.S1024x3096 .f32) (r : Fin 128) (b : Fin 128) (s : Fin 1) (e : Fin 3096)
    (hx : ∀ k : Fin 1024, x (ix2 r k) = X (ix3 b s k)) (hg : ∀ k : Fin 1024, g (ix2 0 k) = G (ix1 k))
    (hw : ∀ k : Fin 1024, w k = W (ix2 k e)) :
    ∑ k : Fin 1024, k0_pay5 (F := Ideal) x g (ix2 r k) * w k = proj X G W (ix3 b s e) := by
  obtain rfl : s = 0 := Subsingleton.elim _ _
  pointwise [k0_pay5, proj, normed, hx, hg, hw]

/-- The normed rows, read off whole blocks. -/
theorem pay17 (x0 : Vec Ideal S128x1024 .f32) (x1 : Vec Ideal S1x1024 .f32) (x2 : Vec Ideal S1024x3200 .bf16) :
    k0_pay17 x0 x1 x2 = k0_pay5 x0 x1 := by
  unfold k0_pay17
  frame_out

/-- The reference's result `q`. -/
def ref_q (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x512 .f32 :=
  shapeCast _ (extractStridedSlice Cert.Reference4Ideal.S128x1x512 ![0, 0, 0] (proj X G W) Cert.Reference4Ideal.Gen.slices_S128x1x3096_S128x1x512_0_0_0) Cert.Reference4Ideal.Gen.shapeCasts_S128x1x512_S128x512

theorem point_q (c : Dev nD) (t : Fin cfg0.N) (r : Fin 128) (j : Fin 512) (i : S128x512.Idx)
    (h0 : (i 0 : ℕ) = r.val) (h1 : (i 1 : ℕ) = j.val) :
    k0_pay6 (F := Ideal) (iblk m c 0 t) (iblk m c 1 t) (View.ld (iblk m c 2 t) r0_2) (ix2 r j)
      = ref_q (m ((c : Thread nD τ).loc main_arg0)) (m ((c : Thread nD τ).loc main_arg1)) (m ((c : Thread nD τ).loc main_arg2)) i := by
  pointwise [k0_pay6, ref_q, r0_2]
  refine core _ _ _ _ _ _ r _ _ _ (fun k => rows_at m c t r k _ _ ?_) (fun k => gain_at m c t k) (fun k => ?_)
  · exact h0
  · refine (weights_at m c t k _).trans (wcat_q _ k _ _ j.val j.isLt ?_ ?_)
    · simp
    · simp [h1]

/-- The result array `q` after the run is the reference's. -/
theorem final_q (c : Dev nD) : (dats m 0 c).arrAt 3 (cfgs 0).N
    = ref_q (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine (congrArg _ (eq_ix2 y)).trans (point_q m c t (y 0) (y 1) _ ?_ ?_)
  all_goals blk_simp [idx t]
  all_goals (try omega)

/-- The reference's result `kct`. -/
def ref_kct (X : FVec Ideal Cert.Reference4Ideal.S128x1x1024 .f32) (G : FVec Ideal Cert.Reference4Ideal.S1024 .f32)
    (W : FVec Ideal Cert.Reference4Ideal.S1024x3096 .f32) : FVec Ideal Cert.Reference4Ideal.S1x256x128 .f32 :=
  transpose Cert.Reference4Ideal.S1x256x128 [1, 2, 0] (extractStridedSlice Cert.Reference4Ideal.S128x1x256 ![0, 0, 512] (proj X G W) Cert.Reference4Ideal.Gen.slices_S128x1x3096_S128x1x256_0_0_512) Cert.Reference4Ideal.Gen.transposes_S128x1x256_S1x256x128_1_2_0

theorem point_kct (c : Dev nD) (t : Fin cfg0.N) (z : Fin 1) (j : Fin 256) (r : Fin 128) (i : S1x256x128.Idx)
    (h0 : (i 0 : ℕ) = 0) (h1 : (i 1 : ℕ) = j.val) (h2 : (i 2 : ℕ) = r.val) :
    k0_pay8 (F := Ideal) (iblk m c 0 t) (iblk m c 1 t) (View.ld (iblk m c 2 t) r0_4) (ix3 z j r)
      = ref_kct (m ((c : Thread nD τ).loc main_arg0)) (m ((c : Thread nD τ).loc main_arg1)) (m ((c : Thread nD τ).loc main_arg2)) i := by
  pointwise [k0_pay8, k0_pay7, ref_kct, r0_4]
  refine core _ _ _ _ _ _ r _ _ _ (fun k => rows_at m c t r k _ _ ?_) (fun k => gain_at m c t k) (fun k => ?_)
  · exact h2
  · refine (weights_at m c t k _).trans (wcat_kc _ k _ _ j.val j.isLt ?_ ?_)
    · show _ = _
      simp
    · simp [h1]

/-- The result array `kct` after the run is the reference's. -/
theorem final_kct (c : Dev nD) : (dats m 0 c).arrAt 4 (cfgs 0).N
    = ref_kct (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine (congrArg _ (eq_ix3 y)).trans (point_kct m c t (y 0) (y 1) (y 2) _ ?_ ?_ ?_)
  all_goals blk_simp [idx t]
  all_goals (try omega)

/-- The reference's result `kc`. -/
def ref_kc (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x256 .f32 :=
  shapeCast _ (extractStridedSlice Cert.Reference4Ideal.S128x1x256 ![0, 0, 512] (proj X G W) Cert.Reference4Ideal.Gen.slices_S128x1x3096_S128x1x256_0_0_512) Cert.Reference4Ideal.Gen.shapeCasts_S128x1x256_S128x256

theorem point_kc (c : Dev nD) (t : Fin cfg0.N) (r : Fin 128) (j : Fin 256) (i : S128x256.Idx)
    (h0 : (i 0 : ℕ) = r.val) (h1 : (i 1 : ℕ) = j.val) :
    k0_pay7 (F := Ideal) (iblk m c 0 t) (iblk m c 1 t) (View.ld (iblk m c 2 t) r0_4) (ix2 r j)
      = ref_kc (m ((c : Thread nD τ).loc main_arg0)) (m ((c : Thread nD τ).loc main_arg1)) (m ((c : Thread nD τ).loc main_arg2)) i := by
  pointwise [k0_pay7, ref_kc, r0_4]
  refine core _ _ _ _ _ _ r _ _ _ (fun k => rows_at m c t r k _ _ ?_) (fun k => gain_at m c t k) (fun k => ?_)
  · exact h0
  · refine (weights_at m c t k _).trans (wcat_kc _ k _ _ j.val j.isLt ?_ ?_)
    · simp
    · simp [h1]

/-- The result array `kc` after the run is the reference's. -/
theorem final_kc (c : Dev nD) : (dats m 0 c).arrAt 5 (cfgs 0).N
    = ref_kc (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  refine (congrArg _ (eq_ix2 y)).trans (point_kc m c t (y 0) (y 1) _ ?_ ?_)
  all_goals blk_simp [idx t]
  all_goals (try omega)

/-- The reference's result `kst`. -/
def ref_kst (X : FVec Ideal Cert.Reference4Ideal.S128x1x1024 .f32) (G : FVec Ideal Cert.Reference4Ideal.S1024 .f32)
    (W : FVec Ideal Cert.Reference4Ideal.S1024x3096 .f32) : FVec Ideal Cert.Reference4Ideal.S1x256x128 .f32 :=
  transpose Cert.Reference4Ideal.S1x256x128 [1, 2, 0] (extractStridedSlice Cert.Reference4Ideal.S128x1x256 ![0, 0, 768] (proj X G W) Cert.Reference4Ideal.Gen.slices_S128x1x3096_S128x1x256_0_0_768) Cert.Reference4Ideal.Gen.transposes_S128x1x256_S1x256x128_1_2_0

theorem point_kst (c : Dev nD) (t : Fin cfg0.N) (z : Fin 1) (j : Fin 256) (r : Fin 128) (i : S1x256x128.Idx)
    (h0 : (i 0 : ℕ) = 0) (h1 : (i 1 : ℕ) = j.val) (h2 : (i 2 : ℕ) = r.val) :
    k0_pay11 (k0_pay10 (F := Ideal) (iblk m c 0 t) (iblk m c 1 t) (View.ld (iblk m c 2 t) r0_7)) (ix3 z j r)
      = ref_kst (m ((c : Thread nD τ).loc main_arg0)) (m ((c : Thread nD τ).loc main_arg1)) (m ((c : Thread nD τ).loc main_arg2)) i := by
  pointwise [k0_pay11, k0_pay10, k0_pay9, ref_kst, r0_7]
  refine core _ _ _ _ _ _ r _ _ _ (fun k => rows_at m c t r k _ _ ?_) (fun k => gain_at m c t k) (fun k => ?_)
  · exact h2
  · refine (weights_at m c t k _).trans (wcat_ks _ k _ _ j.val j.isLt ?_ ?_)
    · show _ = _
      simp
    · simp [h1]

/-- The result array `kst` after the run is the reference's. -/
theorem final_kst (c : Dev nD) : (dats m 0 c).arrAt 6 (cfgs 0).N
    = ref_kst (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  refine (congrArg _ (eq_ix3 y)).trans (point_kst m c t (y 0) (y 1) (y 2) _ ?_ ?_ ?_)
  all_goals blk_simp [idx t]
  all_goals (try omega)

/-- The reference's result `ks`. -/
def ref_ks (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x256 .f32 :=
  shapeCast _ (extractStridedSlice Cert.Reference4Ideal.S128x1x256 ![0, 0, 768] (proj X G W) Cert.Reference4Ideal.Gen.slices_S128x1x3096_S128x1x256_0_0_768) Cert.Reference4Ideal.Gen.shapeCasts_S128x1x256_S128x256

theorem point_ks (c : Dev nD) (t : Fin cfg0.N) (r : Fin 128) (j : Fin 256) (i : S128x256.Idx)
    (h0 : (i 0 : ℕ) = r.val) (h1 : (i 1 : ℕ) = j.val) :
    k0_pay9 (F := Ideal) (iblk m c 0 t) (iblk m c 1 t) (View.ld (iblk m c 2 t) r0_7) (ix2 r j)
      = ref_ks (m ((c : Thread nD τ).loc main_arg0)) (m ((c : Thread nD τ).loc main_arg1)) (m ((c : Thread nD τ).loc main_arg2)) i := by
  pointwise [k0_pay9, ref_ks, r0_7]
  refine core _ _ _ _ _ _ r _ _ _ (fun k => rows_at m c t r k _ _ ?_) (fun k => gain_at m c t k) (fun k => ?_)
  · exact h0
  · refine (weights_at m c t k _).trans (wcat_ks _ k _ _ j.val j.isLt ?_ ?_)
    · simp
    · simp [h1]

/-- The result array `ks` after the run is the reference's. -/
theorem final_ks (c : Dev nD) : (dats m 0 c).arrAt 7 (cfgs 0).N
    = ref_ks (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  refine (congrArg _ (eq_ix2 y)).trans (point_ks m c t (y 0) (y 1) _ ?_ ?_)
  all_goals blk_simp [idx t]
  all_goals (try omega)

/-- The reference's result `kwt`. -/
def ref_kwt (X : FVec Ideal Cert.Reference4Ideal.S128x1x1024 .f32) (G : FVec Ideal Cert.Reference4Ideal.S1024 .f32)
    (W : FVec Ideal Cert.Reference4Ideal.S1024x3096 .f32) : FVec Ideal Cert.Reference4Ideal.S1x256x128 .f32 :=
  transpose Cert.Reference4Ideal.S1x256x128 [1, 2, 0] (extractStridedSlice Cert.Reference4Ideal.S128x1x256 ![0, 0, 1024] (proj X G W) Cert.Reference4Ideal.Gen.slices_S128x1x3096_S128x1x256_0_0_1024) Cert.Reference4Ideal.Gen.transposes_S128x1x256_S1x256x128_1_2_0

theorem point_kwt (c : Dev nD) (t : Fin cfg0.N) (z : Fin 1) (j : Fin 256) (r : Fin 128) (i : S1x256x128.Idx)
    (h0 : (i 0 : ℕ) = 0) (h1 : (i 1 : ℕ) = j.val) (h2 : (i 2 : ℕ) = r.val) :
    k0_pay13 (F := Ideal) (k0_pay5 (iblk m c 0 t) (iblk m c 1 t)) (View.ld (iblk m c 2 t) r0_8) (ix3 z j r)
      = ref_kwt (m ((c : Thread nD τ).loc main_arg0)) (m ((c : Thread nD τ).loc main_arg1)) (m ((c : Thread nD τ).loc main_arg2)) i := by
  pointwise [k0_pay13, k0_pay12, ref_kwt, r0_8]
  refine core _ _ _ _ _ _ r _ _ _ (fun k => rows_at m c t r k _ _ ?_) (fun k => gain_at m c t k) (fun k => ?_)
  · exact h2
  · refine (weights_at m c t k _).trans (wcat_kw _ k _ _ j.val j.isLt ?_ ?_)
    · show _ = _
      simp
    · simp [h1]

/-- The result array `kwt` after the run is the reference's. -/
theorem final_kwt (c : Dev nD) : (dats m 0 c).arrAt 8 (cfgs 0).N
    = ref_kwt (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  rw [pay17]
  refine (congrArg _ (eq_ix3 y)).trans (point_kwt m c t (y 0) (y 1) (y 2) _ ?_ ?_ ?_)
  all_goals blk_simp [idx t]
  all_goals (try omega)

/-- The reference's result `kw`. -/
def ref_kw (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x256 .f32 :=
  shapeCast _ (extractStridedSlice Cert.Reference4Ideal.S128x1x256 ![0, 0, 1024] (proj X G W) Cert.Reference4Ideal.Gen.slices_S128x1x3096_S128x1x256_0_0_1024) Cert.Reference4Ideal.Gen.shapeCasts_S128x1x256_S128x256

theorem point_kw (c : Dev nD) (t : Fin cfg0.N) (r : Fin 128) (j : Fin 256) (i : S128x256.Idx)
    (h0 : (i 0 : ℕ) = r.val) (h1 : (i 1 : ℕ) = j.val) :
    k0_pay12 (F := Ideal) (k0_pay5 (iblk m c 0 t) (iblk m c 1 t)) (View.ld (iblk m c 2 t) r0_8) (ix2 r j)
      = ref_kw (m ((c : Thread nD τ).loc main_arg0)) (m ((c : Thread nD τ).loc main_arg1)) (m ((c : Thread nD τ).loc main_arg2)) i := by
  pointwise [k0_pay12, ref_kw, r0_8]
  refine core _ _ _ _ _ _ r _ _ _ (fun k => rows_at m c t r k _ _ ?_) (fun k => gain_at m c t k) (fun k => ?_)
  · exact h0
  · refine (weights_at m c t k _).trans (wcat_kw _ k _ _ j.val j.isLt ?_ ?_)
    · simp
    · simp [h1]

/-- The result array `kw` after the run is the reference's. -/
theorem final_kw (c : Dev nD) : (dats m 0 c).arrAt 9 (cfgs 0).N
    = ref_kw (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  rw [pay17]
  refine (congrArg _ (eq_ix2 y)).trans (point_kw m c t (y 0) (y 1) _ ?_ ?_)
  all_goals blk_simp [idx t]
  all_goals (try omega)

/-- The reference's result `za`. -/
def ref_za (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x512 .f32 :=
  shapeCast _ (extractStridedSlice Cert.Reference4Ideal.S128x1x512 ![0, 0, 1304] (proj X G W) Cert.Reference4Ideal.Gen.slices_S128x1x3096_S128x1x512_0_0_1304) Cert.Reference4Ideal.Gen.shapeCasts_S128x1x512_S128x512

theorem point_za (c : Dev nD) (t : Fin cfg0.N) (r : Fin 128) (j : Fin 512) (i : S128x512.Idx)
    (h0 : (i 0 : ℕ) = r.val) (h1 : (i 1 : ℕ) = j.val) :
    k0_pay14 (F := Ideal) (k0_pay5 (iblk m c 0 t) (iblk m c 1 t)) (View.ld (iblk m c 2 t) r0_9) (ix2 r j)
      = ref_za (m ((c : Thread nD τ).loc main_arg0)) (m ((c : Thread nD τ).loc main_arg1)) (m ((c : Thread nD τ).loc main_arg2)) i := by
  pointwise [k0_pay14, ref_za, r0_9]
  refine core _ _ _ _ _ _ r _ _ _ (fun k => rows_at m c t r k _ _ ?_) (fun k => gain_at m c t k) (fun k => ?_)
  · exact h0
  · refine (weights_at m c t k _).trans (wcat_za _ k _ _ j.val j.isLt ?_ ?_)
    · simp
    · simp [h1]

/-- The result array `za` after the run is the reference's. -/
theorem final_za (c : Dev nD) : (dats m 0 c).arrAt 10 (cfgs 0).N
    = ref_za (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; frame_out
  rw [pay17]
  refine (congrArg _ (eq_ix2 y)).trans (point_za m c t (y 0) (y 1) _ ?_ ?_)
  all_goals blk_simp [idx t]
  all_goals (try omega)

/-- The reference's result `pin`. -/
def ref_pin (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x256 .f32 :=
  shapeCast _ (extractStridedSlice Cert.Reference4Ideal.S128x1x256 ![0, 0, 1816] (proj X G W) Cert.Reference4Ideal.Gen.slices_S128x1x3096_S128x1x256_0_0_1816) Cert.Reference4Ideal.Gen.shapeCasts_S128x1x256_S128x256

theorem point_pin (c : Dev nD) (t : Fin cfg0.N) (r : Fin 128) (j : Fin 256) (i : S128x256.Idx)
    (h0 : (i 0 : ℕ) = r.val) (h1 : (i 1 : ℕ) = j.val) :
    k0_pay15 (F := Ideal) (k0_pay5 (iblk m c 0 t) (iblk m c 1 t)) (View.ld (iblk m c 2 t) r0_10) (ix2 r j)
      = ref_pin (m ((c : Thread nD τ).loc main_arg0)) (m ((c : Thread nD τ).loc main_arg1)) (m ((c : Thread nD τ).loc main_arg2)) i := by
  pointwise [k0_pay15, ref_pin, r0_10]
  refine core _ _ _ _ _ _ r _ _ _ (fun k => rows_at m c t r k _ _ ?_) (fun k => gain_at m c t k) (fun k => ?_)
  · exact h0
  · refine (weights_at m c t k _).trans (wcat_pin _ k _ _ j.val j.isLt ?_ ?_)
    · simp
    · simp [h1]

/-- The result array `pin` after the run is the reference's. -/
theorem final_pin (c : Dev nD) : (dats m 0 c).arrAt 11 (cfgs 0).N
    = ref_pin (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]; frame_out
  rw [pay17]
  refine (congrArg _ (eq_ix2 y)).trans (point_pin m c t (y 0) (y 1) _ ?_ ?_)
  all_goals blk_simp [idx t]
  all_goals (try omega)

/-- The reference's result `zb`. -/
def ref_zb (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x256 .f32 :=
  shapeCast _ (extractStridedSlice Cert.Reference4Ideal.S128x1x256 ![0, 0, 2072] (proj X G W) Cert.Reference4Ideal.Gen.slices_S128x1x3096_S128x1x256_0_0_2072) Cert.Reference4Ideal.Gen.shapeCasts_S128x1x256_S128x256

theorem point_zb (c : Dev nD) (t : Fin cfg0.N) (r : Fin 128) (j : Fin 256) (i : S128x256.Idx)
    (h0 : (i 0 : ℕ) = r.val) (h1 : (i 1 : ℕ) = j.val) :
    k0_pay16 (F := Ideal) (k0_pay5 (iblk m c 0 t) (iblk m c 1 t)) (View.ld (iblk m c 2 t) r0_11) (ix2 r j)
      = ref_zb (m ((c : Thread nD τ).loc main_arg0)) (m ((c : Thread nD τ).loc main_arg1)) (m ((c : Thread nD τ).loc main_arg2)) i := by
  pointwise [k0_pay16, ref_zb, r0_11]
  refine core _ _ _ _ _ _ r _ _ _ (fun k => rows_at m c t r k _ _ ?_) (fun k => gain_at m c t k) (fun k => ?_)
  · exact h0
  · refine (weights_at m c t k _).trans (wcat_zb _ k _ _ j.val j.isLt ?_ ?_)
    · simp
    · simp [h1]

/-- The result array `zb` after the run is the reference's. -/
theorem final_zb (c : Dev nD) : (dats m 0 c).arrAt 12 (cfgs 0).N
    = ref_zb (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  rw [pay17]
  refine (congrArg _ (eq_ix2 y)).trans (point_zb m c t (y 0) (y 1) _ ?_ ?_)
  all_goals blk_simp [idx t]
  all_goals (try omega)

/-- The reference's result `u`. -/
def ref_u (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x256 .f32 :=
  shapeCast _ (extractStridedSlice Cert.Reference4Ideal.S128x1x256 ![0, 0, 2328] (proj X G W) Cert.Reference4Ideal.Gen.slices_S128x1x3096_S128x1x256_0_0_2328) Cert.Reference4Ideal.Gen.shapeCasts_S128x1x256_S128x256

theorem point_u (c : Dev nD) (t : Fin cfg0.N) (r : Fin 128) (j : Fin 256) (i : S128x256.Idx)
    (h0 : (i 0 : ℕ) = r.val) (h1 : (i 1 : ℕ) = j.val) :
    k0_pay1 (F := Ideal) (k0_pay5 (iblk m c 0 t) (iblk m c 1 t)) (View.ld (iblk m c 2 t) r0_12) (ix2 r j)
      = ref_u (m ((c : Thread nD τ).loc main_arg0)) (m ((c : Thread nD τ).loc main_arg1)) (m ((c : Thread nD τ).loc main_arg2)) i := by
  pointwise [k0_pay1, ref_u, r0_12]
  refine core _ _ _ _ _ _ r _ _ _ (fun k => rows_at m c t r k _ _ ?_) (fun k => gain_at m c t k) (fun k => ?_)
  · exact h0
  · refine (weights_at m c t k _).trans (wcat_u _ k _ _ j.val j.isLt ?_ ?_)
    · simp
    · simp [h1]

/-- The result array `u` after the run is the reference's. -/
theorem final_u (c : Dev nD) : (dats m 0 c).arrAt 13 (cfgs 0).N
    = ref_u (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]; frame_out
  rw [pay17]
  refine (congrArg _ (eq_ix2 y)).trans (point_u m c t (y 0) (y 1) _ ?_ ?_)
  all_goals blk_simp [idx t]
  all_goals (try omega)

/-- The reference's result `v`. -/
def ref_v (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x256 .f32 :=
  shapeCast _ (extractStridedSlice Cert.Reference4Ideal.S128x1x256 ![0, 0, 2584] (proj X G W) Cert.Reference4Ideal.Gen.slices_S128x1x3096_S128x1x256_0_0_2584) Cert.Reference4Ideal.Gen.shapeCasts_S128x1x256_S128x256

theorem point_v (c : Dev nD) (t : Fin cfg0.N) (r : Fin 128) (j : Fin 256) (i : S128x256.Idx)
    (h0 : (i 0 : ℕ) = r.val) (h1 : (i 1 : ℕ) = j.val) :
    k0_pay2 (F := Ideal) (k0_pay5 (iblk m c 0 t) (iblk m c 1 t)) (View.ld (iblk m c 2 t) r0_13) (ix2 r j)
      = ref_v (m ((c : Thread nD τ).loc main_arg0)) (m ((c : Thread nD τ).loc main_arg1)) (m ((c : Thread nD τ).loc main_arg2)) i := by
  pointwise [k0_pay2, ref_v, r0_13]
  refine core _ _ _ _ _ _ r _ _ _ (fun k => rows_at m c t r k _ _ ?_) (fun k => gain_at m c t k) (fun k => ?_)
  · exact h0
  · refine (weights_at m c t k _).trans (wcat_v _ k _ _ j.val j.isLt ?_ ?_)
    · simp
    · simp [h1]

/-- The result array `v` after the run is the reference's. -/
theorem final_v (c : Dev nD) : (dats m 0 c).arrAt 14 (cfgs 0).N
    = ref_v (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]; frame_out
  rw [pay17]
  refine (congrArg _ (eq_ix2 y)).trans (point_v m c t (y 0) (y 1) _ ?_ ?_)
  all_goals blk_simp [idx t]
  all_goals (try omega)

/-- The reference's result `zc`. -/
def ref_zc (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x256 .f32 :=
  shapeCast _ (extractStridedSlice Cert.Reference4Ideal.S128x1x256 ![0, 0, 2840] (proj X G W) Cert.Reference4Ideal.Gen.slices_S128x1x3096_S128x1x256_0_0_2840) Cert.Reference4Ideal.Gen.shapeCasts_S128x1x256_S128x256

theorem point_zc (c : Dev nD) (t : Fin cfg0.N) (r : Fin 128) (j : Fin 256) (i : S128x256.Idx)
    (h0 : (i 0 : ℕ) = r.val) (h1 : (i 1 : ℕ) = j.val) :
    k0_pay3 (F := Ideal) (k0_pay5 (iblk m c 0 t) (iblk m c 1 t)) (View.ld (iblk m c 2 t) r0_14) (ix2 r j)
      = ref_zc (m ((c : Thread nD τ).loc main_arg0)) (m ((c : Thread nD τ).loc main_arg1)) (m ((c : Thread nD τ).loc main_arg2)) i := by
  pointwise [k0_pay3, ref_zc, r0_14]
  refine core _ _ _ _ _ _ r _ _ _ (fun k => rows_at m c t r k _ _ ?_) (fun k => gain_at m c t k) (fun k => ?_)
  · exact h0
  · refine (weights_at m c t k _).trans (wcat_zc _ k _ _ j.val j.isLt ?_ ?_)
    · simp
    · simp [h1]

/-- The result array `zc` after the run is the reference's. -/
theorem final_zc (c : Dev nD) : (dats m 0 c).arrAt 15 (cfgs 0).N
    = ref_zc (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]; frame_out
  rw [pay17]
  refine (congrArg _ (eq_ix2 y)).trans (point_zc m c t (y 0) (y 1) _ ?_ ?_)
  all_goals blk_simp [idx t]
  all_goals (try omega)

/-- The reference's result `gl`. -/
def ref_gl (X : FVec Ideal Cert.Reference4Ideal.S128x1x1024 .f32) (G : FVec Ideal Cert.Reference4Ideal.S1024 .f32)
    (W : FVec Ideal Cert.Reference4Ideal.S1024x3096 .f32) : FVec Ideal Cert.Reference4Ideal.S128x128 .f32 :=
  shapeCast _ (pad Cert.Reference4Ideal.S128x1x128 ![0, 0, 0] ![0, 0, 104] ![0, 0, 0] (extractStridedSlice Cert.Reference4Ideal.S128x1x24 ![0, 0, 1280] (proj X G W) Cert.Reference4Ideal.Gen.slices_S128x1x3096_S128x1x24_0_0_1280) (sitofp .f32 (constantI Cert.Reference4Ideal.S_ 32 0#32)) Cert.Reference4Ideal.Gen.pads_S128x1x24_S128x1x128_000_000_01040 Cert.Reference4Ideal.Gen.h_S_) Cert.Reference4Ideal.Gen.shapeCasts_S128x1x128_S128x128

theorem point_gl (c : Dev nD) (t : Fin cfg0.N) (r : Fin 128) (j : Fin 128) (i : S128x128.Idx)
    (h0 : (i 0 : ℕ) = r.val) (h1 : (i 1 : ℕ) = j.val) :
    k0_pay4 (F := Ideal) (k0_pay5 (iblk m c 0 t) (iblk m c 1 t)) (View.ld (iblk m c 2 t) r0_15) (ix2 r j)
      = ref_gl (m ((c : Thread nD τ).loc main_arg0)) (m ((c : Thread nD τ).loc main_arg1)) (m ((c : Thread nD τ).loc main_arg2)) i := by
  pointwise [k0_pay4, ref_gl, r0_15]
  by_cases hj : j.val < 24
  · have hi : (i 1 : ℕ) < 24 := by omega
    rw [dif_pos hi]
    refine core _ _ _ _ _ _ r _ _ _ (fun k => rows_at m c t r k _ _ ?_) (fun k => gain_at m c t k) (fun k => ?_)
    · exact h0
    · refine (weights_at m c t k _).trans (wcat_gl _ k _ _ j.val hj ?_ ?_)
      · simp
      · simp [h1]
  · have hi : ¬ (i 1 : ℕ) < 24 := by omega
    rw [dif_neg hi]
    refine (Finset.sum_eq_zero fun k _ => ?_).trans padding_zero.symm
    refine (congrArg _ ((weights_at m c t k _).trans (wcat_pad _ k _ ?_))).trans (mul_zero _)
    simp
    omega

/-- The result array `gl` after the run is the reference's. -/
theorem final_gl (c : Dev nD) : (dats m 0 c).arrAt 16 (cfgs 0).N
    = ref_gl (m ((c : Thread nD τ).loc main_arg0)) (m ((c : Thread nD τ).loc main_arg1)) (m ((c : Thread nD τ).loc main_arg2)) := by
  refine (dats m 0 c).arrAt_eq_of_covers 16 _ (by decide +kernel) fun t _ y => ?_
  blk_simp
  rw [after0_16]; frame_out
  rw [pay17]
  refine (congrArg _ (eq_ix2 y)).trans (point_gl m c t (y 0) (y 1) _ ?_ ?_)
  all_goals blk_simp [idx t]
  all_goals (try omega)

end Cert.Kernel4Ideal.Proj

end
-- ==== Proof.Win.lean ====
/- The update of a window of keys: every block's entries as the reference's. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Win

open Cert.Kernel6Ideal Cert.Kernel6Ideal.Gen

theorem same_word : ∀ p q : Fin 128, IntOp.cmpi .eq (BitVec.ofNat 32 p.val) (BitVec.ofNat 32 q.val) = if p = q then 1#1 else 0#1 := by decide +kernel

theorem last_word : ∀ l : Fin 512, IntOp.cmpi .eq (BitVec.ofNat 32 l.val) 511#32 = if l.val = 511 then 1#1 else 0#1 := by decide +kernel

/-- A row kept on the diagonal alone sums to its entry. -/
theorem diagonal (f : Fin 128 → EReal) (p : Fin 128) : ∑ q : Fin 128, Scalar.select (IntOp.cmpi .eq (BitVec.ofNat 32 p.val) (BitVec.ofNat 32 q.val)) (f q) 0 = f p := by
  rw [Finset.sum_eq_single p]
  · rw [same_word, if_pos rfl]
    rfl
  · intro q _ hq
    rw [same_word, if_neg (fun h => hq h.symm)]
    rfl
  · intro h
    exact absurd (Finset.mem_univ p) h

/-- An entry of a block's row `k` after the update: the new keys in the last column, the later column elsewhere. -/
def moved (x0 : FVec Ideal S1x8x256x512 .f32) (x1 : FVec Ideal S1x8x1x256 .f32) (k : Fin 8) (r : Fin 256) (l : Fin 512) : EReal :=
  if h : l.val = 511 then x1 (ix4 0 k 0 r) else x0 (ix4 0 k r ⟨l.val + 1, by omega⟩)

theorem choose (x0 : FVec Ideal S1x8x256x512 .f32) (x1 : FVec Ideal S1x8x1x256 .f32) (k : Fin 8) (r : Fin 256) (l : Fin 512) :
    Scalar.select (IntOp.cmpi .eq (BitVec.ofNat 32 l.val) 511#32)
      (if h : r.val < 128 then ∑ x : Fin 128, Scalar.select (IntOp.cmpi .eq (BitVec.ofNat 32 r.val) (BitVec.ofNat 32 x.val)) (x1 (ix4 0 k 0 ⟨x.val, by omega⟩)) 0
      else ∑ x : Fin 128, Scalar.select (IntOp.cmpi .eq (BitVec.ofNat 32 (r.val - 128)) (BitVec.ofNat 32 x.val)) (x1 (ix4 0 k 0 ⟨128 + x.val, by omega⟩)) 0)
      (x0 (ix4 0 k r ⟨(l.val + 512 - 511) % 512, by omega⟩)) = moved x0 x1 k r l := by
  unfold moved
  rw [last_word]
  by_cases hl : l.val = 511
  · rw [if_pos hl, dif_pos hl]
    show (if h : r.val < 128 then _ else _) = _
    by_cases hr : r.val < 128
    · rw [dif_pos hr]
      exact diagonal (fun x => x1 (ix4 0 k 0 ⟨x.val, by omega⟩)) ⟨r.val, hr⟩
    · rw [dif_neg hr]
      refine (diagonal (fun x => x1 (ix4 0 k 0 ⟨128 + x.val, by omega⟩)) ⟨r.val - 128, by omega⟩).trans (congrArg x1 ?_)
      congr 1
      exact Fin.ext (by simp only; omega)
  · rw [if_neg hl, dif_neg hl]
    show x0 _ = _
    refine congrArg x0 ?_
    congr 1
    exact Fin.ext (by simp only; omega)

theorem row0 (x0 : FVec Ideal S1x8x256x512 .f32) (x1 : FVec Ideal S1x8x1x256 .f32) (r : Fin 256) (l : Fin 512) :
    k0_pay2 (View.ld (Val := Elt Ideal) (e' := .f32) x1 r0_0) (View.ld (Val := Elt Ideal) (e' := .f32) x0 r0_1) (ix4 0 0 r l) = moved x0 x1 0 r l := by
  pointwise [k0_pay2]
  exact choose x0 x1 0 r l

theorem row1 (x0 : FVec Ideal S1x8x256x512 .f32) (x1 : FVec Ideal S1x8x1x256 .f32) (r : Fin 256) (l : Fin 512) :
    k0_pay3 (k0_pay22 (F := Ideal) x0 x1) (View.ld (Val := Elt Ideal) (e' := .f32) x1 r0_2) (View.ld (Val := Elt Ideal) (e' := .f32) x0 r0_3) (ix4 0 0 r l) = moved x0 x1 1 r l := by
  pointwise [k0_pay3, k0_pay22]
  exact choose x0 x1 1 r l

theorem row2 (x0 : FVec Ideal S1x8x256x512 .f32) (x1 : FVec Ideal S1x8x1x256 .f32) (r : Fin 256) (l : Fin 512) :
    k0_pay7 (k0_pay22 (F := Ideal) x0 x1) (k0_pay4 (View.ld (Val := Elt Ideal) (e' := .f32) x1 r0_4)) (k0_pay5 (View.ld (Val := Elt Ideal) (e' := .f32) x1 r0_4)) k0_pay6 (Scalar.ofBits .f32 0x00000000#32) (View.ld (Val := Elt Ideal) (e' := .f32) x0 r0_5) (ix4 0 0 r l) = moved x0 x1 2 r l := by
  pointwise [k0_pay7, k0_pay4, k0_pay5, k0_pay6, k0_pay22]
  exact choose x0 x1 2 r l

theorem row3 (x0 : FVec Ideal S1x8x256x512 .f32) (x1 : FVec Ideal S1x8x1x256 .f32) (r : Fin 256) (l : Fin 512) :
    k0_pay10 (k0_pay22 (F := Ideal) x0 x1) (k0_pay8 (View.ld (Val := Elt Ideal) (e' := .f32) x1 r0_6)) (k0_pay9 (View.ld (Val := Elt Ideal) (e' := .f32) x1 r0_6)) (View.ld (Val := Elt Ideal) (e' := .f32) x0 r0_7) (ix4 0 0 r l) = moved x0 x1 3 r l := by
  pointwise [k0_pay10, k0_pay8, k0_pay9, k0_pay22]
  exact choose x0 x1 3 r l

theorem row4 (x0 : FVec Ideal S1x8x256x512 .f32) (x1 : FVec Ideal S1x8x1x256 .f32) (r : Fin 256) (l : Fin 512) :
    k0_pay15 (k0_pay22 (F := Ideal) x0 x1) (k0_pay12 (View.ld (Val := Elt Ideal) (e' := .f32) x1 r0_8)) k0_pay13 (Scalar.ofBits .f32 0x00000000#32) (k0_pay14 (View.ld (Val := Elt Ideal) (e' := .f32) x1 r0_8)) (View.ld (Val := Elt Ideal) (e' := .f32) x0 r0_9) (ix4 0 0 r l) = moved x0 x1 4 r l := by
  pointwise [k0_pay15, k0_pay11, k0_pay12, k0_pay13, k0_pay14, k0_pay22]
  exact choose x0 x1 4 r l

theorem row5 (x0 : FVec Ideal S1x8x256x512 .f32) (x1 : FVec Ideal S1x8x1x256 .f32) (r : Fin 256) (l : Fin 512) :
    k0_pay17 (k0_pay22 (F := Ideal) x0 x1) (k0_pay16 (View.ld (Val := Elt Ideal) (e' := .f32) x1 r0_10)) (View.ld (Val := Elt Ideal) (e' := .f32) x0 r0_11) (ix4 0 0 r l) = moved x0 x1 5 r l := by
  pointwise [k0_pay17, k0_pay16, k0_pay22]
  exact choose x0 x1 5 r l

theorem row6 (x0 : FVec Ideal S1x8x256x512 .f32) (x1 : FVec Ideal S1x8x1x256 .f32) (r : Fin 256) (l : Fin 512) :
    k0_pay20 (k0_pay22 (F := Ideal) x0 x1) (k0_pay18 (View.ld (Val := Elt Ideal) (e' := .f32) x1 r0_12)) (k0_pay19 (View.ld (Val := Elt Ideal) (e' := .f32) x0 r0_13)) (ix4 0 0 r l) = moved x0 x1 6 r l := by
  pointwise [k0_pay20, k0_pay18, k0_pay19, k0_pay22]
  exact choose x0 x1 6 r l

theorem row7 (x0 : FVec Ideal S1x8x256x512 .f32) (x1 : FVec Ideal S1x8x1x256 .f32) (r : Fin 256) (l : Fin 512) :
    k0_pay1 (k0_pay21 (k0_pay22 (F := Ideal) x0 x1) (View.ld (Val := Elt Ideal) (e' := .f32) x1 r0_14) (View.ld (Val := Elt Ideal) (e' := .f32) x0 r0_15)) (ix4 0 0 r l) = moved x0 x1 7 r l := by
  pointwise [k0_pay1, k0_pay21, k0_pay22]
  exact choose x0 x1 7 r l

/-- What the body leaves in a block, entry by entry. -/
theorem block (x0 : FVec Ideal S1x8x256x512 .f32) (x1 : FVec Ideal S1x8x1x256 .f32) (y : S1x8x256x512.Idx) :
    out0_2 (F := Ideal) x0 x1 y = moved x0 x1 (y 1) (y 2) (y 3) := by
  unfold out0_2
  refine View.canon_apply_of_pieces (Val := Elt Ideal) (e := .f32) (fun y : S1x8x256x512.Idx => moved x0 x1 (y 1) (y 2) (y 3)) _ ?_ y (cover0_2 _ _ _ _ _ _ _ _ y)
  intro p hp x
  simp only [List.mem_cons, List.not_mem_nil, or_false] at hp
  rcases hp with rfl | rfl | rfl | rfl | rfl | rfl | rfl | rfl
  · have e : x = ix4 0 0 (x 2) (x 3) := by
      refine (eq_ix4 x).trans ?_
      congr 1 <;> exact Subsingleton.elim _ _
    refine ((congrArg _ e).trans (row7 x0 x1 (x 2) (x 3))).trans ?_
    refine congr (congr (congrArg (moved x0 x1) ?_) ?_) ?_ <;> apply Fin.ext
    · have h1 : (x 1).val < 1 := (x 1).isLt
      show 7 = 7 + 1 * (x 1).val
      omega
    · show (x 2).val = 0 + 1 * (x 2).val
      omega
    · show (x 3).val = 0 + 1 * (x 3).val
      omega
  · have e : x = ix4 0 0 (x 2) (x 3) := by
      refine (eq_ix4 x).trans ?_
      congr 1 <;> exact Subsingleton.elim _ _
    refine ((congrArg _ e).trans (row6 x0 x1 (x 2) (x 3))).trans ?_
    refine congr (congr (congrArg (moved x0 x1) ?_) ?_) ?_ <;> apply Fin.ext
    · have h1 : (x 1).val < 1 := (x 1).isLt
      show 6 = 6 + 1 * (x 1).val
      omega
    · show (x 2).val = 0 + 1 * (x 2).val
      omega
    · show (x 3).val = 0 + 1 * (x 3).val
      omega
  · have e : x = ix4 0 0 (x 2) (x 3) := by
      refine (eq_ix4 x).trans ?_
      congr 1 <;> exact Subsingleton.elim _ _
    refine ((congrArg _ e).trans (row5 x0 x1 (x 2) (x 3))).trans ?_
    refine congr (congr (congrArg (moved x0 x1) ?_) ?_) ?_ <;> apply Fin.ext
    · have h1 : (x 1).val < 1 := (x 1).isLt
      show 5 = 5 + 1 * (x 1).val
      omega
    · show (x 2).val = 0 + 1 * (x 2).val
      omega
    · show (x 3).val = 0 + 1 * (x 3).val
      omega
  · have e : x = ix4 0 0 (x 2) (x 3) := by
      refine (eq_ix4 x).trans ?_
      congr 1 <;> exact Subsingleton.elim _ _
    refine ((congrArg _ e).trans (row4 x0 x1 (x 2) (x 3))).trans ?_
    refine congr (congr (congrArg (moved x0 x1) ?_) ?_) ?_ <;> apply Fin.ext
    · have h1 : (x 1).val < 1 := (x 1).isLt
      show 4 = 4 + 1 * (x 1).val
      omega
    · show (x 2).val = 0 + 1 * (x 2).val
      omega
    · show (x 3).val = 0 + 1 * (x 3).val
      omega
  · have e : x = ix4 0 0 (x 2) (x 3) := by
      refine (eq_ix4 x).trans ?_
      congr 1 <;> exact Subsingleton.elim _ _
    refine ((congrArg _ e).trans (row3 x0 x1 (x 2) (x 3))).trans ?_
    refine congr (congr (congrArg (moved x0 x1) ?_) ?_) ?_ <;> apply Fin.ext
    · have h1 : (x 1).val < 1 := (x 1).isLt
      show 3 = 3 + 1 * (x 1).val
      omega
    · show (x 2).val = 0 + 1 * (x 2).val
      omega
    · show (x 3).val = 0 + 1 * (x 3).val
      omega
  · have e : x = ix4 0 0 (x 2) (x 3) := by
      refine (eq_ix4 x).trans ?_
      congr 1 <;> exact Subsingleton.elim _ _
    refine ((congrArg _ e).trans (row2 x0 x1 (x 2) (x 3))).trans ?_
    refine congr (congr (congrArg (moved x0 x1) ?_) ?_) ?_ <;> apply Fin.ext
    · have h1 : (x 1).val < 1 := (x 1).isLt
      show 2 = 2 + 1 * (x 1).val
      omega
    · show (x 2).val = 0 + 1 * (x 2).val
      omega
    · show (x 3).val = 0 + 1 * (x 3).val
      omega
  · have e : x = ix4 0 0 (x 2) (x 3) := by
      refine (eq_ix4 x).trans ?_
      congr 1 <;> exact Subsingleton.elim _ _
    refine ((congrArg _ e).trans (row1 x0 x1 (x 2) (x 3))).trans ?_
    refine congr (congr (congrArg (moved x0 x1) ?_) ?_) ?_ <;> apply Fin.ext
    · have h1 : (x 1).val < 1 := (x 1).isLt
      show 1 = 1 + 1 * (x 1).val
      omega
    · show (x 2).val = 0 + 1 * (x 2).val
      omega
    · show (x 3).val = 0 + 1 * (x 3).val
      omega
  · have e : x = ix4 0 0 (x 2) (x 3) := by
      refine (eq_ix4 x).trans ?_
      congr 1 <;> exact Subsingleton.elim _ _
    refine ((congrArg _ e).trans (row0 x0 x1 (x 2) (x 3))).trans ?_
    refine congr (congr (congrArg (moved x0 x1) ?_) ?_) ?_ <;> apply Fin.ext
    · have h1 : (x 1).val < 1 := (x 1).isLt
      show 0 = 0 + 1 * (x 1).val
      omega
    · show (x 2).val = 0 + 1 * (x 2).val
      omega
    · show (x 3).val = 0 + 1 * (x 3).val
      omega

variable (m : (ℓ : Loc nD τ sig) → Buf (Elt Ideal) ℓ) (c : Dev nD)

abbrev in0 : FVec Ideal Cert.Reference6Ideal.S2x128x512x2x2x64 .f32 := m ((c : Thread nD τ).loc main_arg0)
abbrev in1 : FVec Ideal Cert.Reference6Ideal.S2x128x1x256 .f32 := m ((c : Thread nD τ).loc main_arg1)

/-- The window the reference leaves. -/
def ref : FVec Ideal Cert.Reference6Ideal.S2x128x256x512 .f32 :=
  shapeCast _ (transpose Cert.Reference6Ideal.S2x128x2x2x64x512 [0, 1, 3, 4, 5, 2] (extractStridedSlice Cert.Reference6Ideal.S2x128x512x2x2x64 ![0, 0, 1, 0, 0, 0]
    (concatenate Cert.Reference6Ideal.S2x128x513x2x2x64 2 [⟨Cert.Reference6Ideal.S2x128x512x2x2x64, (in0 m c)⟩,
      ⟨Cert.Reference6Ideal.S2x128x1x2x2x64, (shapeCast _ (in1 m c) Cert.Reference6Ideal.Gen.shapeCasts_S2x128x1x256_S2x128x1x2x2x64)⟩]
      Cert.Reference6Ideal.Gen.concatenates_S2x128x512x2x2x64_S2x128x1x2x2x64_S2x128x513x2x2x64_d2) Cert.Reference6Ideal.Gen.slices_S2x128x513x2x2x64_S2x128x512x2x2x64_0_0_1_0_0_0)
    Cert.Reference6Ideal.Gen.transposes_S2x128x512x2x2x64_S2x128x2x2x64x512_0_1_3_4_5_2) Cert.Reference6Ideal.Gen.shapeCasts_S2x128x2x2x64x512_S2x128x256x512

theorem entry0 : V m c main_v1 = shapeCast S2x128x256x512 (transpose S2x128x2x2x64x512 [0, 1, 3, 4, 5, 2] (in0 m c) transposes_S2x128x512x2x2x64_S2x128x2x2x64x512_0_1_3_4_5_2) shapeCasts_S2x128x2x2x64x512_S2x128x256x512 := by
  entry_read
  rfl

theorem entry1 : V m c main_arg1 = in1 m c := V_main_arg1 m c

theorem idx : ∀ t : Fin cfg0.N, win0_0.index t = ![t.val / 16, t.val % 16, 0, 0]
    ∧ win0_1.index t = ![t.val / 16, t.val % 16, 0, 0]
    ∧ win0_2.index t = ![t.val / 16, t.val % 16, 0, 0]
    ∧ t.val < 32 :=
  (by decide +kernel : ∀ t : Fin grid0.N, _)

theorem rows_entry (t : Fin cfg0.N) (k : Fin 8) (r : Fin 256) (l : Fin 512) (p : Fin 2) (q : Fin 128) (hp : p.val = t.val / 16) (hq : q.val = t.val % 16 * 8 + k.val) :
    (show FVec Ideal S1x8x256x512 .f32 from iblk m c 0 t) (ix4 0 k r l) = in0 m c (ix6 p q l ⟨r.val / 128, by omega⟩ ⟨r.val / 64 % 2, by omega⟩ ⟨r.val % 64, by omega⟩) := by
  have e : (show FVec Ideal S1x8x256x512 .f32 from iblk m c 0 t) (ix4 0 k r l) = (V m c main_v1) (ix4 p q r l) := by
    blk_simp [iblk, idx t]
    congr 1
    blk_ext [idx t]
    all_goals (try omega)
  rw [e, entry0]
  pointwise

theorem new_entry (t : Fin cfg0.N) (k : Fin 8) (r : Fin 256) (p : Fin 2) (q : Fin 128) (hp : p.val = t.val / 16) (hq : q.val = t.val % 16 * 8 + k.val) :
    (show FVec Ideal S1x8x1x256 .f32 from iblk m c 1 t) (ix4 0 k 0 r) = in1 m c (ix4 p q 0 r) := by
  have e : (show FVec Ideal S1x8x1x256 .f32 from iblk m c 1 t) (ix4 0 k 0 r) = (V m c main_arg1) (ix4 p q 0 r) := by
    blk_simp [iblk, idx t]
    congr 1
    blk_ext [idx t]
    all_goals (try omega)
  rw [e, entry1]

theorem ref_apply (p : Fin 2) (q : Fin 128) (r : Fin 256) (l : Fin 512) : ref m c (ix4 p q r l)
    = if h : 1 + l.val < 512 then in0 m c (ix6 p q ⟨1 + l.val, h⟩ ⟨r.val / 128, by omega⟩ ⟨r.val / 64 % 2, by omega⟩ ⟨r.val % 64, by omega⟩) else in1 m c (ix4 p q 0 r) := by
  pointwise [ref]

theorem point_of (x0 : FVec Ideal S1x8x256x512 .f32) (x1 : FVec Ideal S1x8x1x256 .f32) (k : Fin 8) (r : Fin 256) (l : Fin 512) (p : Fin 2) (q : Fin 128)
    (h0 : ∀ l : Fin 512, x0 (ix4 0 k r l) = in0 m c (ix6 p q l ⟨r.val / 128, by omega⟩ ⟨r.val / 64 % 2, by omega⟩ ⟨r.val % 64, by omega⟩))
    (h1 : x1 (ix4 0 k 0 r) = in1 m c (ix4 p q 0 r)) : moved x0 x1 k r l = ref m c (ix4 p q r l) := by
  rw [ref_apply]
  unfold moved
  by_cases hl : l.val = 511
  · rw [dif_pos hl, dif_neg (by omega), h1]
  · rw [dif_neg hl, dif_pos (by omega), h0]
    congr 2
    exact Fin.ext (by simp only; omega)

theorem point (t : Fin cfg0.N) (k : Fin 8) (r : Fin 256) (l : Fin 512) (i : S2x128x256x512.Idx)
    (h0 : (i 0 : ℕ) = t.val / 16) (h1 : (i 1 : ℕ) = t.val % 16 * 8 + k.val) (h2 : (i 2 : ℕ) = r.val) (h3 : (i 3 : ℕ) = l.val) :
    moved (iblk m c 0 t) (iblk m c 1 t) k r l = ref m c i := by
  obtain ⟨p, q, e, hp, hq⟩ : ∃ (p : Fin 2) (q : Fin 128), i = ix4 p q r l ∧ p.val = t.val / 16 ∧ q.val = t.val % 16 * 8 + k.val := by
    refine ⟨i 0, i 1, ?_, h0, h1⟩
    refine (eq_ix4 i).trans ?_
    congr 1
    · exact Fin.ext h2
    · exact Fin.ext h3
  rw [e]
  exact point_of m c _ _ k r l p q (fun l => rows_entry m c t k r l p q hp hq) (new_entry m c t k r p q hp hq)

set_option maxHeartbeats 4000000 in
/-- The window after the run is the reference's. -/
theorem final : (dats m 0 c).arrAt 2 cfg0.N = ref m c := by
  refine (dats m 0 c).arrAt_eq_of_covers 2 _ (by decide +kernel) fun t _ y => ?_
  blk_simp
  rw [after0_2]
  refine (block _ _ y).trans (point m c t (y 1) (y 2) (y 3) _ ?_ ?_ ?_ ?_)
  all_goals blk_simp [idx t]
  all_goals (try omega)

end Cert.Kernel6Ideal.Win
end
-- ==== Proof.Comp.lean ====
/- The compression of one layer's keys and values over the prompt: the result after the run is the reference's. -/
module

public import proofs.«01_k».proof.Proof.Gen.Kernel7Ideal.Value
public import proofs.«01_k».proof.Proof.Gen.Reference7Ideal.Run
public import proofs.«01_k».proof.Proof.MergePoint
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Kernel3Ideal.Merge (blocks block_sum over_64 silu_half)

namespace Cert.Reference7Ideal.Comp

open Cert.Reference7Ideal Cert.Reference7Ideal.Gen

/-- The rows of a block with their positions added, times the first weights. -/
def lin (X : FVec Ideal S4x4096x2x2x64 .f32) (P W : FVec Ideal S2x64x64 .f32) : FVec Ideal S4x64x64x2x2x64 .f32 :=
  transpose S4x64x64x2x2x64 [2, 3, 4, 0, 5, 1] (Host.dotGeneral dot_S2x64x64_S4x64x64x2x2x64_S2x64x4x64x64x2_1_5_2_0124_0_3 none W
    (addf (shapeCast _ X shapeCasts_S4x4096x2x2x64_S4x64x64x2x2x64) (broadcastInDim S4x64x64x2x2x64 ![0, 1, 2, 3, 4, 5] bcast_S1x1x64x2x1x64_S4x64x64x2x2x64_0_1_2_3_4_5
      (broadcastInDim S1x1x64x2x1x64 ![2, 3, 5] bcast_S64x2x64_S1x1x64x2x1x64_2_3_5 (transpose S64x2x64 [1, 0, 2] P transposes_S2x64x64_S64x2x64_1_0_2)))))
    transposes_S2x64x4x64x64x2_S4x64x64x2x2x64_2_3_4_0_5_1

/-- The gated rows. -/
def act (Z : FVec Ideal S4x64x64x2x2x64 .f32) : FVec Ideal S4x64x64x2x2x64 .f32 :=
  mulf Z (Host.divf (broadcastInDim S4x64x64x2x2x64 ![] bcast_S_S4x64x64x2x2x64 (constant S_ .f32 0x3F800000#32))
    (addf (broadcastInDim S4x64x64x2x2x64 ![] bcast_S_S4x64x64x2x2x64 (constant S_ .f32 0x3F800000#32)) (Host.exp (Host.negf Z))))

/-- The mean over a block. -/
def mean (Z : FVec Ideal S4x64x64x2x2x64 .f32) : FVec Ideal S4x64x2x2x64 .f32 :=
  Host.divf (Host.reduceAdd Z (constant S_ .f32 0x00000000#32) reducesTo_S4x64x64x2x2x64_S4x64x2x2x64_d2 h_S_) (broadcastInDim S4x64x2x2x64 ![] bcast_S_S4x64x2x2x64 (constant S_ .f32 0x42800000#32))

/-- The compressed blocks. -/
def res (X : FVec Ideal S4x4096x2x2x64 .f32) (P W1 W2 : FVec Ideal S2x64x64 .f32) : FVec Ideal S256x256 .f32 :=
  shapeCast _ (transpose S4x64x2x2x64 [2, 3, 0, 4, 1] (Host.dotGeneral dot_S2x64x64_S4x64x2x2x64_S2x64x4x64x2_1_4_2_013_0_2 none W2 (mean (act (lin X P W1))))
    transposes_S2x64x4x64x2_S4x64x2x2x64_2_3_0_4_1) shapeCasts_S4x64x2x2x64_S256x256

theorem lin_at (X : FVec Ideal S4x4096x2x2x64 .f32) (P W : FVec Ideal S2x64x64 .f32) (b : Fin 4) (n q : Fin 64) (r k : Fin 2) (e : Fin 64) :
    lin X P W (ix6 b n q r k e) = ∑ d : Fin 64, W (ix3 r d e) * (X (ix5 b ⟨n.val * 64 + q.val, by omega⟩ r k d) + P (ix3 r q d)) := by
  pointwise [lin]

theorem act_at (Z : FVec Ideal S4x64x64x2x2x64 .f32) (b : Fin 4) (n q : Fin 64) (r k : Fin 2) (e : Fin 64) :
    act Z (ix6 b n q r k e) = Z (ix6 b n q r k e) * Ideal.div 1 (1 + Ideal.exp (-Z (ix6 b n q r k e))) := by
  pointwise [act]

theorem mean_at (Z : FVec Ideal S4x64x64x2x2x64 .f32) (b : Fin 4) (n : Fin 64) (r k : Fin 2) (e : Fin 64) :
    mean Z (ix5 b n r k e) = Ideal.div (∑ q : Fin 64, Z (ix6 b n q r k e)) (Ideal.ofBits .f32 1115684864#32) := by
  pointwise [mean]
  have h : S4x64x64x2x2x64.Reduces [2] S4x64x2x2x64 := by decide
  rw [Ideal.hostReduceAdd_single _ h]
  refine congrArg (Ideal.div · _) ?_
  refine (zero_add _).trans (Finset.sum_congr rfl fun q _ => congrArg Z ?_)
  idx_ext

theorem res_at (X : FVec Ideal S4x4096x2x2x64 .f32) (P W1 W2 : FVec Ideal S2x64x64 .f32) (i : S256x256.Idx) (b : Fin 4) (n : Fin 64) (r k : Fin 2) (e : Fin 64)
    (h0 : (i 0 : ℕ) = b.val * 64 + n.val) (h1 : (i 1 : ℕ) = r.val * 128 + k.val * 64 + e.val) :
    res X P W1 W2 i = ∑ d : Fin 64, W2 (ix3 r d e) * mean (act (lin X P W1)) (ix5 b n r k d) := by
  have ei : i = ix2 ⟨b.val * 64 + n.val, by omega⟩ ⟨r.val * 128 + k.val * 64 + e.val, by omega⟩ := by idx_ext
  rw [ei]
  pointwise [res]

end Cert.Reference7Ideal.Comp

namespace Cert.Kernel7Ideal.Comp

open Cert.Kernel7Ideal Cert.Kernel7Ideal.Gen
open Cert.Reference7Ideal.Comp (lin act mean res lin_at act_at mean_at res_at)

/-- The weights as the call takes them: each block twice down the diagonal. -/
def w_bd (W : FVec Ideal S2x64x64 .f32) : FVec Ideal S256x256 .bf16 :=
  truncf .bf16 (concatenate S256x256 0 [⟨S64x256, concatenate S64x256 1 [⟨S64x64, shapeCast S64x64 (extractStridedSlice S1x64x64 ![0, 0, 0] W slices_S2x64x64_S1x64x64_0_0_0) shapeCasts_S1x64x64_S64x64⟩, ⟨S64x64, broadcastInDim S64x64 ![] bcast_S_S64x64 (constant S_ .f32 0x00000000#32)⟩, ⟨S64x64, broadcastInDim S64x64 ![] bcast_S_S64x64 (constant S_ .f32 0x00000000#32)⟩, ⟨S64x64, broadcastInDim S64x64 ![] bcast_S_S64x64 (constant S_ .f32 0x00000000#32)⟩] concatenates_S64x64_S64x64_S64x64_S64x64_S64x256_d1⟩,
    ⟨S64x256, concatenate S64x256 1 [⟨S64x64, broadcastInDim S64x64 ![] bcast_S_S64x64 (constant S_ .f32 0x00000000#32)⟩, ⟨S64x64, shapeCast S64x64 (extractStridedSlice S1x64x64 ![0, 0, 0] W slices_S2x64x64_S1x64x64_0_0_0) shapeCasts_S1x64x64_S64x64⟩, ⟨S64x64, broadcastInDim S64x64 ![] bcast_S_S64x64 (constant S_ .f32 0x00000000#32)⟩, ⟨S64x64, broadcastInDim S64x64 ![] bcast_S_S64x64 (constant S_ .f32 0x00000000#32)⟩] concatenates_S64x64_S64x64_S64x64_S64x64_S64x256_d1⟩,
    ⟨S64x256, concatenate S64x256 1 [⟨S64x64, broadcastInDim S64x64 ![] bcast_S_S64x64 (constant S_ .f32 0x00000000#32)⟩, ⟨S64x64, broadcastInDim S64x64 ![] bcast_S_S64x64 (constant S_ .f32 0x00000000#32)⟩, ⟨S64x64, shapeCast S64x64 (extractStridedSlice S1x64x64 ![1, 0, 0] W slices_S2x64x64_S1x64x64_1_0_0) shapeCasts_S1x64x64_S64x64⟩, ⟨S64x64, broadcastInDim S64x64 ![] bcast_S_S64x64 (constant S_ .f32 0x00000000#32)⟩] concatenates_S64x64_S64x64_S64x64_S64x64_S64x256_d1⟩,
    ⟨S64x256, concatenate S64x256 1 [⟨S64x64, broadcastInDim S64x64 ![] bcast_S_S64x64 (constant S_ .f32 0x00000000#32)⟩, ⟨S64x64, broadcastInDim S64x64 ![] bcast_S_S64x64 (constant S_ .f32 0x00000000#32)⟩, ⟨S64x64, broadcastInDim S64x64 ![] bcast_S_S64x64 (constant S_ .f32 0x00000000#32)⟩, ⟨S64x64, shapeCast S64x64 (extractStridedSlice S1x64x64 ![1, 0, 0] W slices_S2x64x64_S1x64x64_1_0_0) shapeCasts_S1x64x64_S64x64⟩] concatenates_S64x64_S64x64_S64x64_S64x64_S64x256_d1⟩] concatenates_S64x256_S64x256_S64x256_S64x256_S256x256_d0) bitsLt_bf16_f32

/-- The positions as the call takes them: feature-major, twice along the lanes. -/
def pe_t (P : FVec Ideal S2x64x64 .f32) : FVec Ideal S256x128 .f32 :=
  concatenate S256x128 1 [⟨S256x64, concatenate S256x64 0 [⟨S64x64, transpose S64x64 [1, 0] (shapeCast S64x64 (extractStridedSlice S1x64x64 ![0, 0, 0] P slices_S2x64x64_S1x64x64_0_0_0) shapeCasts_S1x64x64_S64x64) transposes_S64x64_S64x64_1_0⟩, ⟨S64x64, transpose S64x64 [1, 0] (shapeCast S64x64 (extractStridedSlice S1x64x64 ![0, 0, 0] P slices_S2x64x64_S1x64x64_0_0_0) shapeCasts_S1x64x64_S64x64) transposes_S64x64_S64x64_1_0⟩, ⟨S64x64, transpose S64x64 [1, 0] (shapeCast S64x64 (extractStridedSlice S1x64x64 ![1, 0, 0] P slices_S2x64x64_S1x64x64_1_0_0) shapeCasts_S1x64x64_S64x64) transposes_S64x64_S64x64_1_0⟩, ⟨S64x64, transpose S64x64 [1, 0] (shapeCast S64x64 (extractStridedSlice S1x64x64 ![1, 0, 0] P slices_S2x64x64_S1x64x64_1_0_0) shapeCasts_S1x64x64_S64x64) transposes_S64x64_S64x64_1_0⟩] concatenates_S64x64_S64x64_S64x64_S64x64_S256x64_d0⟩,
    ⟨S256x64, concatenate S256x64 0 [⟨S64x64, transpose S64x64 [1, 0] (shapeCast S64x64 (extractStridedSlice S1x64x64 ![0, 0, 0] P slices_S2x64x64_S1x64x64_0_0_0) shapeCasts_S1x64x64_S64x64) transposes_S64x64_S64x64_1_0⟩, ⟨S64x64, transpose S64x64 [1, 0] (shapeCast S64x64 (extractStridedSlice S1x64x64 ![0, 0, 0] P slices_S2x64x64_S1x64x64_0_0_0) shapeCasts_S1x64x64_S64x64) transposes_S64x64_S64x64_1_0⟩, ⟨S64x64, transpose S64x64 [1, 0] (shapeCast S64x64 (extractStridedSlice S1x64x64 ![1, 0, 0] P slices_S2x64x64_S1x64x64_1_0_0) shapeCasts_S1x64x64_S64x64) transposes_S64x64_S64x64_1_0⟩, ⟨S64x64, transpose S64x64 [1, 0] (shapeCast S64x64 (extractStridedSlice S1x64x64 ![1, 0, 0] P slices_S2x64x64_S1x64x64_1_0_0) shapeCasts_S1x64x64_S64x64) transposes_S64x64_S64x64_1_0⟩] concatenates_S64x64_S64x64_S64x64_S64x64_S256x64_d0⟩] concatenates_S256x64_S256x64_S256x128_d1

theorem w_bd_apply (W : FVec Ideal S2x64x64 .f32) (x l : Fin 256) : w_bd W (ix2 x l)
    = if x.val / 64 = l.val / 64 then W (ix3 ⟨l.val / 128, by omega⟩ ⟨x.val % 64, by omega⟩ ⟨l.val % 64, by omega⟩) else 0 := by
  pointwise [w_bd]
  refine (blocks (fun a b c => W (ix3 ⟨a.val / 2, by omega⟩ b c)) x.val l.val x.isLt l.isLt).trans ?_
  simp only [Nat.div_div_eq_div_mul, Nat.reduceMul]

theorem pe_t_apply (P : FVec Ideal S2x64x64 .f32) (z : Fin 256) (p : Fin 128) : pe_t P (ix2 z p) = P (ix3 ⟨z.val / 128, by omega⟩ ⟨p.val % 64, by omega⟩ ⟨z.val % 64, by omega⟩) := by
  pointwise [pe_t]
  split_ifs <;> (refine congrArg P ?_; idx_ext)

variable (m : (ℓ : Loc nD τ sig) → Buf (Elt Ideal) ℓ) (c : Dev nD)

abbrev in0 : FVec Ideal Cert.Reference7Ideal.S4x4096x2x2x64 .f32 := m ((c : Thread nD τ).loc main_arg0)
abbrev in1 : FVec Ideal Cert.Reference7Ideal.S2x64x64 .f32 := m ((c : Thread nD τ).loc main_arg1)
abbrev in2 : FVec Ideal Cert.Reference7Ideal.S2x64x64 .f32 := m ((c : Thread nD τ).loc main_arg2)
abbrev in3 : FVec Ideal Cert.Reference7Ideal.S2x64x64 .f32 := m ((c : Thread nD τ).loc main_arg3)

/-- The block each window takes. -/
theorem idx : ∀ t : Fin cfg0.N, win0_0.index t = ![t.val / 4, 0, t.val % 4] ∧ win0_1.index t = ![0, 0] ∧ win0_2.index t = ![0, 0] ∧ win0_3.index t = ![0, 0]
    ∧ win0_4.index t = ![t.val, 0] ∧ t.val < 16 :=
  (by decide +kernel : ∀ t : Fin grid0.N, _)

theorem entry0 : V m c main_v45 = transpose S4x256x4096 [0, 2, 1] (shapeCast S4x4096x256 (in0 m c) shapeCasts_S4x4096x2x2x64_S4x4096x256) transposes_S4x4096x256_S4x256x4096_0_2_1 := by
  entry_read
  rfl

theorem entry1 : V m c main_v13 = pe_t (in1 m c) := by
  show StableHlo.after hostOps0 _ (Proc.devRef .tc main_v13) = _
  after_reads_simp
  rfl

theorem entry2 : V m c main_v28 = w_bd (in2 m c) := by
  show StableHlo.after hostOps0 _ (Proc.devRef .tc main_v28) = _
  after_reads_simp
  rfl

theorem entry3 : V m c main_v43 = w_bd (in3 m c) := by
  show StableHlo.after hostOps0 _ (Proc.devRef .tc main_v43) = _
  after_reads_simp
  rfl

theorem rows_at (t : Fin cfg0.N) (z : Fin 256) (p : Fin 1024) (b : Fin 4) (s : Fin 4096) (hb : b.val = t.val / 4) (hs : s.val = t.val % 4 * 1024 + p.val) :
    (show FVec Ideal S1x256x1024 .f32 from iblk m c 0 t) (ix3 0 z p) = in0 m c (ix5 b s ⟨z.val / 128, by omega⟩ ⟨z.val / 64 % 2, by omega⟩ ⟨z.val % 64, by omega⟩) := by
  have e : (show FVec Ideal S1x256x1024 .f32 from iblk m c 0 t) (ix3 0 z p) = (V m c main_v45) (ix3 b z s) := by
    blk_simp [iblk, idx t]
    congr 1
    blk_ext [idx t]
    all_goals (try omega)
  rw [e, entry0]
  pointwise

theorem pos_at (t : Fin cfg0.N) : (show FVec Ideal S256x128 .f32 from iblk m c 1 t) = pe_t (in1 m c) := by
  funext y
  blk_simp [iblk, idx t]
  rw [entry1]
  refine congrArg _ ?_
  blk_ext [idx t]

theorem w1_at (t : Fin cfg0.N) : (show FVec Ideal S256x256 .bf16 from iblk m c 2 t) = w_bd (in2 m c) := by
  funext y
  blk_simp [iblk, idx t]
  rw [entry2]
  refine congrArg _ ?_
  blk_ext [idx t]

theorem w2_at (t : Fin cfg0.N) : (show FVec Ideal S256x256 .bf16 from iblk m c 3 t) = w_bd (in3 m c) := by
  funext y
  blk_simp [iblk, idx t]
  rw [entry3]
  refine congrArg _ ?_
  blk_ext [idx t]

/-- The positions repeated along the lanes. -/
def pos8 (x1 : FVec Ideal S256x128 .f32) : FVec Ideal S256x1024 .f32 :=
  concatenate S256x1024 1 [⟨S256x128, x1⟩, ⟨S256x128, x1⟩, ⟨S256x128, x1⟩, ⟨S256x128, x1⟩, ⟨S256x128, x1⟩, ⟨S256x128, x1⟩, ⟨S256x128, x1⟩, ⟨S256x128, x1⟩] concatenates_S256x128_S256x128_S256x128_S256x128_S256x128_S256x128_S256x128_S256x128_S256x1024_d1

theorem pos8_at (x1 : FVec Ideal S256x128 .f32) (z : Fin 256) (p : Fin 1024) : pos8 x1 (ix2 z p) = x1 (ix2 z ⟨p.val % 128, by omega⟩) := by
  pointwise [pos8]
  split_ifs <;> (refine congrArg x1 ?_; idx_ext)

/-- The rows times the first weights, as the body computes them. -/
def linK (x0 : FVec Ideal S1x256x1024 .f32) (q : FVec Ideal S256x1024 .f32) (w : FVec Ideal S256x256 .bf16) : FVec Ideal S1024x256 .f32 :=
  matmul (F := Ideal) dot_S1024x256_S256x256_S1024x256_1_0_0_1_n_n none (truncf .bf16 (transpose S1024x256 [1, 0] (addf (shapeCast S256x1024 x0 shapeCasts_S1x256x1024_S256x1024) q) transposes_S256x1024_p1_0_S1024x256) bitsLt_bf16_f32)
    w (constant S1024x256 .f32 0x00000000#32)

theorem linK_at (x0 : FVec Ideal S1x256x1024 .f32) (q : FVec Ideal S256x1024 .f32) (w : FVec Ideal S256x256 .bf16) (p : Fin 1024) (x : Fin 256) :
    linK x0 q w (ix2 p x) = ∑ z : Fin 256, (x0 (ix3 0 z p) + q (ix2 z p)) * w (ix2 z x) := by
  pointwise [linK]

/-- What the body does with them. -/
def restK (z : FVec Ideal S1024x256 .f32) (w : FVec Ideal S256x256 .bf16) : FVec Ideal S16x256 .f32 :=
  matmul (F := Ideal) dot_S16x256_S256x256_S16x256_1_0_0_1_n_n none (truncf .bf16 (mulf (multiReduction .add [1] S16x256 (shapeCast S16x64x256
    (mulf z (addf (mulf (broadcast S1024x256 (Scalar.ofBits .f32 0x3F000000#32)) (tanh (mulf (broadcast S1024x256 (Scalar.ofBits .f32 0x3F000000#32)) z))) (broadcast S1024x256 (Scalar.ofBits .f32 0x3F000000#32))))
    shapeCasts_S1024x256_S16x64x256) 0x00000000#32 reduces_S16x64x256_S16x256 (.inl rfl) rfl) (broadcast S16x256 (Scalar.ofBits .f32 0x3C800000#32))) bitsLt_bf16_f32) w (constant S16x256 .f32 0x00000000#32)

theorem restK_at (z : FVec Ideal S1024x256 .f32) (w : FVec Ideal S256x256 .bf16) (a : Fin 16) (l : Fin 256) : restK z w (ix2 a l)
    = ∑ x : Fin 256, ((∑ q : Fin 64, z (ix2 ⟨a.val * 64 + q.val, by omega⟩ x) * (Ideal.ofBits .f32 1056964608#32 * Ideal.tanh (Ideal.ofBits .f32 1056964608#32 * z (ix2 ⟨a.val * 64 + q.val, by omega⟩ x)) + Ideal.ofBits .f32 1056964608#32))
      * Ideal.ofBits .f32 1015021568#32) * w (ix2 x l) := by
  pointwise [restK]

theorem pay_split (x0 : FVec Ideal S1x256x1024 .f32) (x1 : FVec Ideal S256x128 .f32) (x2 x3 : FVec Ideal S256x256 .bf16) :
    k0_pay1 (F := Ideal) x0 x1 x2 x3 = restK (linK x0 (pos8 (shapeCast S256x128 x1 shapeCasts_S256x128_S256x128)) (shapeCast S256x256 x2 shapeCasts_S256x256_S256x256)) (shapeCast S256x256 x3 shapeCasts_S256x256_S256x256) := rfl

/-- An entry of the rows times the first weights. -/
theorem lin_eq (X : FVec Ideal Cert.Reference7Ideal.S4x4096x2x2x64 .f32) (P W : FVec Ideal Cert.Reference7Ideal.S2x64x64 .f32) (x0 : FVec Ideal S1x256x1024 .f32)
    (b : Fin 4) (n q : Fin 64) (p : Fin 1024) (hp : p.val % 64 = q.val) (x : Fin 256)
    (h0 : ∀ z : Fin 256, x0 (ix3 0 z p) = X (ix5 b ⟨n.val * 64 + q.val, by omega⟩ ⟨z.val / 128, by omega⟩ ⟨z.val / 64 % 2, by omega⟩ ⟨z.val % 64, by omega⟩)) :
    linK x0 (pos8 (pe_t P)) (w_bd W) (ix2 p x) = lin X P W (ix6 b n q ⟨x.val / 128, by omega⟩ ⟨x.val / 64 % 2, by omega⟩ ⟨x.val % 64, by omega⟩) := by
  rw [linK_at, lin_at]
  refine (Finset.sum_congr rfl fun z _ => congrArg₂ (fun u v : EReal => u * v) (congrArg₂ (fun u v : EReal => u + v) (h0 z) ((pos8_at _ z p).trans (pe_t_apply P z _))) (w_bd_apply W z x)).trans ?_
  refine (block_sum (fun z => X (ix5 b ⟨n.val * 64 + q.val, by omega⟩ ⟨z.val / 128, by omega⟩ ⟨z.val / 64 % 2, by omega⟩ ⟨z.val % 64, by omega⟩) + P (ix3 ⟨z.val / 128, by omega⟩ ⟨p.val % 128 % 64, by omega⟩ ⟨z.val % 64, by omega⟩))
    (fun z => W (ix3 ⟨x.val / 128, by omega⟩ ⟨z.val % 64, by omega⟩ ⟨x.val % 64, by omega⟩)) ⟨x.val / 64, by omega⟩).trans ?_
  refine Finset.sum_congr rfl fun d _ => ?_
  rw [mul_comm]
  refine congrArg₂ (fun u v : EReal => u * v) (congrArg W ?_) (congrArg₂ (fun u v : EReal => u + v) (congrArg X ?_) (congrArg P ?_))
  all_goals (congr 1 <;> exact Fin.ext (by simp only; omega))

theorem point_of (X : FVec Ideal Cert.Reference7Ideal.S4x4096x2x2x64 .f32) (P W1 W2 : FVec Ideal Cert.Reference7Ideal.S2x64x64 .f32) (x0 : FVec Ideal S1x256x1024 .f32)
    (b : Fin 4) (n : Fin 64) (a : Fin 16) (l : Fin 256) (i : Cert.Reference7Ideal.S256x256.Idx) (hi0 : (i 0 : ℕ) = b.val * 64 + n.val) (hi1 : (i 1 : ℕ) = l.val)
    (h0 : ∀ (q : Fin 64) (z : Fin 256), x0 (ix3 0 z ⟨a.val * 64 + q.val, by omega⟩) = X (ix5 b ⟨n.val * 64 + q.val, by omega⟩ ⟨z.val / 128, by omega⟩ ⟨z.val / 64 % 2, by omega⟩ ⟨z.val % 64, by omega⟩)) :
    restK (linK x0 (pos8 (pe_t P)) (w_bd W1)) (w_bd W2) (ix2 a l) = res X P W1 W2 i := by
  rw [res_at X P W1 W2 i b n ⟨l.val / 128, by omega⟩ ⟨l.val / 64 % 2, by omega⟩ ⟨l.val % 64, by omega⟩ hi0 (by simp only; omega), restK_at]
  have hm : ∀ x : Fin 256, (∑ q : Fin 64, linK x0 (pos8 (pe_t P)) (w_bd W1) (ix2 ⟨a.val * 64 + q.val, by omega⟩ x) * (Ideal.ofBits .f32 1056964608#32 * Ideal.tanh (Ideal.ofBits .f32 1056964608#32 * linK x0 (pos8 (pe_t P)) (w_bd W1) (ix2 ⟨a.val * 64 + q.val, by omega⟩ x)) + Ideal.ofBits .f32 1056964608#32))
      * Ideal.ofBits .f32 1015021568#32 = mean (act (lin X P W1)) (ix5 b n ⟨x.val / 128, by omega⟩ ⟨x.val / 64 % 2, by omega⟩ ⟨x.val % 64, by omega⟩) := fun x => by
    rw [over_64, mean_at]
    refine congrArg (fun u => Ideal.div u (Ideal.ofBits .f32 1115684864#32)) (Finset.sum_congr rfl fun q _ => ?_)
    rw [act_at]
    exact (silu_half _).trans (congrArg (fun u => u * Ideal.div 1 (1 + Ideal.exp (-u))) (lin_eq X P W1 x0 b n q _ (by simp only; omega) x (h0 q)))
  refine (Finset.sum_congr rfl fun x _ => congrArg₂ (fun u v : EReal => u * v) (hm x) (w_bd_apply W2 x l)).trans ?_
  refine (block_sum (fun x => mean (act (lin X P W1)) (ix5 b n ⟨x.val / 128, by omega⟩ ⟨x.val / 64 % 2, by omega⟩ ⟨x.val % 64, by omega⟩))
    (fun x => W2 (ix3 ⟨l.val / 128, by omega⟩ ⟨x.val % 64, by omega⟩ ⟨l.val % 64, by omega⟩)) ⟨l.val / 64, by omega⟩).trans ?_
  refine Finset.sum_congr rfl fun d _ => ?_
  rw [mul_comm]
  refine congrArg₂ (fun u v : EReal => u * v) (congrArg W2 ?_) (congrArg (mean _) ?_)
  all_goals (congr 1 <;> exact Fin.ext (by simp only; omega))

theorem cast_pos (x : FVec Ideal S256x128 .f32) : shapeCast S256x128 x shapeCasts_S256x128_S256x128 = x := by
  funext y
  rw [eq_ix2 y]
  pointwise

theorem cast_w (x : FVec Ideal S256x256 .bf16) : shapeCast S256x256 x shapeCasts_S256x256_S256x256 = x := by
  funext y
  rw [eq_ix2 y]
  pointwise

theorem point (t : Fin cfg0.N) (a : Fin 16) (l : Fin 256) (i : S256x256.Idx) (hi0 : (i 0 : ℕ) = t.val * 16 + a.val) (hi1 : (i 1 : ℕ) = l.val) :
    k0_pay1 (F := Ideal) (iblk m c 0 t) (iblk m c 1 t) (iblk m c 2 t) (iblk m c 3 t) (ix2 a l) = res (in0 m c) (in1 m c) (in2 m c) (in3 m c) i := by
  have ht : t.val < 16 := (idx t).2.2.2.2.2
  have e1 : iblk m c 1 t = pe_t (in1 m c) := pos_at m c t
  have e2 : iblk m c 2 t = w_bd (in2 m c) := w1_at m c t
  have e3 : iblk m c 3 t = w_bd (in3 m c) := w2_at m c t
  rw [e1, e2, e3, pay_split, cast_pos, cast_w, cast_w]
  exact point_of _ _ _ _ _ ⟨t.val / 4, by omega⟩ ⟨t.val % 4 * 16 + a.val, by omega⟩ a l i (by simp only; omega) hi1
    (fun q z => rows_at m c t z _ _ _ rfl (by simp only; omega))

set_option maxHeartbeats 4000000 in
/-- The result after the run is the reference's. -/
theorem final : (dats m 0 c).arrAt 4 cfg0.N = res (in0 m c) (in1 m c) (in2 m c) (in3 m c) := by
  refine (dats m 0 c).arrAt_eq_of_covers 4 _ (by decide +kernel) fun t _ y => ?_
  blk_simp
  rw [after0_4]
  unfold out0_4
  frame_out
  refine (congrArg _ (eq_ix2 y)).trans (point m c t (y 0) (y 1) _ ?_ ?_)
  all_goals blk_simp [idx t]
  all_goals (try omega)

end Cert.Kernel7Ideal.Comp
end
-- ==== Proof.StepEntry.lean ====
/- The merge of one layer over one step: each input block, as the arguments' entries. -/
module

public import proofs.«01_k».proof.Proof.Gen.Kernel5Ideal.Value
public import proofs.«01_k».proof.Proof.Gen.Reference5Ideal.Run
public import proofs.«01_k».proof.Proof.MergeHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Kernel3Ideal.Merge (pool_bd ones_bd)

namespace Cert.Kernel5Ideal.Step

open Cert.Kernel5Ideal Cert.Kernel5Ideal.Gen

/-- The weight of each group at the first position, repeated over its lanes. -/
def w0 (W : FVec Ideal S4x128x128 .f32) : FVec Ideal S1x256 .f32 :=
  shapeCast S1x256 (shapeCast S256 (broadcastInDim S4x64 ![0] bcast_S4_S4x64_0 (shapeCast S4 (extractStridedSlice S4x1x1 ![0, 0, 0] W slices_S4x128x128_S4x1x1_0_0_0) shapeCasts_S4x1x1_S4)) shapeCasts_S4x64_S256) shapeCasts_S256_S1x256

/-- The offset of each group at the first position, repeated over its lanes. -/
def b0 (B : FVec Ideal S4x128 .f32) : FVec Ideal S1x256 .f32 :=
  shapeCast S1x256 (shapeCast S256 (broadcastInDim S4x64 ![0] bcast_S4_S4x64_0 (shapeCast S4 (extractStridedSlice S4x1 ![0, 0] B slices_S4x128_S4x1_0_0) shapeCasts_S4x1_S4)) shapeCasts_S4x64_S256) shapeCasts_S256_S1x256

theorem w0_apply (W : FVec Ideal S4x128x128 .f32) (l : Fin 256) : w0 W (ix2 0 l) = W (ix3 ⟨l.val / 64, by omega⟩ 0 0) := by
  pointwise [w0]

theorem b0_apply (B : FVec Ideal S4x128 .f32) (l : Fin 256) : b0 B (ix2 0 l) = B (ix2 ⟨l.val / 64, by omega⟩ 0) := by
  pointwise [b0]

variable (m : (ℓ : Loc nD τ sig) → Buf (Elt Ideal) ℓ) (c : Dev nD)

abbrev in0 : FVec Ideal Cert.Reference5Ideal.S128x1x1024 .f32 := m ((c : Thread nD τ).loc main_arg0)
abbrev in1 : FVec Ideal Cert.Reference5Ideal.S128x1x512 .f32 := m ((c : Thread nD τ).loc main_arg1)
abbrev in2 : FVec Ideal Cert.Reference5Ideal.S128x1x512 .f32 := m ((c : Thread nD τ).loc main_arg2)
abbrev in3 : FVec Ideal Cert.Reference5Ideal.S128x1x256 .f32 := m ((c : Thread nD τ).loc main_arg3)
abbrev in4 : FVec Ideal Cert.Reference5Ideal.S128x15x256 .f32 := m ((c : Thread nD τ).loc main_arg4)
abbrev in5 : FVec Ideal Cert.Reference5Ideal.S128x1x256 .f32 := m ((c : Thread nD τ).loc main_arg5)
abbrev in6 : FVec Ideal Cert.Reference5Ideal.S128x1x256 .f32 := m ((c : Thread nD τ).loc main_arg6)
abbrev in7 : FVec Ideal Cert.Reference5Ideal.S128x1x256 .f32 := m ((c : Thread nD τ).loc main_arg7)
abbrev in8 : FVec Ideal Cert.Reference5Ideal.S128x1x256 .f32 := m ((c : Thread nD τ).loc main_arg8)
abbrev in9 : FVec Ideal Cert.Reference5Ideal.S4x64x64 .f32 := m ((c : Thread nD τ).loc main_arg9)
abbrev in10 : FVec Ideal Cert.Reference5Ideal.S256 .f32 := m ((c : Thread nD τ).loc main_arg10)
abbrev in11 : FVec Ideal Cert.Reference5Ideal.S256 .f32 := m ((c : Thread nD τ).loc main_arg11)
abbrev in12 : FVec Ideal Cert.Reference5Ideal.S4x128x128 .f32 := m ((c : Thread nD τ).loc main_arg12)
abbrev in13 : FVec Ideal Cert.Reference5Ideal.S4x128 .f32 := m ((c : Thread nD τ).loc main_arg13)
abbrev in14 : FVec Ideal Cert.Reference5Ideal.S1024x1024 .f32 := m ((c : Thread nD τ).loc main_arg14)
abbrev in15 : FVec Ideal Cert.Reference5Ideal.S1024 .f32 := m ((c : Thread nD τ).loc main_arg15)

/-- The block each window takes. -/
theorem idx : ∀ t : Fin cfg0.N, win0_0.index t = ![0, 0] ∧ win0_1.index t = ![0, 0] ∧ win0_2.index t = ![0, 0] ∧ win0_3.index t = ![0, 0] ∧ win0_4.index t = ![0, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] :=
  (by decide +kernel : ∀ t : Fin grid0.N, _)

theorem rows0_entry : V m c main_v47 = shapeCast S128x1024 (in0 m c) shapeCasts_S128x1x1024_S128x1024 := by
  entry_read
  rfl

theorem rows0_at (t : Fin cfg0.N) (b : Fin 128) (l : Fin 1024) :
    (show FVec Ideal S128x1024 .f32 from iblk m c 0 t) (ix2 b l) = in0 m c (ix3 b 0 l) := by
  blk_simp [iblk, idx t]
  rw [rows0_entry]
  pointwise
  refine congrArg _ ?_
  blk_ext [idx t]

theorem rows1_entry : V m c main_v48 = shapeCast S128x512 (in1 m c) shapeCasts_S128x1x512_S128x512 := by
  entry_read
  rfl

theorem rows1_at (t : Fin cfg0.N) (b : Fin 128) (l : Fin 512) :
    (show FVec Ideal S128x512 .f32 from iblk m c 1 t) (ix2 b l) = in1 m c (ix3 b 0 l) := by
  blk_simp [iblk, idx t]
  rw [rows1_entry]
  pointwise
  refine congrArg _ ?_
  blk_ext [idx t]

theorem rows2_entry : V m c main_v40 = shapeCast S128x512 (in2 m c) shapeCasts_S128x1x512_S128x512 := by
  entry_read
  rfl

theorem rows2_at (t : Fin cfg0.N) (b : Fin 128) (l : Fin 512) :
    (show FVec Ideal S128x512 .f32 from iblk m c 2 t) (ix2 b l) = in2 m c (ix3 b 0 l) := by
  blk_simp [iblk, idx t]
  rw [rows2_entry]
  pointwise
  refine congrArg _ ?_
  blk_ext [idx t]

theorem rows3_entry : V m c main_v41 = shapeCast S128x256 (in3 m c) shapeCasts_S128x1x256_S128x256 := by
  entry_read
  rfl

theorem rows3_at (t : Fin cfg0.N) (b : Fin 128) (l : Fin 256) :
    (show FVec Ideal S128x256 .f32 from iblk m c 3 t) (ix2 b l) = in3 m c (ix3 b 0 l) := by
  blk_simp [iblk, idx t]
  rw [rows3_entry]
  pointwise
  refine congrArg _ ?_
  blk_ext [idx t]

theorem rows5_entry : V m c main_v42 = shapeCast S128x256 (in5 m c) shapeCasts_S128x1x256_S128x256 := by
  entry_read
  rfl

theorem rows5_at (t : Fin cfg0.N) (b : Fin 128) (l : Fin 256) :
    (show FVec Ideal S128x256 .f32 from iblk m c 5 t) (ix2 b l) = in5 m c (ix3 b 0 l) := by
  blk_simp [iblk, idx t]
  rw [rows5_entry]
  pointwise
  refine congrArg _ ?_
  blk_ext [idx t]

theorem rows6_entry : V m c main_v43 = shapeCast S128x256 (in6 m c) shapeCasts_S128x1x256_S128x256 := by
  entry_read
  rfl

theorem rows6_at (t : Fin cfg0.N) (b : Fin 128) (l : Fin 256) :
    (show FVec Ideal S128x256 .f32 from iblk m c 6 t) (ix2 b l) = in6 m c (ix3 b 0 l) := by
  blk_simp [iblk, idx t]
  rw [rows6_entry]
  pointwise
  refine congrArg _ ?_
  blk_ext [idx t]

theorem rows7_entry : V m c main_v44 = shapeCast S128x256 (in7 m c) shapeCasts_S128x1x256_S128x256 := by
  entry_read
  rfl

theorem rows7_at (t : Fin cfg0.N) (b : Fin 128) (l : Fin 256) :
    (show FVec Ideal S128x256 .f32 from iblk m c 7 t) (ix2 b l) = in7 m c (ix3 b 0 l) := by
  blk_simp [iblk, idx t]
  rw [rows7_entry]
  pointwise
  refine congrArg _ ?_
  blk_ext [idx t]

theorem rows8_entry : V m c main_v45 = shapeCast S128x256 (in8 m c) shapeCasts_S128x1x256_S128x256 := by
  entry_read
  rfl

theorem rows8_at (t : Fin cfg0.N) (b : Fin 128) (l : Fin 256) :
    (show FVec Ideal S128x256 .f32 from iblk m c 8 t) (ix2 b l) = in8 m c (ix3 b 0 l) := by
  blk_simp [iblk, idx t]
  rw [rows8_entry]
  pointwise
  refine congrArg _ ?_
  blk_ext [idx t]

theorem kept_entry : V m c main_v46 = transpose S15x128x256 [1, 0, 2] (in4 m c) transposes_S128x15x256_S15x128x256_1_0_2 := by
  entry_read
  rfl

theorem kept_at (t : Fin cfg0.N) (k : Fin 15) (b : Fin 128) (l : Fin 256) :
    (show FVec Ideal S15x128x256 .f32 from iblk m c 4 t) (ix3 k b l) = in4 m c (ix3 b k l) := by
  blk_simp [iblk, idx t]
  rw [kept_entry]
  pointwise
  refine congrArg _ ?_
  blk_ext [idx t]

theorem scale_entry : V m c main_v26 = shapeCast S1x256 (in10 m c) shapeCasts_S256_S1x256 := by
  entry_read
  rfl

theorem scale_at (t : Fin cfg0.N) (k : Fin 256) : (show FVec Ideal S1x256 .f32 from iblk m c 10 t) (ix2 0 k) = in10 m c (ix1 k) := by
  blk_simp [iblk, idx t]
  rw [scale_entry]
  pointwise
  refine congrArg _ ?_
  blk_ext [idx t]

theorem gnorm_entry : V m c main_v27 = shapeCast S1x256 (in11 m c) shapeCasts_S256_S1x256 := by
  entry_read
  rfl

theorem gnorm_at (t : Fin cfg0.N) (k : Fin 256) : (show FVec Ideal S1x256 .f32 from iblk m c 11 t) (ix2 0 k) = in11 m c (ix1 k) := by
  blk_simp [iblk, idx t]
  rw [gnorm_entry]
  pointwise
  refine congrArg _ ?_
  blk_ext [idx t]

theorem gpost_entry : V m c main_v39 = shapeCast S1x1024 (in15 m c) shapeCasts_S1024_S1x1024 := by
  entry_read
  rfl

theorem gpost_at (t : Fin cfg0.N) (k : Fin 1024) : (show FVec Ideal S1x1024 .f32 from iblk m c 16 t) (ix2 0 k) = in15 m c (ix1 k) := by
  blk_simp [iblk, idx t]
  rw [gpost_entry]
  pointwise
  refine congrArg _ ?_
  blk_ext [idx t]

theorem pool_entry : V m c main_v25 = pool_bd (in9 m c) := by
  entry_read
  rfl

theorem pool_at (t : Fin cfg0.N) : (show FVec Ideal S256x256 .bf16 from iblk m c 9 t) = pool_bd (in9 m c) := by
  funext y
  blk_simp [iblk, idx t]
  rw [pool_entry]
  refine congrArg _ ?_
  blk_ext [idx t]

theorem ones_entry : V m c main_v8 = ones_bd := by
  entry_read
  rfl

theorem ones_at (t : Fin cfg0.N) : (show FVec Ideal S256x256 .bf16 from iblk m c 12 t) = ones_bd := by
  funext y
  blk_simp [iblk, idx t]
  rw [ones_entry]
  refine congrArg _ ?_
  blk_ext [idx t]

theorem ws_entry : V m c main_v32 = w0 (in12 m c) := by
  entry_read
  rfl

theorem ws_at (t : Fin cfg0.N) : (show FVec Ideal S1x256 .f32 from iblk m c 13 t) = w0 (in12 m c) := by
  funext y
  blk_simp [iblk, idx t]
  rw [ws_entry]
  refine congrArg _ ?_
  blk_ext [idx t]

theorem bs_entry : V m c main_v37 = b0 (in13 m c) := by
  entry_read
  rfl

theorem bs_at (t : Fin cfg0.N) : (show FVec Ideal S1x256 .f32 from iblk m c 14 t) = b0 (in13 m c) := by
  funext y
  blk_simp [iblk, idx t]
  rw [bs_entry]
  refine congrArg _ ?_
  blk_ext [idx t]

theorem wo_entry : V m c main_v38 = truncf .bf16 (show FVec Ideal S1024x1024 .f32 from in14 m c) bitsLt_bf16_f32 := by
  entry_read
  rfl

theorem wo_at (t : Fin cfg0.N) : (show FVec Ideal S1024x1024 .bf16 from iblk m c 15 t) = truncf .bf16 (show FVec Ideal S1024x1024 .f32 from in14 m c) bitsLt_bf16_f32 := by
  funext y
  blk_simp [iblk, idx t]
  rw [wo_entry]
  refine congrArg _ ?_
  blk_ext [idx t]

end Cert.Kernel5Ideal.Step
end
-- ==== Proof.StepRef.lean ====
/- The merge of one layer over one step: the reference's terms by name. -/
module

public import proofs.«01_k».proof.Proof.Gen.Reference5Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference5Ideal.Step

open Cert.Reference5Ideal Cert.Reference5Ideal.Gen

/-- The fifteen rows kept and the new one. -/
def front (A3 : FVec Ideal S128x1x256 .f32) (A4 : FVec Ideal S128x15x256 .f32) : FVec Ideal S128x16x256 .f32 :=
  (concatenate S128x16x256 1 [⟨S128x15x256, A4⟩, ⟨S128x1x256, A3⟩] concatenates_S128x15x256_S128x1x256_S128x16x256_d1)

/-- Those rows with a zero row before them. -/
def padded (A3 : FVec Ideal S128x1x256 .f32) (A4 : FVec Ideal S128x15x256 .f32) : FVec Ideal S128x17x256 .f32 :=
  (pad S128x17x256 ![0, 1, 0] ![0, 0, 0] ![0, 0, 0] (front A3 A4) (sitofp .f32 (constantI S_ 32 0#32)) pads_S128x16x256_S128x17x256_000_100_000 h_S_)

/-- The running sums of the padded rows. -/
def sums (A3 : FVec Ideal S128x1x256 .f32) (A4 : FVec Ideal S128x15x256 .f32) : FVec Ideal S128x17x256 .f32 :=
  (Host.reduceWindowAdd ![1, 17, 1] ![1, 1, 1] ![0, 16, 0] ![0, 0, 0] (padded A3 A4) (broadcastInDim S_ ![] bcast_S_S_ (constant S_ .f32 0x00000000#32)) reduceWindows_S128x17x256_S128x17x256_w1s1p0_0_w17s1p16_0_w1s1p0_0 h_S_)

/-- How many rows a window of 2 holds. -/
def count2 : FVec Ideal S1 .f32 :=
  (sitofp .f32 (minsi (broadcastInDim S1 ![] bcast_S_S1 (constantI S_ 32 2#32)) (addi (addi (broadcastInDim S1 ![] bcast_S_S1 (constantI S_ 32 2048#32)) (iotaInDim S1 32 0)) (broadcastInDim S1 ![] bcast_S_S1 (constantI S_ 32 1#32)))))

/-- How many rows a window of 4 holds. -/
def count4 : FVec Ideal S1 .f32 :=
  (sitofp .f32 (minsi (broadcastInDim S1 ![] bcast_S_S1 (constantI S_ 32 4#32)) (addi (addi (broadcastInDim S1 ![] bcast_S_S1 (constantI S_ 32 2048#32)) (iotaInDim S1 32 0)) (broadcastInDim S1 ![] bcast_S_S1 (constantI S_ 32 1#32)))))

/-- How many rows a window of 8 holds. -/
def count8 : FVec Ideal S1 .f32 :=
  (sitofp .f32 (minsi (broadcastInDim S1 ![] bcast_S_S1 (constantI S_ 32 8#32)) (addi (addi (broadcastInDim S1 ![] bcast_S_S1 (constantI S_ 32 2048#32)) (iotaInDim S1 32 0)) (broadcastInDim S1 ![] bcast_S_S1 (constantI S_ 32 1#32)))))

/-- How many rows a window of 16 holds. -/
def count16 : FVec Ideal S1 .f32 :=
  (sitofp .f32 (minsi (broadcastInDim S1 ![] bcast_S_S1 (constantI S_ 32 16#32)) (addi (addi (broadcastInDim S1 ![] bcast_S_S1 (constantI S_ 32 2048#32)) (iotaInDim S1 32 0)) (broadcastInDim S1 ![] bcast_S_S1 (constantI S_ 32 1#32)))))

/-- The mean over a window of 2 rows. -/
def mean2 (A3 : FVec Ideal S128x1x256 .f32) (A4 : FVec Ideal S128x15x256 .f32) : FVec Ideal S128x1x64 .f32 :=
  (Host.divf (subf (extractStridedSlice S128x1x64 ![0, 0, 0] (extractStridedSlice S128x1x256 ![0, 16, 0] (sums A3 A4) slices_S128x17x256_S128x1x256_0_16_0) slices_S128x1x256_S128x1x64_0_0_0) (extractStridedSlice S128x1x64 ![0, 14, 0] (sums A3 A4) slices_S128x17x256_S128x1x64_0_14_0)) (broadcastInDim S128x1x64 ![0, 1, 2] bcast_S1x1x1_S128x1x64_0_1_2 (broadcastInDim S1x1x1 ![1] bcast_S1_S1x1x1_1 count2)))

/-- The mean over a window of 4 rows. -/
def mean4 (A3 : FVec Ideal S128x1x256 .f32) (A4 : FVec Ideal S128x15x256 .f32) : FVec Ideal S128x1x64 .f32 :=
  (Host.divf (subf (extractStridedSlice S128x1x64 ![0, 0, 64] (extractStridedSlice S128x1x256 ![0, 16, 0] (sums A3 A4) slices_S128x17x256_S128x1x256_0_16_0) slices_S128x1x256_S128x1x64_0_0_64) (extractStridedSlice S128x1x64 ![0, 12, 64] (sums A3 A4) slices_S128x17x256_S128x1x64_0_12_64)) (broadcastInDim S128x1x64 ![0, 1, 2] bcast_S1x1x1_S128x1x64_0_1_2 (broadcastInDim S1x1x1 ![1] bcast_S1_S1x1x1_1 count4)))

/-- The mean over a window of 8 rows. -/
def mean8 (A3 : FVec Ideal S128x1x256 .f32) (A4 : FVec Ideal S128x15x256 .f32) : FVec Ideal S128x1x64 .f32 :=
  (Host.divf (subf (extractStridedSlice S128x1x64 ![0, 0, 128] (extractStridedSlice S128x1x256 ![0, 16, 0] (sums A3 A4) slices_S128x17x256_S128x1x256_0_16_0) slices_S128x1x256_S128x1x64_0_0_128) (extractStridedSlice S128x1x64 ![0, 8, 128] (sums A3 A4) slices_S128x17x256_S128x1x64_0_8_128)) (broadcastInDim S128x1x64 ![0, 1, 2] bcast_S1x1x1_S128x1x64_0_1_2 (broadcastInDim S1x1x1 ![1] bcast_S1_S1x1x1_1 count8)))

/-- The mean over a window of 16 rows. -/
def mean16 (A3 : FVec Ideal S128x1x256 .f32) (A4 : FVec Ideal S128x15x256 .f32) : FVec Ideal S128x1x64 .f32 :=
  (Host.divf (subf (extractStridedSlice S128x1x64 ![0, 0, 192] (extractStridedSlice S128x1x256 ![0, 16, 0] (sums A3 A4) slices_S128x17x256_S128x1x256_0_16_0) slices_S128x1x256_S128x1x64_0_0_192) (extractStridedSlice S128x1x64 ![0, 0, 192] (sums A3 A4) slices_S128x17x256_S128x1x64_0_0_192)) (broadcastInDim S128x1x64 ![0, 1, 2] bcast_S1x1x1_S128x1x64_0_1_2 (broadcastInDim S1x1x1 ![1] bcast_S1_S1x1x1_1 count16)))

/-- The window means less the new row. -/
def pooled (A3 : FVec Ideal S128x1x256 .f32) (A4 : FVec Ideal S128x15x256 .f32) : FVec Ideal S128x1x256 .f32 :=
  (subf ((concatenate S128x1x256 2 [⟨S128x1x64, ((mean2 A3 A4) : (⟨S128x1x64, .f32⟩ : BufTy).Contents (Elt Ideal))⟩, ⟨S128x1x64, ((mean4 A3 A4) : (⟨S128x1x64, .f32⟩ : BufTy).Contents (Elt Ideal))⟩, ⟨S128x1x64, ((mean8 A3 A4) : (⟨S128x1x64, .f32⟩ : BufTy).Contents (Elt Ideal))⟩, ⟨S128x1x64, ((mean16 A3 A4) : (⟨S128x1x64, .f32⟩ : BufTy).Contents (Elt Ideal))⟩] concatenates_S128x1x64_S128x1x64_S128x1x64_S128x1x64_S128x1x256_d2 : (⟨S128x1x256, .f32⟩ : BufTy).Contents (Elt Ideal))) (extractStridedSlice S128x1x256 ![0, 15, 0] (front A3 A4) slices_S128x16x256_S128x1x256_0_15_0))

/-- The pooled rows through the weights of each group, times the scale. -/
def mix (A3 : FVec Ideal S128x1x256 .f32) (A4 : FVec Ideal S128x15x256 .f32) (A9 : FVec Ideal S4x64x64 .f32) (A10 : FVec Ideal S256 .f32) : FVec Ideal S128x1x256 .f32 :=
  (mulf (shapeCast _ (transpose S128x1x4x64 [2, 3, 0, 1] (Host.dotGeneral dot_S4x64x64_S128x1x4x64_S4x64x128x1_1_3_2_01_0_2 none A9 (shapeCast _ (pooled A3 A4) shapeCasts_S128x1x256_S128x1x4x64)) transposes_S4x64x128x1_S128x1x4x64_2_3_0_1) shapeCasts_S128x1x4x64_S128x1x256) (broadcastInDim S128x1x256 ![0, 1, 2] bcast_S1x1x256_S128x1x256_0_1_2 (broadcastInDim S1x1x256 ![2] bcast_S256_S1x1x256_2 A10)))

/-- The weight of each group at the first position. -/
def lower (A12 : FVec Ideal S4x128x128 .f32) : FVec Ideal S4x1x1 .f32 :=
  (mulf (extractStridedSlice S4x1x1 ![0, 0, 0] A12 slices_S4x128x128_S4x1x1_0_0_0) (broadcastInDim S4x1x1 ![0, 1, 2] bcast_S1x1x1_S4x1x1_0_1_2 (broadcastInDim S1x1x1 ![1, 2] bcast_S1x1_S1x1x1_1_2 (select (cmpi .sge (addi (iotaInDim S1x1 32 0) (broadcastInDim S1x1 ![] bcast_S_S1x1 (constantI S_ 32 0#32))) (iotaInDim S1x1 32 1)) (broadcastInDim S1x1 ![] bcast_S_S1x1 (constant S_ .f32 0x3F800000#32)) (broadcastInDim S1x1 ![] bcast_S_S1x1 (constant S_ .f32 0x00000000#32))))))

/-- Each group of a row over its root mean square, times the gains. -/
def normed4 (A7 : FVec Ideal S128x1x256 .f32) (A11 : FVec Ideal S256 .f32) : FVec Ideal S128x1x4x64 .f32 :=
  (mulf (mulf (shapeCast _ A7 shapeCasts_S128x1x256_S128x1x4x64) (broadcastInDim S128x1x4x64 ![0, 1, 2, 3] bcast_S128x1x4x1_S128x1x4x64_0_1_2_3 (Host.rsqrt (addf (Host.divf (broadcastInDim S128x1x4x1 ![0, 1, 2] bcast_S128x1x4_S128x1x4x1_0_1_2 (Host.reduceAdd (mulf (shapeCast _ A7 shapeCasts_S128x1x256_S128x1x4x64) (shapeCast _ A7 shapeCasts_S128x1x256_S128x1x4x64)) (constant S_ .f32 0x00000000#32) reducesTo_S128x1x4x64_S128x1x4_d3 h_S_)) (broadcastInDim S128x1x4x1 ![] bcast_S_S128x1x4x1 (constant S_ .f32 0x42800000#32))) (broadcastInDim S128x1x4x1 ![] bcast_S_S128x1x4x1 (constant S_ .f32 0x358637BD#32)))))) (broadcastInDim S128x1x4x64 ![0, 1, 2, 3] bcast_S1x1x4x64_S128x1x4x64_0_1_2_3 (broadcastInDim S1x1x4x64 ![2, 3] bcast_S4x64_S1x1x4x64_2_3 (shapeCast _ A11 shapeCasts_S256_S4x64))))

/-- The normed rows times their weight plus the offset, times the gate. -/
def gated (A6 : FVec Ideal S128x1x256 .f32) (A7 : FVec Ideal S128x1x256 .f32) (A11 : FVec Ideal S256 .f32) (A12 : FVec Ideal S4x128x128 .f32) (A13 : FVec Ideal S4x128 .f32) : FVec Ideal S128x1x256 .f32 :=
  (mulf A6 (shapeCast _ (addf (transpose S128x1x1x4x64 [1, 2, 4, 0, 3] (Host.dotGeneral dot_S128x1x1x4x64_S4x1x1_S4x128x1x64x1_2_2_014_1_3_0 none (shapeCast _ (normed4 A7 A11) shapeCasts_S128x1x4x64_S128x1x1x4x64) (lower A12)) transposes_S4x128x1x64x1_S128x1x1x4x64_1_2_4_0_3) (broadcastInDim S128x1x1x4x64 ![0, 1, 2, 3, 4] bcast_S1x1x1x4x1_S128x1x1x4x64_0_1_2_3_4 (broadcastInDim S1x1x1x4x1 ![2, 3] bcast_S1x4_S1x1x1x4x1_2_3 (transpose S1x4 [1, 0] (extractStridedSlice S4x1 ![0, 0] A13 slices_S4x128_S4x1_0_0) transposes_S4x1_S1x4_1_0)))) shapeCasts_S128x1x1x4x64_S128x1x256))

/-- Each entry times its sigmoid. -/
def silu512 (Z : FVec Ideal S128x1x512 .f32) : FVec Ideal S128x1x512 .f32 :=
  (mulf Z (Host.divf (broadcastInDim S128x1x512 ![] bcast_S_S128x1x512 (constant S_ .f32 0x3F800000#32)) (addf (broadcastInDim S128x1x512 ![] bcast_S_S128x1x512 (constant S_ .f32 0x3F800000#32)) (Host.exp (Host.negf Z)))))

/-- Each entry times its sigmoid. -/
def silu256 (Z : FVec Ideal S128x1x256 .f32) : FVec Ideal S128x1x256 .f32 :=
  (mulf Z (Host.divf (broadcastInDim S128x1x256 ![] bcast_S_S128x1x256 (constant S_ .f32 0x3F800000#32)) (addf (broadcastInDim S128x1x256 ![] bcast_S_S128x1x256 (constant S_ .f32 0x3F800000#32)) (Host.exp (Host.negf Z)))))

/-- The three parts side by side through the output weights. -/
def out (A1 : FVec Ideal S128x1x512 .f32) (A2 : FVec Ideal S128x1x512 .f32) (A3 : FVec Ideal S128x1x256 .f32) (A4 : FVec Ideal S128x15x256 .f32) (A5 : FVec Ideal S128x1x256 .f32) (A6 : FVec Ideal S128x1x256 .f32) (A7 : FVec Ideal S128x1x256 .f32) (A8 : FVec Ideal S128x1x256 .f32) (A9 : FVec Ideal S4x64x64 .f32) (A10 : FVec Ideal S256 .f32) (A11 : FVec Ideal S256 .f32) (A12 : FVec Ideal S4x128x128 .f32) (A13 : FVec Ideal S4x128 .f32) (A14 : FVec Ideal S1024x1024 .f32) : FVec Ideal S128x1x1024 .f32 :=
  (Host.dotGeneral (φ₁ := .f32) (φ₂ := .f32) dot_S128x1x1024_S1024x1024_S128x1x1024_2_0_01_1_n_n none ((concatenate S128x1x1024 2 [⟨S128x1x512, ((mulf A1 (silu512 A2)) : (⟨S128x1x512, .f32⟩ : BufTy).Contents (Elt Ideal))⟩, ⟨S128x1x256, ((mulf (mix A3 A4 A9 A10) (silu256 A5)) : (⟨S128x1x256, .f32⟩ : BufTy).Contents (Elt Ideal))⟩, ⟨S128x1x256, ((mulf (gated A6 A7 A11 A12 A13) (silu256 A8)) : (⟨S128x1x256, .f32⟩ : BufTy).Contents (Elt Ideal))⟩] concatenates_S128x1x512_S128x1x256_S128x1x256_S128x1x1024_d2 : (⟨S128x1x1024, .f32⟩ : BufTy).Contents (Elt Ideal))) A14)

/-- The rows plus the normed output rows times the gains. -/
def after (A0 : FVec Ideal S128x1x1024 .f32) (Y : FVec Ideal S128x1x1024 .f32) (A15 : FVec Ideal S1024 .f32) : FVec Ideal S128x1x1024 .f32 :=
  (addf A0 (mulf (mulf Y (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf Y Y) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 A15))))

set_option maxHeartbeats 4000000 in
theorem res_eq (m : (ℓ : Loc nD τ sig) → Buf (Elt Ideal) ℓ) (c : Dev nD) : Value.res_main_v115 m c =
  shapeCast _ (after (m ((c.tc : Thread nD τ).loc main_arg0)) (out (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15))) shapeCasts_S128x1x1024_S128x1024 := rfl

end Cert.Reference5Ideal.Step
end
-- ==== Proof.StepAt.lean ====
/- The merge of one layer over one step: the reference's terms read at an index. -/
module

public import proofs.«01_k».proof.Proof.StepRef
public import proofs.«01_k».proof.Proof.MergeRefAt

@[expose] public section

set_option maxRecDepth 16384

noncomputable section

open Idealize.ShloMosaic Idealize.ShloMosaic.TcCoe Idealize.SL.Sem
open Idealize.ShloMosaic.Pipeline (Dat)
open Cert.Merge
open Cert.Reference3Ideal.Merge (window_sum tail_sum thirds sitofp_zero wid)

namespace Cert.Reference5Ideal.Step

open Cert.Reference5Ideal Cert.Reference5Ideal.Gen

/-- Entry `n` of lane `l` of sequence `b`: a zero, the fifteen rows kept, the new row. -/
def row (A : FVec Ideal S128x1x256 .f32) (K : FVec Ideal S128x15x256 .f32) (b : Fin 128) (l : Fin 256) (n : ℕ) : EReal :=
  if h : 1 ≤ n ∧ n < 16 then K (ix3 b ⟨n - 1, by omega⟩ l) else if n = 16 then A (ix3 b 0 l) else 0

theorem row_fin (A : FVec Ideal S128x1x256 .f32) (K : FVec Ideal S128x15x256 .f32) (hA : ∀ i, Fin' (A i)) (hK : ∀ i, Fin' (K i)) (b : Fin 128) (l : Fin 256) (n : ℕ) : Fin' (row A K b l n) := by
  unfold row
  split
  · exact hK _
  · split
    · exact hA _
    · exact fin_zero

theorem row_kept (A : FVec Ideal S128x1x256 .f32) (K : FVec Ideal S128x15x256 .f32) (b : Fin 128) (l : Fin 256) (n : ℕ) (h : 1 ≤ n ∧ n < 16) :
    row A K b l n = K (ix3 b ⟨n - 1, by omega⟩ l) := by
  unfold row
  rw [dif_pos h]

theorem row_new (A : FVec Ideal S128x1x256 .f32) (K : FVec Ideal S128x15x256 .f32) (b : Fin 128) (l : Fin 256) (n : ℕ) (h : n = 16) :
    row A K b l n = A (ix3 b 0 l) := by
  unfold row
  rw [dif_neg (by omega), if_pos h]

theorem row_zero (A : FVec Ideal S128x1x256 .f32) (K : FVec Ideal S128x15x256 .f32) (b : Fin 128) (l : Fin 256) (n : ℕ) (h : n = 0) :
    row A K b l n = 0 := by
  unfold row
  rw [dif_neg (by omega), if_neg (by omega)]

theorem padded_apply (A : FVec Ideal S128x1x256 .f32) (K : FVec Ideal S128x15x256 .f32) (b : Fin 128) (t : Fin 17) (l : Fin 256) :
    padded A K (ix3 b t l) = row A K b l t.val := by
  pointwise [padded, front]
  by_cases h1 : 1 ≤ t.val
  · refine (dif_pos (show 1 ≤ (t : ℕ) ∧ (t : ℕ) - 1 < 16 from ⟨by omega, by omega⟩)).trans ?_
    by_cases h2 : t.val < 16
    · exact (dif_pos (by omega)).trans (row_kept A K b l t.val ⟨h1, h2⟩).symm
    · refine (dif_neg (by omega)).trans (Eq.trans (congrArg A ?_) (row_new A K b l t.val (by omega)).symm)
      congr 1
      exact Subsingleton.elim _ _
  · refine (dif_neg (fun h => h1 h.1)).trans (Eq.trans ?_ (row_zero A K b l t.val (by omega)).symm)
    exact sitofp_zero

/-- The index of a window position. -/
def pos : Fin 17 ≃ (⟨3, ![1, 17, 1]⟩ : Shape).Idx where
  toFun k := ix3 0 k 0
  invFun i := i 1
  left_inv k := rfl
  right_inv i := by
    refine (eq_ix3 _).trans ?_ |>.symm
    congr 1 <;> exact Subsingleton.elim _ _

/-- The running sum of a sequence, as the sum over a window as long as the sequence. -/
theorem running (x : S128x17x256.Idx → EReal) (h) (b : Fin 128) (t : Fin 17) (l : Fin 256) (f : ℕ → EReal)
    (hf : ∀ k : Fin 17, x (ix3 b k l) = f k.val) :
    Ideal.hostReduceWindowAdd (s := S128x17x256) (t := S128x17x256) ![1, 17, 1] ![1, 1, 1] ![0, 16, 0] ![0, 0, 0] h x 0 (ix3 b t l) = ∑ n ∈ Finset.range (t.val + 1), f n := by
  rw [window_sum, zero_add]
  refine (Equiv.sum_comp pos _).symm.trans ?_
  refine Eq.trans (Finset.sum_congr rfl fun k _ => (?_ : _ = (fun n : ℕ => if 16 ≤ t.val + n then f (t.val + n - 16) else 0) k.val)) ?_
  · by_cases hk : 16 ≤ t.val + k.val
    · refine (dif_pos ?_).trans (Eq.trans ?_ (if_pos hk).symm)
      · intro a
        have := t.isLt
        have := k.isLt
        fin_cases a
        · exact ⟨Nat.zero_le _, by show b.val * 1 + 0 - 0 < 128; omega⟩
        · exact ⟨by show 16 ≤ t.val * 1 + k.val; omega, by show t.val * 1 + k.val - 16 < 17; omega⟩
        · exact ⟨Nat.zero_le _, by show l.val * 1 + 0 - 0 < 256; omega⟩
      · refine Eq.trans (congrArg x (funext fun a => Fin.ext ?_)) (hf ⟨t.val + k.val - 16, by have := t.isLt; have := k.isLt; omega⟩)
        fin_cases a
        · show b.val * 1 + 0 - 0 = b.val
          omega
        · show t.val * 1 + k.val - 16 = t.val + k.val - 16
          omega
        · show l.val * 1 + 0 - 0 = l.val
          omega
    · refine (dif_neg ?_).trans (if_neg hk).symm
      intro hh
      exact hk (by have := (hh 1).1; show 16 ≤ t.val + k.val; have h2 : 16 ≤ t.val * 1 + k.val := this; omega)
  rw [Fin.sum_univ_eq_sum_range (fun n : ℕ => if 16 ≤ t.val + n then f (t.val + n - 16) else 0) 17]
  exact tail_sum f 16 t.val t.isLt

theorem sums_apply (A : FVec Ideal S128x1x256 .f32) (K : FVec Ideal S128x15x256 .f32) (b : Fin 128) (t : Fin 17) (l : Fin 256) :
    sums A K (ix3 b t l) = ∑ n ∈ Finset.range (t.val + 1), row A K b l n := by
  have h0 : (broadcastInDim S_ ![] bcast_S_S_ (constant S_ .f32 0x00000000#32) : FVec Ideal S_ .f32) (Shape.Idx.first h_S_) = 0 := by
    pointwise []
  unfold sums
  unfold Host.reduceWindowAdd
  rw [h0]
  exact running (padded A K) _ b t l (row A K b l) (fun k => padded_apply A K b k l)

theorem window (A : FVec Ideal S128x1x256 .f32) (K : FVec Ideal S128x15x256 .f32) (hA : ∀ i, Fin' (A i)) (hK : ∀ i, Fin' (K i)) (b : Fin 128) (l : Fin 256) (w : ℕ) (p q : Fin 17) (hp : p.val = 16) (hq : q.val + w = 16) :
    sums A K (ix3 b p l) - sums A K (ix3 b q l) = ∑ k ∈ Finset.range w, row A K b l (17 - w + k) := by
  rw [sums_apply, sums_apply, show p.val + 1 = (q.val + 1) + w from by omega, sum_window _ (row_fin A K hA hK b l)]
  refine Finset.sum_congr rfl fun k _ => ?_
  congr 1
  omega

theorem mean2_at (A : FVec Ideal S128x1x256 .f32) (K : FVec Ideal S128x15x256 .f32) (hA : ∀ i, Fin' (A i)) (hK : ∀ i, Fin' (K i)) (b : Fin 128) (j : Fin 64) (l : Fin 256) (h : l.val = 0 + j.val) :
    mean2 A K (ix3 b 0 j) = Ideal.div (∑ k ∈ Finset.range 2, row A K b l (17 - 2 + k)) (FloatOps.sitofp (F := Ideal) .f32 2#32) := by
  pointwise [mean2, count2]
  refine congrArg₂ (fun x y : EReal => Ideal.div x y) ?_ rfl
  refine Eq.trans ?_ (window A K hA hK b l 2 ⟨16, by omega⟩ ⟨14, by omega⟩ rfl (by simp only))
  congr 3 <;> (apply Fin.ext; simp only; omega)

theorem mean4_at (A : FVec Ideal S128x1x256 .f32) (K : FVec Ideal S128x15x256 .f32) (hA : ∀ i, Fin' (A i)) (hK : ∀ i, Fin' (K i)) (b : Fin 128) (j : Fin 64) (l : Fin 256) (h : l.val = 64 + j.val) :
    mean4 A K (ix3 b 0 j) = Ideal.div (∑ k ∈ Finset.range 4, row A K b l (17 - 4 + k)) (FloatOps.sitofp (F := Ideal) .f32 4#32) := by
  pointwise [mean4, count4]
  refine congrArg₂ (fun x y : EReal => Ideal.div x y) ?_ rfl
  refine Eq.trans ?_ (window A K hA hK b l 4 ⟨16, by omega⟩ ⟨12, by omega⟩ rfl (by simp only))
  congr 3 <;> (apply Fin.ext; simp only; omega)

theorem mean8_at (A : FVec Ideal S128x1x256 .f32) (K : FVec Ideal S128x15x256 .f32) (hA : ∀ i, Fin' (A i)) (hK : ∀ i, Fin' (K i)) (b : Fin 128) (j : Fin 64) (l : Fin 256) (h : l.val = 128 + j.val) :
    mean8 A K (ix3 b 0 j) = Ideal.div (∑ k ∈ Finset.range 8, row A K b l (17 - 8 + k)) (FloatOps.sitofp (F := Ideal) .f32 8#32) := by
  pointwise [mean8, count8]
  refine congrArg₂ (fun x y : EReal => Ideal.div x y) ?_ rfl
  refine Eq.trans ?_ (window A K hA hK b l 8 ⟨16, by omega⟩ ⟨8, by omega⟩ rfl (by simp only))
  congr 3 <;> (apply Fin.ext; simp only; omega)

theorem mean16_at (A : FVec Ideal S128x1x256 .f32) (K : FVec Ideal S128x15x256 .f32) (hA : ∀ i, Fin' (A i)) (hK : ∀ i, Fin' (K i)) (b : Fin 128) (j : Fin 64) (l : Fin 256) (h : l.val = 192 + j.val) :
    mean16 A K (ix3 b 0 j) = Ideal.div (∑ k ∈ Finset.range 16, row A K b l (17 - 16 + k)) (FloatOps.sitofp (F := Ideal) .f32 16#32) := by
  pointwise [mean16, count16]
  refine congrArg₂ (fun x y : EReal => Ideal.div x y) ?_ rfl
  refine Eq.trans ?_ (window A K hA hK b l 16 ⟨16, by omega⟩ ⟨0, by omega⟩ rfl (by simp only))
  congr 3 <;> (apply Fin.ext; simp only; omega)

theorem pooled_at (A : FVec Ideal S128x1x256 .f32) (K : FVec Ideal S128x15x256 .f32) (hA : ∀ i, Fin' (A i)) (hK : ∀ i, Fin' (K i)) (b : Fin 128) (l : Fin 256) :
    pooled A K (ix3 b 0 l) = Ideal.div (∑ k ∈ Finset.range (wid l.val), row A K b l (17 - wid l.val + k)) (FloatOps.sitofp (F := Ideal) .f32 (BitVec.ofNat 32 (wid l.val))) - A (ix3 b 0 l) := by
  pointwise [pooled, front]
  refine congrArg₂ (fun x y : EReal => x - y) ?_ ?_
  · unfold wid
    by_cases h0 : l.val < 64
    · rw [if_pos h0]
      refine (dif_pos h0).trans ?_
      exact mean2_at A K hA hK b _ l (by simp only; omega)
    · rw [if_neg h0]
      refine (dif_neg h0).trans ?_
      by_cases h1 : l.val < 128
      · rw [if_pos h1]
        refine (dif_pos (by omega)).trans ?_
        exact mean4_at A K hA hK b _ l (by simp only; omega)
      · rw [if_neg h1]
        refine (dif_neg (by omega)).trans ?_
        by_cases h2 : l.val < 192
        · rw [if_pos h2]
          refine (dif_pos (by omega)).trans ?_
          exact mean8_at A K hA hK b _ l (by simp only; omega)
        · rw [if_neg h2]
          refine (dif_neg (by omega)).trans ?_
          exact mean16_at A K hA hK b _ l (by simp only; omega)
  · rfl

theorem mix_at (A : FVec Ideal S128x1x256 .f32) (K : FVec Ideal S128x15x256 .f32) (A8 : FVec Ideal S4x64x64 .f32) (A9 : FVec Ideal S256 .f32) (b : Fin 128) (l : Fin 256) :
    mix A K A8 A9 (ix3 b 0 l) = (∑ x : Fin 64, A8 (ix3 ⟨l.val / 64, by omega⟩ x ⟨l.val % 64, by omega⟩) * pooled A K (ix3 b 0 ⟨l.val / 64 * 64 + x.val, by omega⟩)) * A9 (ix1 l) := by
  pointwise [mix]

theorem lower_at (A : FVec Ideal S4x128x128 .f32) (g : Fin 4) : lower A (ix3 g 0 0) = A (ix3 g 0 0) := by
  pointwise [lower]
  rfl

theorem normed4_at (A6 : FVec Ideal S128x1x256 .f32) (A10 : FVec Ideal S256 .f32) (b : Fin 128) (g : Fin 4) (j : Fin 64) (l : Fin 256) (h : l.val = g.val * 64 + j.val) :
    normed4 A6 A10 (ix4 b 0 g j) = A6 (ix3 b 0 l) * Ideal.rsqrt (Ideal.div (∑ y : Fin 64, A6 (ix3 b 0 ⟨l.val / 64 * 64 + y.val, by omega⟩) * A6 (ix3 b 0 ⟨l.val / 64 * 64 + y.val, by omega⟩)) (Ideal.ofBits .f32 1115684864#32)
      + Ideal.ofBits .f32 897988541#32) * A10 (ix1 l) := by
  pointwise [normed4]
  have e : (⟨g.val * 64 + j.val, by omega⟩ : Fin 256) = l := Fin.ext h.symm
  have hg : l.val / 64 = g.val := by omega
  simp only [e, hg]

theorem gated_at (A5 A6 : FVec Ideal S128x1x256 .f32) (A10 : FVec Ideal S256 .f32) (A11 : FVec Ideal S4x128x128 .f32) (A12 : FVec Ideal S4x128 .f32) (b : Fin 128) (l : Fin 256) :
    gated A5 A6 A10 A11 A12 (ix3 b 0 l) = A5 (ix3 b 0 l) * (normed4 A6 A10 (ix4 b 0 ⟨l.val / 64, by omega⟩ ⟨l.val % 64, by omega⟩) * A11 (ix3 ⟨l.val / 64, by omega⟩ 0 0) + A12 (ix2 ⟨l.val / 64, by omega⟩ 0)) := by
  rw [← lower_at A11 ⟨l.val / 64, by omega⟩]
  pointwise [gated]
  refine congrArg (fun z : EReal => A5 (ix3 b 0 l) * (z + A12 (ix2 ⟨l.val / 64, by omega⟩ 0))) (Fin.sum_univ_one _)

theorem silu256_at (Z : FVec Ideal S128x1x256 .f32) (b : Fin 128) (l : Fin 256) :
    silu256 Z (ix3 b 0 l) = Z (ix3 b 0 l) * Ideal.div 1 (1 + Ideal.exp (-(Z (ix3 b 0 l)))) := by
  pointwise [silu256]

theorem silu512_at (Z : FVec Ideal S128x1x512 .f32) (b : Fin 128) (l : Fin 512) :
    silu512 Z (ix3 b 0 l) = Z (ix3 b 0 l) * Ideal.div 1 (1 + Ideal.exp (-(Z (ix3 b 0 l)))) := by
  pointwise [silu512]

theorem after_at (A0 Y : FVec Ideal S128x1x1024 .f32) (A14 : FVec Ideal S1024 .f32) (b : Fin 128) (l : Fin 1024) :
    after A0 Y A14 (ix3 b 0 l) = A0 (ix3 b 0 l) + Y (ix3 b 0 l) * Ideal.rsqrt (Ideal.div (∑ x : Fin 1024, Y (ix3 b 0 x) * Y (ix3 b 0 x)) (Ideal.ofBits .f32 1149239296#32)
      + Ideal.ofBits .f32 897988541#32) * A14 (ix1 l) := by
  pointwise [after]

theorem out_at (A1 A2 : FVec Ideal S128x1x512 .f32) (A3 A4 A5 A6 A7 : FVec Ideal S128x1x256 .f32) (K : FVec Ideal S128x15x256 .f32) (A8 : FVec Ideal S4x64x64 .f32) (A9 A10 : FVec Ideal S256 .f32)
    (A11 : FVec Ideal S4x128x128 .f32) (A12 : FVec Ideal S4x128 .f32) (A13 : FVec Ideal S1024x1024 .f32) (b : Fin 128) (l : Fin 1024) :
    out A1 A2 A3 K A4 A5 A6 A7 A8 A9 A10 A11 A12 A13 (ix3 b 0 l)
      = ((∑ x : Fin 512, A1 (ix3 b 0 x) * silu512 A2 (ix3 b 0 x) * A13 (ix2 ⟨x.val, by omega⟩ l))
        + ∑ x : Fin 256, mix A3 K A8 A9 (ix3 b 0 x) * silu256 A4 (ix3 b 0 x) * A13 (ix2 ⟨512 + x.val, by omega⟩ l))
        + ∑ x : Fin 256, gated A5 A6 A10 A11 A12 (ix3 b 0 x) * silu256 A7 (ix3 b 0 x) * A13 (ix2 ⟨768 + x.val, by omega⟩ l) := by
  pointwise [out]
  have e512 : ∀ (a b' : Fin 512), a = b' → A1 (ix3 b 0 a) * silu512 A2 (ix3 b 0 a) = A1 (ix3 b 0 b') * silu512 A2 (ix3 b 0 b') := by rintro _ _ rfl; rfl
  have emix : ∀ (a b' : Fin 256), a = b' → mix A3 K A8 A9 (ix3 b 0 a) * silu256 A4 (ix3 b 0 a) = mix A3 K A8 A9 (ix3 b 0 b') * silu256 A4 (ix3 b 0 b') := by rintro _ _ rfl; rfl
  have egat : ∀ (a b' : Fin 256), a = b' → gated A5 A6 A10 A11 A12 (ix3 b 0 a) * silu256 A7 (ix3 b 0 a) = gated A5 A6 A10 A11 A12 (ix3 b 0 b') * silu256 A7 (ix3 b 0 b') := by rintro _ _ rfl; rfl
  refine thirds _ _ _ _ (fun x => ?_) (fun x => ?_) fun x => ?_
  · refine congrArg (fun z => z * A13 (ix2 ⟨x.val, by omega⟩ l)) ?_
    exact (dif_pos x.isLt)
  · refine congrArg (fun z => z * A13 (ix2 ⟨512 + x.val, by omega⟩ l)) ?_
    refine (dif_neg (by simp only; omega)).trans ((dif_pos (by simp only; omega)).trans (emix _ _ (Fin.ext (by simp only; omega))))
  · refine congrArg (fun z => z * A13 (ix2 ⟨768 + x.val, by omega⟩ l)) ?_
    refine (dif_neg (by simp only; omega)).trans ((dif_neg (by simp only; omega)).trans (egat _ _ (Fin.ext (by simp only; omega))))

end Cert.Reference5Ideal.Step
end
-- ==== Proof.StepPoint.lean ====
/- The merge of one layer over one step: each part the body computes, as the reference's at the same row. -/
module

public import proofs.«01_k».proof.Proof.StepEntry
public import proofs.«01_k».proof.Proof.StepAt
public import proofs.«01_k».proof.Proof.MergePoint

@[expose] public section

set_option maxRecDepth 16384

noncomputable section

open Idealize.ShloMosaic Idealize.ShloMosaic.TcCoe Idealize.SL.Sem
open Idealize.ShloMosaic.Pipeline (Dat)
open Cert.Merge
open Cert.Kernel3Ideal.Merge (pool_bd ones_bd pool_bd_apply ones_bd_apply block_sum over_64 silu_half width_word)
open Cert.Reference3Ideal.Merge (wid)
open Cert.Reference5Ideal.Step (row row_kept row_new pooled mix normed4 gated silu256 silu512 after out pooled_at mix_at normed4_at gated_at silu256_at silu512_at after_at out_at)

namespace Cert.Kernel5Ideal.Step

open Cert.Kernel5Ideal Cert.Kernel5Ideal.Gen

theorem width_at (b : Fin 128) (x : Fin 256) : k0_pay3 (ix2 b x) = BitVec.ofNat 32 (wid x.val) := by
  pointwise [k0_pay3]
  exact width_word x

/-- The rows a lane's window holds, added one after the other. -/
theorem widths (x : ℕ) (R : ℕ → EReal) (w : BitVec 32) (hw : w = BitVec.ofNat 32 (wid x)) :
    (R 16 + Scalar.select (IntOp.cmpi .sgt w 1#32) (R 15) 0 + Scalar.select (IntOp.cmpi .sgt w 2#32) (R 14) 0 + Scalar.select (IntOp.cmpi .sgt w 3#32) (R 13) 0 + Scalar.select (IntOp.cmpi .sgt w 4#32) (R 12) 0 + Scalar.select (IntOp.cmpi .sgt w 5#32) (R 11) 0 + Scalar.select (IntOp.cmpi .sgt w 6#32) (R 10) 0 + Scalar.select (IntOp.cmpi .sgt w 7#32) (R 9) 0 + Scalar.select (IntOp.cmpi .sgt w 8#32) (R 8) 0 + Scalar.select (IntOp.cmpi .sgt w 9#32) (R 7) 0 + Scalar.select (IntOp.cmpi .sgt w 10#32) (R 6) 0 + Scalar.select (IntOp.cmpi .sgt w 11#32) (R 5) 0 + Scalar.select (IntOp.cmpi .sgt w 12#32) (R 4) 0 + Scalar.select (IntOp.cmpi .sgt w 13#32) (R 3) 0 + Scalar.select (IntOp.cmpi .sgt w 14#32) (R 2) 0 + Scalar.select (IntOp.cmpi .sgt w 15#32) (R 1) 0) = ∑ k ∈ Finset.range (wid x), R (17 - wid x + k) := by
  have h : wid x = 2 ∨ wid x = 4 ∨ wid x = 8 ∨ wid x = 16 := by unfold wid; split_ifs <;> simp
  rw [hw]
  rcases h with h | h | h | h <;> rw [h]
  · show R 16 + R 15 + 0 + 0 + 0 + 0 + 0 + 0 + 0 + 0 + 0 + 0 + 0 + 0 + 0 + 0 = _
    simp only [add_zero, Finset.sum_range_succ, Finset.sum_range_zero, zero_add, Nat.reduceAdd, Nat.reduceSub]
    try abel
  · show R 16 + R 15 + R 14 + R 13 + 0 + 0 + 0 + 0 + 0 + 0 + 0 + 0 + 0 + 0 + 0 + 0 = _
    simp only [add_zero, Finset.sum_range_succ, Finset.sum_range_zero, zero_add, Nat.reduceAdd, Nat.reduceSub]
    try abel
  · show R 16 + R 15 + R 14 + R 13 + R 12 + R 11 + R 10 + R 9 + 0 + 0 + 0 + 0 + 0 + 0 + 0 + 0 = _
    simp only [add_zero, Finset.sum_range_succ, Finset.sum_range_zero, zero_add, Nat.reduceAdd, Nat.reduceSub]
    try abel
  · show R 16 + R 15 + R 14 + R 13 + R 12 + R 11 + R 10 + R 9 + R 8 + R 7 + R 6 + R 5 + R 4 + R 3 + R 2 + R 1 = _
    simp only [add_zero, Finset.sum_range_succ, Finset.sum_range_zero, zero_add, Nat.reduceAdd, Nat.reduceSub]
    try abel

theorem ld1 (x4 : FVec Ideal S15x128x256 .f32) (b : Fin 128) (l : Fin 256) : View.ld (Val := Elt Ideal) (e' := .f32) x4 r0_1 (ix3 0 b l) = x4 (ix3 ⟨14, by omega⟩ b l) := by
  refine congrArg x4 ?_
  idx_ext

theorem ld2 (x4 : FVec Ideal S15x128x256 .f32) (b : Fin 128) (l : Fin 256) : View.ld (Val := Elt Ideal) (e' := .f32) x4 r0_2 (ix3 0 b l) = x4 (ix3 ⟨13, by omega⟩ b l) := by
  refine congrArg x4 ?_
  idx_ext

theorem ld3 (x4 : FVec Ideal S15x128x256 .f32) (b : Fin 128) (l : Fin 256) : View.ld (Val := Elt Ideal) (e' := .f32) x4 r0_3 (ix3 0 b l) = x4 (ix3 ⟨12, by omega⟩ b l) := by
  refine congrArg x4 ?_
  idx_ext

theorem ld4 (x4 : FVec Ideal S15x128x256 .f32) (b : Fin 128) (l : Fin 256) : View.ld (Val := Elt Ideal) (e' := .f32) x4 r0_4 (ix3 0 b l) = x4 (ix3 ⟨11, by omega⟩ b l) := by
  refine congrArg x4 ?_
  idx_ext

theorem ld5 (x4 : FVec Ideal S15x128x256 .f32) (b : Fin 128) (l : Fin 256) : View.ld (Val := Elt Ideal) (e' := .f32) x4 r0_5 (ix3 0 b l) = x4 (ix3 ⟨10, by omega⟩ b l) := by
  refine congrArg x4 ?_
  idx_ext

theorem ld6 (x4 : FVec Ideal S15x128x256 .f32) (b : Fin 128) (l : Fin 256) : View.ld (Val := Elt Ideal) (e' := .f32) x4 r0_6 (ix3 0 b l) = x4 (ix3 ⟨9, by omega⟩ b l) := by
  refine congrArg x4 ?_
  idx_ext

theorem ld7 (x4 : FVec Ideal S15x128x256 .f32) (b : Fin 128) (l : Fin 256) : View.ld (Val := Elt Ideal) (e' := .f32) x4 r0_7 (ix3 0 b l) = x4 (ix3 ⟨8, by omega⟩ b l) := by
  refine congrArg x4 ?_
  idx_ext

theorem ld8 (x4 : FVec Ideal S15x128x256 .f32) (b : Fin 128) (l : Fin 256) : View.ld (Val := Elt Ideal) (e' := .f32) x4 r0_8 (ix3 0 b l) = x4 (ix3 ⟨7, by omega⟩ b l) := by
  refine congrArg x4 ?_
  idx_ext

theorem ld9 (x4 : FVec Ideal S15x128x256 .f32) (b : Fin 128) (l : Fin 256) : View.ld (Val := Elt Ideal) (e' := .f32) x4 r0_9 (ix3 0 b l) = x4 (ix3 ⟨6, by omega⟩ b l) := by
  refine congrArg x4 ?_
  idx_ext

theorem ld10 (x4 : FVec Ideal S15x128x256 .f32) (b : Fin 128) (l : Fin 256) : View.ld (Val := Elt Ideal) (e' := .f32) x4 r0_10 (ix3 0 b l) = x4 (ix3 ⟨5, by omega⟩ b l) := by
  refine congrArg x4 ?_
  idx_ext

theorem ld11 (x4 : FVec Ideal S15x128x256 .f32) (b : Fin 128) (l : Fin 256) : View.ld (Val := Elt Ideal) (e' := .f32) x4 r0_11 (ix3 0 b l) = x4 (ix3 ⟨4, by omega⟩ b l) := by
  refine congrArg x4 ?_
  idx_ext

theorem ld12 (x4 : FVec Ideal S15x128x256 .f32) (b : Fin 128) (l : Fin 256) : View.ld (Val := Elt Ideal) (e' := .f32) x4 r0_12 (ix3 0 b l) = x4 (ix3 ⟨3, by omega⟩ b l) := by
  refine congrArg x4 ?_
  idx_ext

theorem ld13 (x4 : FVec Ideal S15x128x256 .f32) (b : Fin 128) (l : Fin 256) : View.ld (Val := Elt Ideal) (e' := .f32) x4 r0_13 (ix3 0 b l) = x4 (ix3 ⟨2, by omega⟩ b l) := by
  refine congrArg x4 ?_
  idx_ext

theorem ld14 (x4 : FVec Ideal S15x128x256 .f32) (b : Fin 128) (l : Fin 256) : View.ld (Val := Elt Ideal) (e' := .f32) x4 r0_14 (ix3 0 b l) = x4 (ix3 ⟨1, by omega⟩ b l) := by
  refine congrArg x4 ?_
  idx_ext

theorem ld15 (x4 : FVec Ideal S15x128x256 .f32) (b : Fin 128) (l : Fin 256) : View.ld (Val := Elt Ideal) (e' := .f32) x4 r0_15 (ix3 0 b l) = x4 (ix3 ⟨0, by omega⟩ b l) := by
  refine congrArg x4 ?_
  idx_ext

/-- The pooled rows through their weights, as the body computes them. -/
def mixing (x3 : FVec Ideal S128x256 .f32) (x4 : FVec Ideal S15x128x256 .f32) (x9 : FVec Ideal S256x256 .bf16) (x10 : FVec Ideal S1x256 .f32) : FVec Ideal S128x256 .f32 :=
  k0_pay16 (F := Ideal) (k0_pay2 x3) k0_pay3 (k0_pay12 k0_pay3 (k0_pay8 k0_pay3 (k0_pay4 x3 (View.ld (Val := Elt Ideal) (e' := .f32) x4 r0_1) (View.ld (Val := Elt Ideal) (e' := .f32) x4 r0_2)) k0_pay5 (k0_pay6 (View.ld (Val := Elt Ideal) (e' := .f32) x4 r0_3)) k0_pay7 (View.ld (Val := Elt Ideal) (e' := .f32) x4 r0_4) (View.ld (Val := Elt Ideal) (e' := .f32) x4 r0_5) (View.ld (Val := Elt Ideal) (e' := .f32) x4 r0_6) (View.ld (Val := Elt Ideal) (e' := .f32) x4 r0_7))
    (k0_pay9 k0_pay3) (k0_pay10 (View.ld (Val := Elt Ideal) (e' := .f32) x4 r0_8)) k0_pay11 (View.ld (Val := Elt Ideal) (e' := .f32) x4 r0_9) (View.ld (Val := Elt Ideal) (e' := .f32) x4 r0_10) (View.ld (Val := Elt Ideal) (e' := .f32) x4 r0_11) (View.ld (Val := Elt Ideal) (e' := .f32) x4 r0_12)) (k0_pay13 k0_pay3) (k0_pay14 (View.ld (Val := Elt Ideal) (e' := .f32) x4 r0_13)) k0_pay15 (View.ld (Val := Elt Ideal) (e' := .f32) x4 r0_14) (View.ld (Val := Elt Ideal) (e' := .f32) x4 r0_15) x9 x10

/-- The normed rows, as the body computes them. -/
def norming (x7 : FVec Ideal S128x256 .f32) (x11 : FVec Ideal S1x256 .f32) (x12 : FVec Ideal S256x256 .bf16) : FVec Ideal S128x256 .f32 :=
  k0_pay19 (F := Ideal) (k0_pay17 x7) (k0_pay18 x7 x12) x11

/-- The gated rows, as the body computes them. -/
def gating (x6 x7 : FVec Ideal S128x256 .f32) (x11 : FVec Ideal S1x256 .f32) (x12 : FVec Ideal S256x256 .bf16) (x13 x14 : FVec Ideal S1x256 .f32) : FVec Ideal S128x256 .f32 :=
  k0_pay20 (F := Ideal) (k0_pay17 x7) (k0_pay18 x7 x12) x11 x6 x13 x14

abbrev wo0 (x15 : FVec Ideal S1024x1024 .bf16) := View.ld (Val := Elt Ideal) (e' := .bf16) x15 r0_21
abbrev wo1 (x15 : FVec Ideal S1024x1024 .bf16) := View.ld (Val := Elt Ideal) (e' := .bf16) x15 r0_22
abbrev wo2 (x15 : FVec Ideal S1024x1024 .bf16) := View.ld (Val := Elt Ideal) (e' := .bf16) x15 r0_23

theorem wo0_at (x15 : FVec Ideal S1024x1024 .bf16) (x : Fin 512) (l : Fin 1024) : wo0 x15 (ix2 x l) = x15 (ix2 ⟨x.val, by omega⟩ l) := by
  refine congrArg x15 ?_
  idx_ext

theorem wo1_at (x15 : FVec Ideal S1024x1024 .bf16) (x : Fin 256) (l : Fin 1024) : wo1 x15 (ix2 x l) = x15 (ix2 ⟨512 + x.val, by omega⟩ l) := by
  refine congrArg x15 ?_
  idx_ext

theorem wo2_at (x15 : FVec Ideal S1024x1024 .bf16) (x : Fin 256) (l : Fin 1024) : wo2 x15 (ix2 x l) = x15 (ix2 ⟨768 + x.val, by omega⟩ l) := by
  refine congrArg x15 ?_
  idx_ext

section
variable (A : FVec Ideal Cert.Reference5Ideal.S128x1x256 .f32) (K : FVec Ideal Cert.Reference5Ideal.S128x15x256 .f32)

theorem lane_sum (x3 : FVec Ideal S128x256 .f32) (x4 : FVec Ideal S15x128x256 .f32) (b : Fin 128) (h3 : ∀ l : Fin 256, x3 (ix2 b l) = A (ix3 b 0 l))
    (h4 : ∀ (k : Fin 15) (l : Fin 256), x4 (ix3 k b l) = K (ix3 b k l)) (x : Fin 256) :
    x3 (ix2 b x) + Scalar.select (IntOp.cmpi .sgt (k0_pay3 (ix2 b x)) 1#32) (x4 (ix3 ⟨14, by omega⟩ b x)) 0 + Scalar.select (IntOp.cmpi .sgt (k0_pay3 (ix2 b x)) 2#32) (x4 (ix3 ⟨13, by omega⟩ b x)) 0 + Scalar.select (IntOp.cmpi .sgt (k0_pay3 (ix2 b x)) 3#32) (x4 (ix3 ⟨12, by omega⟩ b x)) 0 + Scalar.select (IntOp.cmpi .sgt (k0_pay3 (ix2 b x)) 4#32) (x4 (ix3 ⟨11, by omega⟩ b x)) 0 + Scalar.select (IntOp.cmpi .sgt (k0_pay3 (ix2 b x)) 5#32) (x4 (ix3 ⟨10, by omega⟩ b x)) 0 + Scalar.select (IntOp.cmpi .sgt (k0_pay3 (ix2 b x)) 6#32) (x4 (ix3 ⟨9, by omega⟩ b x)) 0 + Scalar.select (IntOp.cmpi .sgt (k0_pay3 (ix2 b x)) 7#32) (x4 (ix3 ⟨8, by omega⟩ b x)) 0 + Scalar.select (IntOp.cmpi .sgt (k0_pay3 (ix2 b x)) 8#32) (x4 (ix3 ⟨7, by omega⟩ b x)) 0 + Scalar.select (IntOp.cmpi .sgt (k0_pay3 (ix2 b x)) 9#32) (x4 (ix3 ⟨6, by omega⟩ b x)) 0 + Scalar.select (IntOp.cmpi .sgt (k0_pay3 (ix2 b x)) 10#32) (x4 (ix3 ⟨5, by omega⟩ b x)) 0 + Scalar.select (IntOp.cmpi .sgt (k0_pay3 (ix2 b x)) 11#32) (x4 (ix3 ⟨4, by omega⟩ b x)) 0 + Scalar.select (IntOp.cmpi .sgt (k0_pay3 (ix2 b x)) 12#32) (x4 (ix3 ⟨3, by omega⟩ b x)) 0 + Scalar.select (IntOp.cmpi .sgt (k0_pay3 (ix2 b x)) 13#32) (x4 (ix3 ⟨2, by omega⟩ b x)) 0 + Scalar.select (IntOp.cmpi .sgt (k0_pay3 (ix2 b x)) 14#32) (x4 (ix3 ⟨1, by omega⟩ b x)) 0 + Scalar.select (IntOp.cmpi .sgt (k0_pay3 (ix2 b x)) 15#32) (x4 (ix3 ⟨0, by omega⟩ b x)) 0
      = ∑ k ∈ Finset.range (wid x.val), row A K b x (17 - wid x.val + k) := by
  rw [← widths x.val (row A K b x) (k0_pay3 (ix2 b x)) (width_at b x)]
  rw [row_new A K b x 16 rfl, row_kept A K b x 1 ⟨by omega, by omega⟩, row_kept A K b x 2 ⟨by omega, by omega⟩, row_kept A K b x 3 ⟨by omega, by omega⟩, row_kept A K b x 4 ⟨by omega, by omega⟩, row_kept A K b x 5 ⟨by omega, by omega⟩, row_kept A K b x 6 ⟨by omega, by omega⟩, row_kept A K b x 7 ⟨by omega, by omega⟩, row_kept A K b x 8 ⟨by omega, by omega⟩, row_kept A K b x 9 ⟨by omega, by omega⟩, row_kept A K b x 10 ⟨by omega, by omega⟩, row_kept A K b x 11 ⟨by omega, by omega⟩, row_kept A K b x 12 ⟨by omega, by omega⟩, row_kept A K b x 13 ⟨by omega, by omega⟩, row_kept A K b x 14 ⟨by omega, by omega⟩, row_kept A K b x 15 ⟨by omega, by omega⟩]
  simp only [h3, h4]
  first | done | rfl

theorem mixing_at (hA : ∀ i, Fin' (A i)) (hK : ∀ i, Fin' (K i)) (W : FVec Ideal Cert.Reference5Ideal.S4x64x64 .f32) (S : FVec Ideal Cert.Reference5Ideal.S256 .f32)
    (x3 : FVec Ideal S128x256 .f32) (x4 : FVec Ideal S15x128x256 .f32) (x10 : FVec Ideal S1x256 .f32) (b : Fin 128) (h3 : ∀ l : Fin 256, x3 (ix2 b l) = A (ix3 b 0 l))
    (h4 : ∀ (k : Fin 15) (l : Fin 256), x4 (ix3 k b l) = K (ix3 b k l)) (h10 : ∀ l : Fin 256, x10 (ix2 0 l) = S (ix1 l)) (l : Fin 256) :
    mixing x3 x4 (pool_bd W) x10 (ix2 b l) = mix A K W S (ix3 b 0 l) := by
  rw [mix_at]
  pointwise [mixing, k0_pay16, k0_pay12, k0_pay8, k0_pay4, k0_pay5, k0_pay6, k0_pay7, k0_pay9, k0_pay10, k0_pay11, k0_pay13, k0_pay14, k0_pay15, k0_pay2]
  refine congrArg₂ (fun p q : EReal => p * q) ?_ (h10 l)
  refine (Finset.sum_congr rfl fun x _ => congrArg₂ (fun p q : EReal => p * q) (?_ : _ = pooled A K (ix3 b 0 x)) (pool_bd_apply W x l)).trans ?_
  · rw [pooled_at A K hA hK b x]
    refine congrArg₂ (fun p q : EReal => p - q) (congrArg₂ (fun p q : EReal => Ideal.div p q) (Eq.trans ?_ (lane_sum A K x3 x4 b h3 h4 x)) (congrArg _ (width_at b x))) (h3 x)
    first | rfl | simp only [fun l => ld1 x4 b l, fun l => ld2 x4 b l, fun l => ld3 x4 b l, fun l => ld4 x4 b l, fun l => ld5 x4 b l, fun l => ld6 x4 b l, fun l => ld7 x4 b l, fun l => ld8 x4 b l, fun l => ld9 x4 b l, fun l => ld10 x4 b l, fun l => ld11 x4 b l, fun l => ld12 x4 b l, fun l => ld13 x4 b l, fun l => ld14 x4 b l, fun l => ld15 x4 b l]
  refine (block_sum (fun x => pooled A K (ix3 b 0 x)) (fun x => W (ix3 ⟨l.val / 64, by omega⟩ ⟨x.val % 64, by omega⟩ ⟨l.val % 64, by omega⟩)) ⟨l.val / 64, by omega⟩).trans ?_
  refine Finset.sum_congr rfl fun y _ => ?_
  rw [mul_comm]
  refine congrArg₂ (fun p q : EReal => p * q) (congrArg W ?_) rfl
  congr 1
  exact Fin.ext (by simp only; omega)

theorem norming_at (V : FVec Ideal Cert.Reference5Ideal.S128x1x256 .f32) (G : FVec Ideal Cert.Reference5Ideal.S256 .f32) (hV : ∀ i, Fin' (V i))
    (x7 : FVec Ideal S128x256 .f32) (x11 : FVec Ideal S1x256 .f32) (b : Fin 128) (h7 : ∀ l : Fin 256, x7 (ix2 b l) = V (ix3 b 0 l)) (h11 : ∀ l : Fin 256, x11 (ix2 0 l) = G (ix1 l)) (l : Fin 256) :
    norming x7 x11 ones_bd (ix2 b l) = normed4 V G (ix4 b 0 ⟨l.val / 64, by omega⟩ ⟨l.val % 64, by omega⟩) := by
  rw [normed4_at _ _ b _ _ l (by simp only; omega)]
  pointwise [norming, k0_pay19, k0_pay18, k0_pay17]
  simp only [h7, h11]
  have hz : ∀ x : Fin 256, V (ix3 b 0 x) * V (ix3 b 0 x) - V (ix3 b 0 x) * V (ix3 b 0 x) = 0 := fun x => sub_self_of_fin (fin_mul (hV _) (hV _))
  simp only [hz, zero_mul, Finset.sum_const_zero, add_zero, ones_bd_apply]
  rw [block_sum (fun x => V (ix3 b 0 x) * V (ix3 b 0 x)) (fun _ => 1) ⟨l.val / 64, by omega⟩, over_64]
  simp only [mul_one]

theorem gating_at (U V : FVec Ideal Cert.Reference5Ideal.S128x1x256 .f32) (G : FVec Ideal Cert.Reference5Ideal.S256 .f32) (hV : ∀ i, Fin' (V i))
    (W : FVec Ideal Cert.Reference5Ideal.S4x128x128 .f32) (B : FVec Ideal Cert.Reference5Ideal.S4x128 .f32)
    (x6 x7 : FVec Ideal S128x256 .f32) (x11 : FVec Ideal S1x256 .f32) (b : Fin 128) (h6 : ∀ l : Fin 256, x6 (ix2 b l) = U (ix3 b 0 l)) (h7 : ∀ l : Fin 256, x7 (ix2 b l) = V (ix3 b 0 l))
    (h11 : ∀ l : Fin 256, x11 (ix2 0 l) = G (ix1 l)) (l : Fin 256) :
    gating x6 x7 x11 ones_bd (w0 W) (b0 B) (ix2 b l) = gated U V G W B (ix3 b 0 l) := by
  rw [gated_at, ← norming_at V G hV x7 x11 b h7 h11 l, ← w0_apply W l, ← b0_apply B l, ← h6 l, mul_comm (norming _ _ _ _)]
  unfold gating norming
  generalize k0_pay18 (F := Ideal) x7 ones_bd = s
  generalize k0_pay17 (F := Ideal) x7 = v
  pointwise [k0_pay20]

theorem output_at (Y Z : FVec Ideal Cert.Reference5Ideal.S128x1x512 .f32) (B U V C : FVec Ideal Cert.Reference5Ideal.S128x1x256 .f32) (W : FVec Ideal Cert.Reference5Ideal.S4x64x64 .f32)
    (S G : FVec Ideal Cert.Reference5Ideal.S256 .f32) (WS : FVec Ideal Cert.Reference5Ideal.S4x128x128 .f32) (BS : FVec Ideal Cert.Reference5Ideal.S4x128 .f32) (O : FVec Ideal Cert.Reference5Ideal.S1024x1024 .f32)
    (x1 x2 : FVec Ideal S128x512 .f32) (x5 x8 M N : FVec Ideal S128x256 .f32) (x15 : FVec Ideal S1024x1024 .bf16) (b : Fin 128)
    (h1 : ∀ l : Fin 512, x1 (ix2 b l) = Y (ix3 b 0 l)) (h2 : ∀ l : Fin 512, x2 (ix2 b l) = Z (ix3 b 0 l)) (h5 : ∀ l : Fin 256, x5 (ix2 b l) = B (ix3 b 0 l)) (h8 : ∀ l : Fin 256, x8 (ix2 b l) = C (ix3 b 0 l))
    (hM : ∀ l : Fin 256, M (ix2 b l) = mix A K W S (ix3 b 0 l)) (hN : ∀ l : Fin 256, N (ix2 b l) = gated U V G WS BS (ix3 b 0 l)) (hO : ∀ x l : Fin 1024, x15 (ix2 x l) = O (ix2 x l)) (l : Fin 1024) :
    k0_pay27 (F := Ideal) M N (k0_pay22 x1) (k0_pay23 x2) (k0_pay24 x5) (k0_pay25 x8) (Scalar.ofBits .f32 0x3F000000#32) (wo0 x15) (wo1 x15) (wo2 x15) (ix2 b l)
      = out Y Z A K B U V C W S G WS BS O (ix3 b 0 l) := by
  rw [out_at]
  pointwise [k0_pay27, k0_pay22, k0_pay23, k0_pay24, k0_pay25]
  refine congrArg₂ (fun p q : EReal => p + q) (congrArg₂ (fun p q : EReal => p + q) (Finset.sum_congr rfl fun x _ => congrArg₂ (fun p q : EReal => p * q) (congrArg₂ (fun p q : EReal => p * q) (h1 x) ?_) ((wo0_at x15 x l).trans (hO _ _)))
      (Finset.sum_congr rfl fun x _ => congrArg₂ (fun p q : EReal => p * q) (congrArg₂ (fun p q : EReal => p * q) (hM x) ?_) ((wo1_at x15 x l).trans (hO _ _))))
      (Finset.sum_congr rfl fun x _ => congrArg₂ (fun p q : EReal => p * q) (congrArg₂ (fun p q : EReal => p * q) (hN x) ?_) ((wo2_at x15 x l).trans (hO _ _)))
  · rw [silu512_at]
    exact (silu_half _).trans (congrArg (fun z => z * Ideal.div 1 (1 + Ideal.exp (-z))) (h2 x))
  · rw [silu256_at]
    exact (silu_half _).trans (congrArg (fun z => z * Ideal.div 1 (1 + Ideal.exp (-z))) (h5 x))
  · rw [silu256_at]
    exact (silu_half _).trans (congrArg (fun z => z * Ideal.div 1 (1 + Ideal.exp (-z))) (h8 x))
end

theorem norm_of (b : Fin 128) (x0 P : FVec Ideal S128x1024 .f32) (x16 : FVec Ideal S1x1024 .f32) (X Y : FVec Ideal Cert.Reference5Ideal.S128x1x1024 .f32) (G : FVec Ideal Cert.Reference5Ideal.S1024 .f32)
    (h0 : ∀ l : Fin 1024, x0 (ix2 b l) = X (ix3 b 0 l)) (hP : ∀ l : Fin 1024, P (ix2 b l) = Y (ix3 b 0 l)) (hG : ∀ l : Fin 1024, x16 (ix2 0 l) = G (ix1 l)) (l : Fin 1024) :
    k0_pay1 (F := Ideal) (k0_pay21 x0) (k0_pay26 x16) P (mulf P P) (ix2 b l) = after X Y G (ix3 b 0 l) := by
  rw [after_at]
  pointwise [k0_pay1, k0_pay21, k0_pay26]
  simp only [h0, hP, hG]

end Cert.Kernel5Ideal.Step
end
-- ==== Proof.StepFinal.lean ====
/- The merge of one layer over one step: its two results after the run are the reference's. -/
module

public import proofs.«01_k».proof.Proof.StepPoint
public import proofs.«01_k».proof.Proof.MergeFinal
public import proofs.«01_k».proof.Proof.Gen.Pre_finite_sample

@[expose] public section

set_option maxRecDepth 16384

noncomputable section

open Idealize.ShloMosaic Idealize.ShloMosaic.TcCoe Idealize.SL.Sem
open Idealize.ShloMosaic.Pipeline (Dat)
open Cert.Merge
open Cert.Kernel3Ideal.Merge (pool_bd ones_bd below_inf)
open Cert.Reference5Ideal.Step (mix normed4 gated after out)

namespace Cert.Kernel5Ideal.Step

open Cert.Kernel5Ideal Cert.Kernel5Ideal.Gen

/-- The finiteness of the rows the precondition names. -/
theorem finite_entries [Cert.Pre_finite_sample.Facts] (x0 x1 x2 x3 x4 x5 x6 x7 x8 x9 x10 x11 x12 x13 x14 x15)
    (h : Cert.Pre_finite_sample.fn (F := Ideal) x0 x1 x2 x3 x4 x5 x6 x7 x8 x9 x10 x11 x12 x13 x14 x15 = fun _ => 1#1) : (∀ i, Fin' (x3 i)) ∧ (∀ i, Fin' (x4 i)) ∧ ∀ i, Fin' (x7 i) := by
  have hb := congrFun h ix0
  obtain ⟨hb, h7⟩ := IntOp.andi_eq_one.1 hb
  obtain ⟨h3, h4⟩ := IntOp.andi_eq_one.1 hb
  haveI : Subsingleton (Cert.Pre_finite_sample.S_).Idx := ⟨fun a b => funext fun i => i.elim0⟩
  exact ⟨fun i => below_inf _ (Host.reduce_andi_all _ _ _ _ _ h3 i), fun i => below_inf _ (Host.reduce_andi_all _ _ _ _ _ h4 i), fun i => below_inf _ (Host.reduce_andi_all _ _ _ _ _ h7 i)⟩

variable (m : (ℓ : Loc nD τ sig) → Buf (Elt Ideal) ℓ) (c : Dev nD)

/-- The rows the reference leaves. -/
def ref_xs : FVec Ideal Cert.Reference5Ideal.S128x1024 .f32 :=
  shapeCast _ (after (in0 m c) (out (in1 m c) (in2 m c) (in3 m c) (in4 m c) (in5 m c) (in6 m c) (in7 m c) (in8 m c) (in9 m c) (in10 m c) (in11 m c) (in12 m c) (in13 m c) (in14 m c)) (in15 m c)) Cert.Reference5Ideal.Gen.shapeCasts_S128x1x1024_S128x1024

/-- The normed rows the reference leaves. -/
def ref_vn : FVec Ideal Cert.Reference5Ideal.S128x256 .f32 :=
  shapeCast _ (shapeCast Cert.Reference5Ideal.S128x1x256 (normed4 (in7 m c) (in11 m c)) Cert.Reference5Ideal.Gen.shapeCasts_S128x1x4x64_S128x1x256)
    Cert.Reference5Ideal.Gen.shapeCasts_S128x1x256_S128x256

theorem ref_xs_at (i : Cert.Reference5Ideal.S128x1024.Idx) (b : Fin 128) (l : Fin 1024) (hb : b.val = (i 0 : ℕ)) (hl : l.val = (i 1 : ℕ)) :
    ref_xs m c i = after (in0 m c) (out (in1 m c) (in2 m c) (in3 m c) (in4 m c) (in5 m c) (in6 m c) (in7 m c) (in8 m c) (in9 m c) (in10 m c) (in11 m c) (in12 m c) (in13 m c) (in14 m c)) (in15 m c) (ix3 b 0 l) := by
  pointwise [ref_xs]
  refine congrArg _ ?_
  idx_ext

theorem ref_vn_at (i : Cert.Reference5Ideal.S128x256.Idx) (b : Fin 128) (l : Fin 256) (hb : b.val = (i 0 : ℕ)) (hl : l.val = (i 1 : ℕ)) :
    ref_vn m c i = normed4 (in7 m c) (in11 m c) (ix4 b 0 ⟨l.val / 64, by omega⟩ ⟨l.val % 64, by omega⟩) := by
  pointwise [ref_vn]
  refine congrArg _ ?_
  idx_ext

/-- The output rows, as the body computes them. -/
def outing (x1 x2 : FVec Ideal S128x512 .f32) (x3 : FVec Ideal S128x256 .f32) (x4 : FVec Ideal S15x128x256 .f32) (x5 x6 x7 x8 : FVec Ideal S128x256 .f32)
    (x9 : FVec Ideal S256x256 .bf16) (x10 x11 : FVec Ideal S1x256 .f32) (x12 : FVec Ideal S256x256 .bf16) (x13 x14 : FVec Ideal S1x256 .f32) (x15 : FVec Ideal S1024x1024 .bf16) : FVec Ideal S128x1024 .f32 :=
  k0_pay27 (F := Ideal) (mixing x3 x4 x9 x10) (gating x6 x7 x11 x12 x13 x14) (k0_pay22 x1) (k0_pay23 x2) (k0_pay24 x5) (k0_pay25 x8) (Scalar.ofBits .f32 0x3F000000#32) (wo0 x15) (wo1 x15) (wo2 x15)

/-- The rows after the merge, as the body computes them. -/
def merging (x0 : FVec Ideal S128x1024 .f32) (x16 : FVec Ideal S1x1024 .f32) (P : FVec Ideal S128x1024 .f32) : FVec Ideal S128x1024 .f32 :=
  k0_pay1 (F := Ideal) (k0_pay21 x0) (k0_pay26 x16) P (mulf P P)

theorem point17 (hA : ∀ i, Fin' (in3 m c i)) (hK : ∀ i, Fin' (in4 m c i)) (hV : ∀ i, Fin' (in7 m c i)) (t : Fin cfg0.N) (r : Fin 128) (l : Fin 1024) (i : S128x1024.Idx)
    (h0 : (i 0 : ℕ) = r.val) (h1 : (i 1 : ℕ) = l.val) :
    merging (iblk m c 0 t) (iblk m c 16 t) (outing (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t)) (ix2 r l) = ref_xs m c i := by
  rw [ref_xs_at m c i r l h0.symm h1.symm]
  have e9 : iblk m c 9 t = pool_bd (in9 m c) := pool_at m c t
  have e12 : iblk m c 12 t = ones_bd := ones_at m c t
  have e13 : iblk m c 13 t = w0 (in12 m c) := ws_at m c t
  have e14 : iblk m c 14 t = b0 (in13 m c) := bs_at m c t
  rw [e9, e12, e13, e14]
  refine norm_of r _ _ _ _ _ _ (fun l => rows0_at m c t r l) (fun l => ?_) (fun l => gpost_at m c t l) l
  exact output_at (in3 m c) (in4 m c) _ _ _ _ _ _ _ _ _ _ _ _ _ _ _ _ _ _ _ r (fun l => rows1_at m c t r l) (fun l => rows2_at m c t r l) (fun l => rows5_at m c t r l) (fun l => rows8_at m c t r l)
    (fun l => mixing_at _ _ hA hK _ _ _ _ _ r (fun l => rows3_at m c t r l) (fun k l => kept_at m c t k r l) (fun l => scale_at m c t l) l)
    (fun l => gating_at _ _ _ hV _ _ _ _ _ r (fun l => rows6_at m c t r l) (fun l => rows7_at m c t r l) (fun l => gnorm_at m c t l) l)
    (fun x l => congrFun (wo_at m c t) (ix2 x l)) l

theorem point18 (hV : ∀ i, Fin' (in7 m c i)) (t : Fin cfg0.N) (r : Fin 128) (l : Fin 256) (i : S128x256.Idx)
    (h0 : (i 0 : ℕ) = r.val) (h1 : (i 1 : ℕ) = l.val) :
    norming (iblk m c 7 t) (iblk m c 11 t) (iblk m c 12 t) (ix2 r l) = ref_vn m c i := by
  rw [ref_vn_at m c i r l h0.symm h1.symm]
  have e12 : iblk m c 12 t = ones_bd := ones_at m c t
  rw [e12]
  exact norming_at _ _ hV _ _ r (fun l => rows7_at m c t r l) (fun l => gnorm_at m c t l) l

set_option maxHeartbeats 4000000 in
/-- The normed rows after the run are the reference's. -/
theorem final_vn (hV : ∀ i, Fin' (in7 m c i)) : (dats m 0 c).arrAt 18 cfg0.N = ref_vn m c := by
  refine (dats m 0 c).arrAt_eq_of_covers 18 _ (by decide +kernel) fun t _ y => ?_
  blk_simp
  rw [after0_18]
  unfold out0_18 k0_pay31 k0_pay32
  frame_out
  refine (congrArg _ (eq_ix2 y)).trans (point18 m c hV t (y 0) (y 1) _ ?_ ?_)
  all_goals blk_simp [idx t]
  all_goals (try omega)

set_option maxHeartbeats 4000000 in
/-- The rows after the run are the reference's. -/
theorem final_xs (hA : ∀ i, Fin' (in3 m c i)) (hK : ∀ i, Fin' (in4 m c i)) (hV : ∀ i, Fin' (in7 m c i)) : (dats m 0 c).arrAt 17 cfg0.N = ref_xs m c := by
  refine (dats m 0 c).arrAt_eq_of_covers 17 _ (by decide +kernel) fun t _ y => ?_
  blk_simp
  rw [after0_17]
  unfold out0_17 k0_pay37 k0_pay36 k0_pay35 k0_pay34 k0_pay33 k0_pay32 k0_pay31 k0_pay30 k0_pay29
  frame_out
  refine (congrArg _ (eq_ix2 y)).trans (point17 m c hA hK hV t (y 0) (y 1) _ ?_ ?_)
  all_goals blk_simp [idx t]
  all_goals (try omega)

end Cert.Kernel5Ideal.Step
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KRun
public import proofs.«01_k».proof.Proof.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame.Runs
public import proofs.«01_k».proof.Proof.Gen.Kernel3Ideal
public import proofs.«01_k».proof.Proof.Gen.Kernel3Ideal.Frame.Runs
public import proofs.«01_k».proof.Proof.Gen.Reference3Ideal.Run
public import proofs.«01_k».proof.Proof.Gen.Pre_finite
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Pre_finite_sample
public import proofs.«01_k».proof.Proof.KMergeFrame
public import proofs.«01_k».proof.Proof.MergeBlocks
public import proofs.«01_k».proof.Proof.MergeFinal
public import proofs.«01_k».proof.Proof.Proj
public import Idealize.ShloMosaic.Lib.Claim
public import Idealize.ShloMosaic.Lib.Quiescent
public import Idealize.ShloMosaic.Adequacy
public import Idealize.ShloMosaic.Init
public import proofs.«01_k».proof.Proof.Proj4
public import proofs.«01_k».proof.Proof.Win
public import proofs.«01_k».proof.Proof.Comp
public import proofs.«01_k».proof.Proof.StepFinal

@[expose] public section

noncomputable section

namespace Cert.Proof

open Idealize.ShloMosaic Idealize.SL.Sem Cert.Kernel

/-- The printed kernel's frame. -/
theorem frame_kernel : Cert.quiescent_Kernel (hKernel := Cert.Kernel.Gen.facts) := fun m ρ _ =>
  Cert.Kernel.Attn.run_main (F := Bits) m ρ

/-- The idealized kernel's frame. -/
theorem frame_kernelIdeal : Cert.quiescent_KernelIdeal (hKernelIdeal := Cert.KernelIdeal.Gen.facts) := fun m ρ _ =>
  Cert.KernelIdeal.Attn.run_main (F := Ideal) m ρ

/-- The printed projection's frame. -/
theorem frame_kernel2 : Cert.quiescent_Kernel2 (hKernel2 := Cert.Kernel2.Gen.facts) := fun m ρ _ =>
  Cert.Kernel2.Gen.frame m ρ

/-- The idealized projection's frame. -/
theorem frame_kernel2Ideal : Cert.quiescent_Kernel2Ideal (hKernel2Ideal := Cert.Kernel2Ideal.Gen.facts) := fun m ρ _ =>
  Cert.Kernel2Ideal.Gen.frame m ρ

/-- The frame of the projection's reference. -/
theorem frame_reference2Ideal : Cert.quiescent_Reference2Ideal (hReference2Ideal := Cert.Reference2Ideal.Gen.facts) := fun m g _ =>
  (θ_run _ _ _).mono (fun r h => ⟨fun c => (h c).2.2.2.2.2.2.2.2.2.2.2, sem_eq_zero_of_no_sems (by decide) r.2⟩)
    (Cert.Reference2Ideal.Value.run (F := Ideal) m g)

/-- The projection's eleven results are the reference's over the extended reals. -/
theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    · exact (Cert.Kernel2Ideal.Proj.final_q m c).symm
    · exact (Cert.Kernel2Ideal.Proj.final_kc m c).symm
    · exact (Cert.Kernel2Ideal.Proj.final_ks m c).symm
    · exact (Cert.Kernel2Ideal.Proj.final_kw m c).symm
    · exact (Cert.Kernel2Ideal.Proj.final_za m c).symm
    · exact (Cert.Kernel2Ideal.Proj.final_pin m c).symm
    · exact (Cert.Kernel2Ideal.Proj.final_zb m c).symm
    · exact (Cert.Kernel2Ideal.Proj.final_u m c).symm
    · exact (Cert.Kernel2Ideal.Proj.final_v m c).symm
    · exact (Cert.Kernel2Ideal.Proj.final_zc m c).symm
    · exact (Cert.Kernel2Ideal.Proj.final_gl m c).symm

/-- The printed merge's frame. -/
theorem frame_kernel3 : Cert.quiescent_Kernel3 (hKernel3 := Cert.Kernel3.Gen.facts) := fun m ρ _ =>
  Cert.Kernel3.Merge.frame m ρ

/-- The idealized merge's frame. -/
theorem frame_kernel3Ideal : Cert.quiescent_Kernel3Ideal (hKernel3Ideal := Cert.Kernel3Ideal.Gen.facts) := fun m ρ _ =>
  Cert.Kernel3Ideal.Merge.frame m ρ

/-- The idealized merge's frame, on finite rows. -/
theorem frame_kernel3Ideal_finite : Cert.quiescent_Kernel3Ideal_pre_finite (hKernel3Ideal := Cert.Kernel3Ideal.Gen.facts)
    (hPre_finite := Cert.Pre_finite.Gen.facts) := fun m ρ _ => Cert.Kernel3Ideal.Merge.frame m ρ

/-- The frame of the merge's reference. -/
theorem frame_reference3Ideal : Cert.quiescent_Reference3Ideal (hReference3Ideal := Cert.Reference3Ideal.Gen.facts) := fun m g _ =>
  (θ_run _ _ _).mono (fun r h => ⟨fun c => (h c).2.2, sem_eq_zero_of_no_sems (by decide) r.2⟩)
    (Cert.Reference3Ideal.Value.run (F := Ideal) m g)

/-- The frame of the merge's reference, on finite rows. -/
theorem frame_reference3Ideal_finite : Cert.quiescent_Reference3Ideal_pre_finite (hReference3Ideal := Cert.Reference3Ideal.Gen.facts)
    (hPre_finite := Cert.Pre_finite.Gen.facts) := fun m g _ =>
  (θ_run _ _ _).mono (fun r h => ⟨fun c => (h c).2.2, sem_eq_zero_of_no_sems (by decide) r.2⟩)
    (Cert.Reference3Ideal.Value.run (F := Ideal) m g)

/-- The merge's two results are the reference's over the extended reals, on finite rows. -/
theorem algebraic3 : Cert.algebraic_Kernel3Ideal_Reference3Ideal_pre_finite (hKernel3Ideal := Cert.Kernel3Ideal.Gen.facts)
    (hReference3Ideal := Cert.Reference3Ideal.Gen.facts) (hPre_finite := Cert.Pre_finite.Gen.facts) := by
  pair_intro
  · run_from Cert.Kernel3Ideal.Merge.run_blocks m g
  · run_from Cert.Reference3Ideal.Value.run m' g'
    · obtain ⟨h0, h1, h2, h3, h4, h5, h6, h7, h8, h9, h10, h11, h12, h13, h14⟩ := hagree c
      refine Eq.trans ?_ (Cert.Kernel3Ideal.Merge.final_xp m c (Cert.Kernel3Ideal.Merge.finite_entries _ _ _ _ _ _ _ _ _ _ _ _ _ _ _ (hpre c)).1
        (Cert.Kernel3Ideal.Merge.finite_entries _ _ _ _ _ _ _ _ _ _ _ _ _ _ _ (hpre c)).2).symm
      refine (Cert.Reference3Ideal.Merge.res_eq m' c).trans ?_
      rw [h0, h1, h2, h3, h4, h5, h6, h7, h8, h9, h10, h11, h12, h13, h14]
      rfl
    · exact (Cert.Kernel3Ideal.Merge.final_vn m c (Cert.Kernel3Ideal.Merge.finite_entries _ _ _ _ _ _ _ _ _ _ _ _ _ _ _ (hpre c)).2).symm

/-- The printed step projection's frame. -/
theorem frame_kernel4 : Cert.quiescent_Kernel4 (hKernel4 := Cert.Kernel4.Gen.facts) := fun m ρ _ =>
  Cert.Kernel4.Gen.frame m ρ

/-- The idealized step projection's frame. -/
theorem frame_kernel4Ideal : Cert.quiescent_Kernel4Ideal (hKernel4Ideal := Cert.Kernel4Ideal.Gen.facts) := fun m ρ _ =>
  Cert.Kernel4Ideal.Gen.frame m ρ

/-- The frame of the step projection's reference. -/
theorem frame_reference4Ideal : Cert.quiescent_Reference4Ideal (hReference4Ideal := Cert.Reference4Ideal.Gen.facts) := fun m g _ =>
  (θ_run _ _ _).mono (fun r h => ⟨fun c => (h c).2.2.2.2.2.2.2.2.2.2.2.2.2.2, sem_eq_zero_of_no_sems (by decide) r.2⟩)
    (Cert.Reference4Ideal.Value.run (F := Ideal) m g)

set_option maxHeartbeats 4000000 in
/-- The step projection's fourteen results are the reference's over the extended reals. -/
theorem algebraic4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · exact (Cert.Kernel4Ideal.Proj.final_q m c).symm
    · exact (Cert.Kernel4Ideal.Proj.final_kct m c).symm
    · exact (Cert.Kernel4Ideal.Proj.final_kc m c).symm
    · exact (Cert.Kernel4Ideal.Proj.final_kst m c).symm
    · exact (Cert.Kernel4Ideal.Proj.final_ks m c).symm
    · exact (Cert.Kernel4Ideal.Proj.final_kwt m c).symm
    · exact (Cert.Kernel4Ideal.Proj.final_kw m c).symm
    · exact (Cert.Kernel4Ideal.Proj.final_za m c).symm
    · exact (Cert.Kernel4Ideal.Proj.final_pin m c).symm
    · exact (Cert.Kernel4Ideal.Proj.final_zb m c).symm
    · exact (Cert.Kernel4Ideal.Proj.final_u m c).symm
    · exact (Cert.Kernel4Ideal.Proj.final_v m c).symm
    · exact (Cert.Kernel4Ideal.Proj.final_zc m c).symm
    · exact (Cert.Kernel4Ideal.Proj.final_gl m c).symm

/-- The printed step merge's frame. -/
theorem frame_kernel5 : Cert.quiescent_Kernel5 (hKernel5 := Cert.Kernel5.Gen.facts) := fun m ρ _ =>
  Cert.Kernel5.Gen.frame m ρ

/-- The idealized step merge's frame. -/
theorem frame_kernel5Ideal : Cert.quiescent_Kernel5Ideal (hKernel5Ideal := Cert.Kernel5Ideal.Gen.facts) := fun m ρ _ =>
  Cert.Kernel5Ideal.Gen.frame m ρ

/-- The idealized step merge's frame, on finite rows. -/
theorem frame_kernel5Ideal_finite : Cert.quiescent_Kernel5Ideal_pre_finite_sample (hKernel5Ideal := Cert.Kernel5Ideal.Gen.facts)
    (hPre_finite_sample := Cert.Pre_finite_sample.Gen.facts) := fun m ρ _ => Cert.Kernel5Ideal.Gen.frame m ρ

/-- The frame of the step merge's reference. -/
theorem frame_reference5Ideal : Cert.quiescent_Reference5Ideal (hReference5Ideal := Cert.Reference5Ideal.Gen.facts) := fun m g _ =>
  (θ_run _ _ _).mono (fun r h => ⟨fun c => (h c).2.2, sem_eq_zero_of_no_sems (by decide) r.2⟩)
    (Cert.Reference5Ideal.Value.run (F := Ideal) m g)

/-- The frame of the step merge's reference, on finite rows. -/
theorem frame_reference5Ideal_finite : Cert.quiescent_Reference5Ideal_pre_finite_sample (hReference5Ideal := Cert.Reference5Ideal.Gen.facts)
    (hPre_finite_sample := Cert.Pre_finite_sample.Gen.facts) := fun m g _ =>
  (θ_run _ _ _).mono (fun r h => ⟨fun c => (h c).2.2, sem_eq_zero_of_no_sems (by decide) r.2⟩)
    (Cert.Reference5Ideal.Value.run (F := Ideal) m g)

/-- The step merge's two results are the reference's over the extended reals, on finite rows. -/
theorem algebraic5 : Cert.algebraic_Kernel5Ideal_Reference5Ideal_pre_finite_sample (hKernel5Ideal := Cert.Kernel5Ideal.Gen.facts)
    (hReference5Ideal := Cert.Reference5Ideal.Gen.facts) (hPre_finite_sample := Cert.Pre_finite_sample.Gen.facts) := by
  pair_intro
  · run_from Cert.Kernel5Ideal.Value.run_blocks m g
  · run_from Cert.Reference5Ideal.Value.run m' g'
    · obtain ⟨h0, h1, h2, h3, h4, h5, h6, h7, h8, h9, h10, h11, h12, h13, h14, h15⟩ := hagree c
      have hf := Cert.Kernel5Ideal.Step.finite_entries _ _ _ _ _ _ _ _ _ _ _ _ _ _ _ _ (hpre c)
      refine Eq.trans ?_ (Cert.Kernel5Ideal.Step.final_xs m c hf.1 hf.2.1 hf.2.2).symm
      refine (Cert.Reference5Ideal.Step.res_eq m' c).trans ?_
      rw [h0, h1, h2, h3, h4, h5, h6, h7, h8, h9, h10, h11, h12, h13, h14, h15]
      rfl
    · exact (Cert.Kernel5Ideal.Step.final_vn m c (Cert.Kernel5Ideal.Step.finite_entries _ _ _ _ _ _ _ _ _ _ _ _ _ _ _ _ (hpre c)).2.2).symm

/-- The printed window update's frame. -/
theorem frame_kernel6 : Cert.quiescent_Kernel6 (hKernel6 := Cert.Kernel6.Gen.facts) := fun m ρ _ =>
  Cert.Kernel6.Gen.frame m ρ

/-- The idealized window update's frame. -/
theorem frame_kernel6Ideal : Cert.quiescent_Kernel6Ideal (hKernel6Ideal := Cert.Kernel6Ideal.Gen.facts) := fun m ρ _ =>
  Cert.Kernel6Ideal.Gen.frame m ρ

/-- The frame of the window update's reference. -/
theorem frame_reference6Ideal : Cert.quiescent_Reference6Ideal (hReference6Ideal := Cert.Reference6Ideal.Gen.facts) := fun m g _ =>
  (θ_run _ _ _).mono (fun r h => ⟨fun c => (h c).2, sem_eq_zero_of_no_sems (by decide) r.2⟩)
    (Cert.Reference6Ideal.Value.run (F := Ideal) m g)

/-- The window update's result is the reference's over the extended reals. -/
theorem algebraic6 : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    · exact (Cert.Kernel6Ideal.Win.final m c).symm

/-- The printed compressing call's frame. -/
theorem frame_kernel7 : Cert.quiescent_Kernel7 (hKernel7 := Cert.Kernel7.Gen.facts) := fun m ρ _ =>
  Cert.Kernel7.Gen.frame m ρ

/-- The idealized compressing call's frame. -/
theorem frame_kernel7Ideal : Cert.quiescent_Kernel7Ideal (hKernel7Ideal := Cert.Kernel7Ideal.Gen.facts) := fun m ρ _ =>
  Cert.Kernel7Ideal.Gen.frame m ρ

/-- The frame of the compression's reference. -/
theorem frame_reference7Ideal : Cert.quiescent_Reference7Ideal (hReference7Ideal := Cert.Reference7Ideal.Gen.facts) := fun m g _ =>
  (θ_run _ _ _).mono (fun r h => ⟨fun c => (h c).2, sem_eq_zero_of_no_sems (by decide) r.2⟩)
    (Cert.Reference7Ideal.Value.run (F := Ideal) m g)

/-- The compressed blocks are the reference's over the extended reals. -/
theorem algebraic7 : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    · exact (Cert.Kernel7Ideal.Comp.final m c).symm

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    Cert.Pre_finite.Gen.facts, Cert.Pre_finite_sample.Gen.facts,
    frame_kernel, frame_kernelIdeal, frame_kernel2, frame_kernel2Ideal,
    frame_reference2Ideal, frame_kernel3, frame_kernel3Ideal, frame_kernel3Ideal_finite, frame_reference3Ideal, frame_reference3Ideal_finite,
    frame_kernel4, frame_kernel4Ideal, frame_reference4Ideal, frame_kernel5, frame_kernel5Ideal, frame_kernel5Ideal_finite, frame_reference5Ideal, frame_reference5Ideal_finite,
    frame_kernel6, frame_kernel6Ideal, frame_reference6Ideal,
    frame_kernel7, frame_kernel7Ideal, frame_reference7Ideal,
    trivial, trivial, algebraic2, trivial, algebraic3, trivial, algebraic4, trivial, algebraic5, trivial, algebraic6, trivial, algebraic7⟩

end Cert.Proof

end
